-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_anchors_wide_labels_known [hPre_anchors_wide_labels_known : Cert.Pre_anchors_wide_labels_known.Facts] (m : (ℓ : Loc Cert.KernelIdeal.nD Cert.KernelIdeal.τ Cert.KernelIdeal.sig) → Buf (Elt Ideal) ℓ) : Prop :=
  ∀ c : Dev Cert.KernelIdeal.nD,
    (Cert.Pre_anchors_wide_labels_known.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_anchors_wide_labels_known [hPre_anchors_wide_labels_known : Cert.Pre_anchors_wide_labels_known.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_anchors_wide_labels_known.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_anchors_wide_labels_known [hKernelIdeal : Cert.KernelIdeal.Facts] [hPre_anchors_wide_labels_known : Cert.Pre_anchors_wide_labels_known.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_anchors_wide_labels_known m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_anchors_wide_labels_known [hReferenceIdeal : Cert.ReferenceIdeal.Facts] [hPre_anchors_wide_labels_known : Cert.Pre_anchors_wide_labels_known.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_anchors_wide_labels_known m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_anchors_wide_labels_known [hKernelIdeal : Cert.KernelIdeal.Facts] [hReferenceIdeal : Cert.ReferenceIdeal.Facts] [hPre_anchors_wide_labels_known : Cert.Pre_anchors_wide_labels_known.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_anchors_wide_labels_known m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_v227) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_anchors_wide_labels_known : Cert.Pre_anchors_wide_labels_known.Facts),
    quiescent_Kernel (hKernel := hKernel)
    ∧ quiescent_KernelIdeal (hKernelIdeal := hKernelIdeal)
    ∧ quiescent_KernelIdeal_pre_anchors_wide_labels_known (hKernelIdeal := hKernelIdeal) (hPre_anchors_wide_labels_known := hPre_anchors_wide_labels_known)
    ∧ quiescent_ReferenceIdeal (hReferenceIdeal := hReferenceIdeal)
    ∧ quiescent_ReferenceIdeal_pre_anchors_wide_labels_known (hReferenceIdeal := hReferenceIdeal) (hPre_anchors_wide_labels_known := hPre_anchors_wide_labels_known)
    ∧ preserves_Kernel_KernelIdeal
    ∧ algebraic_KernelIdeal_ReferenceIdeal_pre_anchors_wide_labels_known (hKernelIdeal := hKernelIdeal) (hReferenceIdeal := hReferenceIdeal) (hPre_anchors_wide_labels_known := hPre_anchors_wide_labels_known)
-- ==== Pre_anchors_wide_labels_known.lean ====
abbrev S4x20000x80 : Shape := ⟨3, ![4, 20000, 80]⟩
abbrev S4x20000x4 : Shape := ⟨3, ![4, 20000, 4]⟩
abbrev S1x20000x4 : Shape := ⟨3, ![1, 20000, 4]⟩
abbrev S4x32x5 : Shape := ⟨3, ![4, 32, 5]⟩
abbrev S1x20000x1 : Shape := ⟨3, ![1, 20000, 1]⟩
abbrev S20000 : Shape := ⟨1, ![20000]⟩
abbrev S_ : Shape := ⟨0, ![]⟩
abbrev S4x32x1 : Shape := ⟨3, ![4, 32, 1]⟩
abbrev S4x32 : Shape := ⟨2, ![4, 32]⟩
abbrev S1x1x20000 : Shape := ⟨3, ![1, 1, 20000]⟩
abbrev S4x32x20000 : Shape := ⟨3, ![4, 32, 20000]⟩

class Facts : Prop where
  slices_S1x20000x4_S1x20000x1_0_0_2 : S1x20000x4.Slices ![0, 0, 2] S1x20000x1
  shapeCasts_S1x20000x1_S20000 : S1x20000x1.ShapeCasts S20000
  slices_S1x20000x4_S1x20000x1_0_0_0 : S1x20000x4.Slices ![0, 0, 0] S1x20000x1
  slices_S1x20000x4_S1x20000x1_0_0_3 : S1x20000x4.Slices ![0, 0, 3] S1x20000x1
  slices_S1x20000x4_S1x20000x1_0_0_1 : S1x20000x4.Slices ![0, 0, 1] S1x20000x1
  bcast_S_S20000 : S_.BroadcastsInDim S20000 (![] : Fin 0 → Fin S20000.rank)
  slices_S4x32x5_S4x32x1_0_0_4 : S4x32x5.Slices ![0, 0, 4] S4x32x1
  shapeCasts_S4x32x1_S4x32 : S4x32x1.ShapeCasts S4x32
  bcast_S_S4x32 : S_.BroadcastsInDim S4x32 (![] : Fin 0 → Fin S4x32.rank)
  bcast_S4x32_S4x32x1_0_1 : S4x32.BroadcastsInDim S4x32x1 (![0, 1] : Fin 2 → Fin S4x32x1.rank)
  bcast_S20000_S1x1x20000_2 : S20000.BroadcastsInDim S1x1x20000 (![2] : Fin 1 → Fin S1x1x20000.rank)
  bcast_S4x32x1_S4x32x20000_0_1_2 : S4x32x1.BroadcastsInDim S4x32x20000 (![0, 1, 2] : Fin 3 → Fin S4x32x20000.rank)
  bcast_S1x1x20000_S4x32x20000_0_1_2 : S1x1x20000.BroadcastsInDim S4x32x20000 (![0, 1, 2] : Fin 3 → Fin S4x32x20000.rank)

variable [Facts]

def fn_part1 {F : FTy → Type} [FloatOps F] (main_v14 : IVec S20000 1) (main_v17 : IVec S4x32 32) (main_v19 : IVec S4x32 1) (main_c_1 : IVec S_ 32) : IVec S4x32x20000 1 :=
  let main_v20 : IVec S4x32 32 := broadcastInDim S4x32 ![] bcast_S_S4x32 main_c_1
  let main_v21 : IVec S4x32 1 := cmpi .slt main_v17 main_v20
  let main_v22 : IVec S4x32 1 := andi main_v19 main_v21
  let main_v23 : IVec S4x32x1 1 := broadcastInDim S4x32x1 ![0, 1] bcast_S4x32_S4x32x1_0_1 main_v22
  let main_v24 : IVec S1x1x20000 1 := broadcastInDim S1x1x20000 ![2] bcast_S20000_S1x1x20000_2 main_v14
  let main_v25 : IVec S4x32x20000 1 := broadcastInDim S4x32x20000 ![0, 1, 2] bcast_S4x32x1_S4x32x20000_0_1_2 main_v23
  let main_v26 : IVec S4x32x20000 1 := broadcastInDim S4x32x20000 ![0, 1, 2] bcast_S1x1x20000_S4x32x20000_0_1_2 main_v24
  let main_v27 : IVec S4x32x20000 1 := andi main_v25 main_v26
  main_v27

def fn {F : FTy → Type} [FloatOps F] (main_arg0 : FVec F S4x20000x80 .f32) (main_arg1 : FVec F S4x20000x4 .f32) (main_arg2 : FVec F S1x20000x4 .f32) (main_arg3 : FVec F S4x32x5 .f32) : IVec S4x32x20000 1 :=
  let main_v0 : FVec F S1x20000x1 .f32 := (extractStridedSlice S1x20000x1 ![0, 0, 2] · slices_S1x20000x4_S1x20000x1_0_0_2) main_arg2
  let main_v1 : FVec F S20000 .f32 := shapeCast S20000 main_v0 shapeCasts_S1x20000x1_S20000
  let main_v2 : FVec F S1x20000x1 .f32 := (extractStridedSlice S1x20000x1 ![0, 0, 0] · slices_S1x20000x4_S1x20000x1_0_0_0) main_arg2
  let main_v3 : FVec F S20000 .f32 := shapeCast S20000 main_v2 shapeCasts_S1x20000x1_S20000
  let main_v4 : FVec F S20000 .f32 := subf main_v1 main_v3
  let main_v5 : FVec F S1x20000x1 .f32 := (extractStridedSlice S1x20000x1 ![0, 0, 3] · slices_S1x20000x4_S1x20000x1_0_0_3) main_arg2
  let main_v6 : FVec F S20000 .f32 := shapeCast S20000 main_v5 shapeCasts_S1x20000x1_S20000
  let main_v7 : FVec F S1x20000x1 .f32 := (extractStridedSlice S1x20000x1 ![0, 0, 1] · slices_S1x20000x4_S1x20000x1_0_0_1) main_arg2
  let main_v8 : FVec F S20000 .f32 := shapeCast S20000 main_v7 shapeCasts_S1x20000x1_S20000
  let main_v9 : FVec F S20000 .f32 := subf main_v6 main_v8
  let main_cst : FVec F S_ .f32 := constant S_ .f32 0x3A83126F#32
  let main_v10 : FVec F S20000 .f32 := broadcastInDim S20000 ![] bcast_S_S20000 main_cst
  let main_v11 : IVec S20000 1 := cmpf .oge main_v4 main_v10
  let main_cst_0 : FVec F S_ .f32 := constant S_ .f32 0x3A83126F#32
  let main_v12 : FVec F S20000 .f32 := broadcastInDim S20000 ![] bcast_S_S20000 main_cst_0
  let main_v13 : IVec S20000 1 := cmpf .oge main_v9 main_v12
  let main_v14 : IVec S20000 1 := andi main_v11 main_v13
  let main_v15 : FVec F S4x32x1 .f32 := (extractStridedSlice S4x32x1 ![0, 0, 4] · slices_S4x32x5_S4x32x1_0_0_4) main_arg3
  let main_v16 : FVec F S4x32 .f32 := shapeCast S4x32 main_v15 shapeCasts_S4x32x1_S4x32
  let main_v17 : IVec S4x32 32 := fptosi 32 main_v16
  let main_c : IVec S_ 32 := constantI S_ 32 0#32
  let main_v18 : IVec S4x32 32 := broadcastInDim S4x32 ![] bcast_S_S4x32 main_c
  let main_v19 : IVec S4x32 1 := cmpi .sge main_v17 main_v18
  let main_c_1 : IVec S_ 32 := constantI S_ 32 80#32
  fn_part1 (F := F) main_v14 main_v17 main_v19 main_c_1
-- ==== Kernel.lean ====
abbrev S4x20000x80 : Shape := ⟨3, ![4, 20000, 80]⟩
abbrev S4x20000x4 : Shape := ⟨3, ![4, 20000, 4]⟩
abbrev S1x20000x4 : Shape := ⟨3, ![1, 20000, 4]⟩
abbrev S4x32x5 : Shape := ⟨3, ![4, 32, 5]⟩
abbrev S4x80x20000 : Shape := ⟨3, ![4, 80, 20000]⟩
abbrev S4x4x20000 : Shape := ⟨3, ![4, 4, 20000]⟩
abbrev S20000x4 : Shape := ⟨2, ![20000, 4]⟩
abbrev S4x20000 : Shape := ⟨2, ![4, 20000]⟩
abbrev S_ : Shape := ⟨0, ![]⟩
abbrev S1 : Shape := ⟨1, ![1]⟩
abbrev S4x1x4 : Shape := ⟨3, ![4, 1, 4]⟩
abbrev S4x1x1 : Shape := ⟨3, ![4, 1, 1]⟩
abbrev S4 : Shape := ⟨1, ![4]⟩
abbrev S1x80x20480 : Shape := ⟨3, ![1, 80, 20480]⟩
abbrev S1x4x20480 : Shape := ⟨3, ![1, 4, 20480]⟩
abbrev S4x20480 : Shape := ⟨2, ![4, 20480]⟩
abbrev S1x32x5 : Shape := ⟨3, ![1, 32, 5]⟩
abbrev S1x1x4 : Shape := ⟨3, ![1, 1, 4]⟩
abbrev S80x20480 : Shape := ⟨2, ![80, 20480]⟩
abbrev S1x20480 : Shape := ⟨2, ![1, 20480]⟩
abbrev S32x5 : Shape := ⟨2, ![32, 5]⟩
abbrev S32x1 : Shape := ⟨2, ![32, 1]⟩
abbrev S32x20480 : Shape := ⟨2, ![32, 20480]⟩
abbrev S20480 : Shape := ⟨1, ![20480]⟩
abbrev S1x1x20480 : Shape := ⟨3, ![1, 1, 20480]⟩
abbrev S1x1x1 : Shape := ⟨3, ![1, 1, 1]⟩
abbrev S1x80 : Shape := ⟨2, ![1, 80]⟩

abbrev nBuf : Space → Nat
  | .hbm => 38
  | .vmem => 7
  | .smem => 3
  | _ => 0

abbrev bufTy : (tb : Table) → Fin (tcTables nBuf tb) → BufTy
  | .hbm, ⟨0, _⟩ => ⟨S4x20000x80, .f32⟩
  | .hbm, ⟨1, _⟩ => ⟨S4x20000x4, .f32⟩
  | .hbm, ⟨2, _⟩ => ⟨S1x20000x4, .f32⟩
  | .hbm, ⟨3, _⟩ => ⟨S4x32x5, .f32⟩
  | .hbm, ⟨4, _⟩ => ⟨S4x80x20000, .f32⟩
  | .hbm, ⟨5, _⟩ => ⟨S4x4x20000, .f32⟩
  | .hbm, ⟨6, _⟩ => ⟨S20000x4, .f32⟩
  | .hbm, ⟨7, _⟩ => ⟨S4x20000, .f32⟩
  | .hbm, ⟨8, _⟩ => ⟨S_, .i32⟩
  | .hbm, ⟨9, _⟩ => ⟨S1, .i32⟩
  | .hbm, ⟨10, _⟩ => ⟨S4x1x4, .f32⟩
  | .hbm, ⟨11, _⟩ => ⟨S4x1x1, .f32⟩
  | .hbm, ⟨12, _⟩ => ⟨S4, .f32⟩
  | .hbm, ⟨13, _⟩ => ⟨S4x1x1, .f32⟩
  | .hbm, ⟨14, _⟩ => ⟨S4, .f32⟩
  | .hbm, ⟨15, _⟩ => ⟨S4x1x1, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .local _ .vmem, ⟨0, _⟩ => ⟨S1x80x20480, .f32⟩
  | .local _ .vmem, ⟨1, _⟩ => ⟨S1x80x20480, .f32⟩
  | .local _ .vmem, ⟨2, _⟩ => ⟨S1x4x20480, .f32⟩
  | .local _ .vmem, ⟨3, _⟩ => ⟨S1x4x20480, .f32⟩
  | .local _ .vmem, ⟨4, _⟩ => ⟨S4x20480, .f32⟩
  | .local _ .vmem, ⟨5, _⟩ => ⟨S1x32x5, .f32⟩
  | .local _ .vmem, ⟨6, _⟩ => ⟨S1x32x5, .f32⟩
  | .local _ .smem, ⟨0, _⟩ => ⟨S1, .i32⟩
  | .local _ .smem, ⟨1, _⟩ => ⟨S1x1x4, .f32⟩
  | .local _ .smem, ⟨2, _⟩ => ⟨S1x1x4, .f32⟩
  | _, _ => ⟨S4x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_c : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_cst : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_cst_0 : Ref sig .tc := ⟨.hbm, 21, rfl⟩
abbrev main_call0_v15 : Ref sig .tc := ⟨.hbm, 22, rfl⟩
abbrev main_call0_cst_1 : Ref sig .tc := ⟨.hbm, 23, rfl⟩
abbrev main_call0_v16 : Ref sig .tc := ⟨.hbm, 24, rfl⟩
abbrev main_v0_0 : Ref sig .tc := ⟨.hbm, 25, rfl⟩
abbrev main_call0_cst_2 : Ref sig .tc := ⟨.hbm, 26, rfl⟩
abbrev main_call0_v18 : Ref sig .tc := ⟨.hbm, 27, rfl⟩
abbrev main_call0_v19 : Ref sig .tc := ⟨.hbm, 28, rfl⟩
abbrev main_call0_cst_3 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_cst_4 : Ref sig .tc := ⟨.hbm, 33, rfl⟩
abbrev main_call0_v23 : Ref sig .tc := ⟨.hbm, 34, rfl⟩
abbrev main_call0_cst_5 : Ref sig .tc := ⟨.hbm, 35, rfl⟩
abbrev main_call0_v24 : Ref sig .tc := ⟨.hbm, 36, rfl⟩
abbrev main_v0_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.smem, 0, rfl⟩
abbrev cc0_stg5_0 : Ref sig .tc := ⟨.smem, 1, rfl⟩
abbrev cc0_stg5_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x20480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x20480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x32x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .smem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x20000x80 : Shape := ⟨3, ![4, 20000, 80]⟩
abbrev S4x20000x4 : Shape := ⟨3, ![4, 20000, 4]⟩
abbrev S1x20000x4 : Shape := ⟨3, ![1, 20000, 4]⟩
abbrev S4x32x5 : Shape := ⟨3, ![4, 32, 5]⟩
abbrev S1x4 : Shape := ⟨2, ![1, 4]⟩
abbrev S20000x4 : Shape := ⟨2, ![20000, 4]⟩
abbrev S20000x1 : Shape := ⟨2, ![20000, 1]⟩
abbrev S20000 : Shape := ⟨1, ![20000]⟩
abbrev S_ : Shape := ⟨0, ![]⟩
abbrev S4x32x4 : Shape := ⟨3, ![4, 32, 4]⟩
abbrev S4x32x1 : Shape := ⟨3, ![4, 32, 1]⟩
abbrev S4x32 : Shape := ⟨2, ![4, 32]⟩
abbrev S4x1x32 : Shape := ⟨3, ![4, 1, 32]⟩
abbrev S1x20000x1 : Shape := ⟨3, ![1, 20000, 1]⟩
abbrev S4x20000x32 : Shape := ⟨3, ![4, 20000, 32]⟩
abbrev S4x20000 : Shape := ⟨2, ![4, 20000]⟩
abbrev S4x20000x1 : Shape := ⟨3, ![4, 20000, 1]⟩
abbrev S4x20000x5 : Shape := ⟨3, ![4, 20000, 5]⟩
abbrev S1x80 : Shape := ⟨2, ![1, 80]⟩
abbrev S1x1x80 : Shape := ⟨3, ![1, 1, 80]⟩
abbrev S4 : Shape := ⟨1, ![4]⟩
abbrev S20000x80 : Shape := ⟨2, ![20000, 80]⟩
abbrev S1x20000 : Shape := ⟨2, ![1, 20000]⟩
abbrev S1x1x4 : Shape := ⟨3, ![1, 1, 4]⟩
abbrev S1 : Shape := ⟨1, ![1]⟩

abbrev nBuf : Space → Nat
  | .hbm => 303
  | .vmem => 0
  | .smem => 0
  | _ => 0

abbrev hbmTy0_0 (i : Nat) : BufTy := match i % 128 with
  | 0 => ⟨S4x20000x80, .f32⟩
  | 1 => ⟨S4x20000x4, .f32⟩
  | 2 => ⟨S1x20000x4, .f32⟩
  | 3 => ⟨S4x32x5, .f32⟩
  | 4 => ⟨S1x4, .f32⟩
  | 5 => ⟨S20000x4, .f32⟩
  | 6 => ⟨S20000x1, .f32⟩
  | 7 => ⟨S20000, .f32⟩
  | 8 => ⟨S20000x1, .f32⟩
  | 9 => ⟨S20000, .f32⟩
  | 10 => ⟨S20000, .f32⟩
  | 11 => ⟨S20000x1, .f32⟩
  | 12 => ⟨S20000, .f32⟩
  | 13 => ⟨S20000x1, .f32⟩
  | 14 => ⟨S20000, .f32⟩
  | 15 => ⟨S20000, .f32⟩
  | 16 => ⟨S20000x1, .f32⟩
  | 17 => ⟨S20000, .f32⟩
  | 18 => ⟨S_, .f32⟩
  | 19 => ⟨S20000, .f32⟩
  | 20 => ⟨S20000, .f32⟩
  | 21 => ⟨S20000, .f32⟩
  | 22 => ⟨S20000x1, .f32⟩
  | 23 => ⟨S20000, .f32⟩
  | 24 => ⟨S_, .f32⟩
  | 25 => ⟨S20000, .f32⟩
  | 26 => ⟨S20000, .f32⟩
  | 27 => ⟨S20000, .f32⟩
  | 28 => ⟨S_, .f32⟩
  | 29 => ⟨S_, .f32⟩
  | 30 => ⟨S_, .f32⟩
  | 31 => ⟨S4x20000x80, .f32⟩
  | 32 => ⟨S4x20000x80, .f32⟩
  | 33 => ⟨S_, .f32⟩
  | 34 => ⟨S4x20000x80, .f32⟩
  | 35 => ⟨S4x20000x80, .f32⟩
  | 36 => ⟨S4x32x4, .f32⟩
  | 37 => ⟨S20000x1, .f32⟩
  | 38 => ⟨S20000, .f32⟩
  | 39 => ⟨S20000x1, .f32⟩
  | 40 => ⟨S20000, .f32⟩
  | 41 => ⟨S20000, .f32⟩
  | 42 => ⟨S20000x1, .f32⟩
  | 43 => ⟨S20000, .f32⟩
  | 44 => ⟨S20000x1, .f32⟩
  | 45 => ⟨S20000, .f32⟩
  | 46 => ⟨S20000, .f32⟩
  | 47 => ⟨S20000, .f32⟩
  | 48 => ⟨S20000x1, .f32⟩
  | 49 => ⟨S4x32x1, .f32⟩
  | 50 => ⟨S4x32, .f32⟩
  | 51 => ⟨S4x32x1, .f32⟩
  | 52 => ⟨S4x32, .f32⟩
  | 53 => ⟨S4x32, .f32⟩
  | 54 => ⟨S4x32x1, .f32⟩
  | 55 => ⟨S4x32, .f32⟩
  | 56 => ⟨S4x32x1, .f32⟩
  | 57 => ⟨S4x32, .f32⟩
  | 58 => ⟨S4x32, .f32⟩
  | 59 => ⟨S4x32, .f32⟩
  | 60 => ⟨S20000x1, .f32⟩
  | 61 => ⟨S4x32x1, .f32⟩
  | 62 => ⟨S4x32, .f32⟩
  | 63 => ⟨S4x1x32, .f32⟩
  | 64 => ⟨S1x20000x1, .f32⟩
  | 65 => ⟨S4x20000x32, .f32⟩
  | 66 => ⟨S4x20000x32, .f32⟩
  | 67 => ⟨S4x20000x32, .f32⟩
  | 68 => ⟨S20000x1, .f32⟩
  | 69 => ⟨S4x32x1, .f32⟩
  | 70 => ⟨S4x32, .f32⟩
  | 71 => ⟨S4x1x32, .f32⟩
  | 72 => ⟨S1x20000x1, .f32⟩
  | 73 => ⟨S4x20000x32, .f32⟩
  | 74 => ⟨S4x20000x32, .f32⟩
  | 75 => ⟨S4x20000x32, .f32⟩
  | 76 => ⟨S4x20000x32, .f32⟩
  | 77 => ⟨S20000x1, .f32⟩
  | 78 => ⟨S4x32x1, .f32⟩
  | 79 => ⟨S4x32, .f32⟩
  | 80 => ⟨S4x1x32, .f32⟩
  | 81 => ⟨S1x20000x1, .f32⟩
  | 82 => ⟨S4x20000x32, .f32⟩
  | 83 => ⟨S4x20000x32, .f32⟩
  | 84 => ⟨S4x20000x32, .f32⟩
  | 85 => ⟨S20000x1, .f32⟩
  | 86 => ⟨S4x32x1, .f32⟩
  | 87 => ⟨S4x32, .f32⟩
  | 88 => ⟨S4x1x32, .f32⟩
  | 89 => ⟨S1x20000x1, .f32⟩
  | 90 => ⟨S4x20000x32, .f32⟩
  | 91 => ⟨S4x20000x32, .f32⟩
  | 92 => ⟨S4x20000x32, .f32⟩
  | 93 => ⟨S4x20000x32, .f32⟩
  | 94 => ⟨S_, .f32⟩
  | 95 => ⟨S4x20000x32, .f32⟩
  | 96 => ⟨S4x20000x32, .f32⟩
  | 97 => ⟨S_, .f32⟩
  | 98 => ⟨S4x20000x32, .f32⟩
  | 99 => ⟨S4x20000x32, .f32⟩
  | 100 => ⟨S4x20000x32, .f32⟩
  | 101 => ⟨S4x1x32, .f32⟩
  | 102 => ⟨S1x20000x1, .f32⟩
  | 103 => ⟨S4x20000x32, .f32⟩
  | 104 => ⟨S4x20000x32, .f32⟩
  | 105 => ⟨S4x20000x32, .f32⟩
  | 106 => ⟨S4x20000x32, .f32⟩
  | 107 => ⟨S_, .f32⟩
  | 108 => ⟨S4x20000x32, .f32⟩
  | 109 => ⟨S4x20000x32, .f32⟩
  | 110 => ⟨S4x20000x32, .f32⟩
  | 111 => ⟨S_, .f32⟩
  | 112 => ⟨S4x20000, .f32⟩
  | 113 => ⟨S4x20000x32, .i32⟩
  | 114 => ⟨S_, .f32⟩
  | 115 => ⟨S_, .i32⟩
  | 116 => ⟨S4x20000, .f32⟩
  | 117 => ⟨S4x20000, .i32⟩
  | 118 => ⟨S_, .f32⟩
  | 119 => ⟨S4x20000, .f32⟩
  | 120 => ⟨S4x20000, .i1⟩
  | 121 => ⟨S_, .f32⟩
  | 122 => ⟨S4x20000, .f32⟩
  | 123 => ⟨S4x20000, .i1⟩
  | 124 => ⟨S_, .i32⟩
  | 125 => ⟨S4x20000, .i32⟩
  | 126 => ⟨S4x20000, .i1⟩
  | 127 => ⟨S_, .i32⟩
  | _ => ⟨S4x20000x80, .f32⟩

abbrev hbmTy0_1 (i : Nat) : BufTy := match i % 128 with
  | 0 => ⟨S4x20000, .i32⟩
  | 1 => ⟨S4x20000, .i32⟩
  | 2 => ⟨S4x20000, .i32⟩
  | 3 => ⟨S4x20000x1, .i32⟩
  | 4 => ⟨S4x20000x5, .f32⟩
  | 5 => ⟨S4x20000x1, .f32⟩
  | 6 => ⟨S4x20000, .f32⟩
  | 7 => ⟨S4x20000, .i32⟩
  | 8 => ⟨S4x20000x1, .i32⟩
  | 9 => ⟨S1x80, .i32⟩
  | 10 => ⟨S1x1x80, .i32⟩
  | 11 => ⟨S4x20000x80, .i32⟩
  | 12 => ⟨S4x20000x80, .i32⟩
  | 13 => ⟨S4x20000x80, .i1⟩
  | 14 => ⟨S4x20000x80, .f32⟩
  | 15 => ⟨S4x20000x1, .i1⟩
  | 16 => ⟨S4x20000x1, .i1⟩
  | 17 => ⟨S_, .f32⟩
  | 18 => ⟨S_, .f32⟩
  | 19 => ⟨S20000x1, .f32⟩
  | 20 => ⟨S20000x1, .f32⟩
  | 21 => ⟨S4x20000x1, .f32⟩
  | 22 => ⟨S4x20000x1, .f32⟩
  | 23 => ⟨S4x20000x1, .f32⟩
  | 24 => ⟨S4x20000x1, .f32⟩
  | 25 => ⟨S4x20000x80, .i1⟩
  | 26 => ⟨S4x20000x80, .f32⟩
  | 27 => ⟨S4x20000x80, .f32⟩
  | 28 => ⟨S4x20000, .i32⟩
  | 29 => ⟨S_, .i32⟩
  | 30 => ⟨S4, .i32⟩
  | 31 => ⟨S4, .f32⟩
  | 32 => ⟨S_, .f32⟩
  | 33 => ⟨S4x20000x80, .f32⟩
  | 34 => ⟨S4x20000x80, .i1⟩
  | 35 => ⟨S_, .f32⟩
  | 36 => ⟨S_, .f32⟩
  | 37 => ⟨S20000x80, .f32⟩
  | 38 => ⟨S20000x80, .f32⟩
  | 39 => ⟨S4x20000x80, .f32⟩
  | 40 => ⟨S4x20000x80, .f32⟩
  | 41 => ⟨S4x20000x80, .f32⟩
  | 42 => ⟨S_, .f32⟩
  | 43 => ⟨S4x20000x80, .f32⟩
  | 44 => ⟨S4x20000x80, .i1⟩
  | 45 => ⟨S_, .f32⟩
  | 46 => ⟨S4x20000x80, .f32⟩
  | 47 => ⟨S4x20000x80, .f32⟩
  | 48 => ⟨S4x20000x80, .f32⟩
  | 49 => ⟨S_, .f32⟩
  | 50 => ⟨S4x20000x80, .f32⟩
  | 51 => ⟨S4x20000x80, .f32⟩
  | 52 => ⟨S4x20000x80, .f32⟩
  | 53 => ⟨S4x20000x80, .f32⟩
  | 54 => ⟨S4x20000x80, .f32⟩
  | 55 => ⟨S4x20000x80, .f32⟩
  | 56 => ⟨S_, .f32⟩
  | 57 => ⟨S4x20000x80, .f32⟩
  | 58 => ⟨S4x20000x80, .f32⟩
  | 59 => ⟨S_, .f32⟩
  | 60 => ⟨S4x20000x80, .f32⟩
  | 61 => ⟨S4x20000x80, .f32⟩
  | 62 => ⟨S4x20000x80, .f32⟩
  | 63 => ⟨S4x20000x80, .f32⟩
  | 64 => ⟨S4x20000x80, .f32⟩
  | 65 => ⟨S4x20000x80, .f32⟩
  | 66 => ⟨S_, .f32⟩
  | 67 => ⟨S4x20000x80, .f32⟩
  | 68 => ⟨S4x20000x80, .i1⟩
  | 69 => ⟨S4x20000x80, .f32⟩
  | 70 => ⟨S_, .f32⟩
  | 71 => ⟨S_, .f32⟩
  | 72 => ⟨S20000x80, .f32⟩
  | 73 => ⟨S4x20000x80, .f32⟩
  | 74 => ⟨S4x20000x80, .f32⟩
  | 75 => ⟨S4x20000x1, .f32⟩
  | 76 => ⟨S4x20000, .f32⟩
  | 77 => ⟨S4x20000x1, .f32⟩
  | 78 => ⟨S4x20000, .f32⟩
  | 79 => ⟨S4x20000, .f32⟩
  | 80 => ⟨S4x20000x1, .f32⟩
  | 81 => ⟨S4x20000, .f32⟩
  | 82 => ⟨S4x20000x1, .f32⟩
  | 83 => ⟨S4x20000, .f32⟩
  | 84 => ⟨S4x20000, .f32⟩
  | 85 => ⟨S4x20000x1, .f32⟩
  | 86 => ⟨S4x20000, .f32⟩
  | 87 => ⟨S_, .f32⟩
  | 88 => ⟨S4x20000, .f32⟩
  | 89 => ⟨S4x20000, .f32⟩
  | 90 => ⟨S4x20000, .f32⟩
  | 91 => ⟨S4x20000x1, .f32⟩
  | 92 => ⟨S4x20000, .f32⟩
  | 93 => ⟨S_, .f32⟩
  | 94 => ⟨S4x20000, .f32⟩
  | 95 => ⟨S4x20000, .f32⟩
  | 96 => ⟨S4x20000, .f32⟩
  | 97 => ⟨S_, .f32⟩
  | 98 => ⟨S4x20000, .f32⟩
  | 99 => ⟨S4x20000, .f32⟩
  | 100 => ⟨S_, .f32⟩
  | 101 => ⟨S4x20000, .f32⟩
  | 102 => ⟨S4x20000, .f32⟩
  | 103 => ⟨S1x20000, .f32⟩
  | 104 => ⟨S4x20000, .f32⟩
  | 105 => ⟨S4x20000, .f32⟩
  | 106 => ⟨S1x20000, .f32⟩
  | 107 => ⟨S4x20000, .f32⟩
  | 108 => ⟨S4x20000, .f32⟩
  | 109 => ⟨S1x20000, .f32⟩
  | 110 => ⟨S4x20000, .f32⟩
  | 111 => ⟨S4x20000, .f32⟩
  | 112 => ⟨S1x20000, .f32⟩
  | 113 => ⟨S4x20000, .f32⟩
  | 114 => ⟨S4x20000, .f32⟩
  | 115 => ⟨S1x20000, .f32⟩
  | 116 => ⟨S4x20000, .f32⟩
  | 117 => ⟨S4x20000, .f32⟩
  | 118 => ⟨S4x20000, .f32⟩
  | 119 => ⟨S1x20000, .f32⟩
  | 120 => ⟨S4x20000, .f32⟩
  | 121 => ⟨S4x20000, .f32⟩
  | 122 => ⟨S4x20000, .f32⟩
  | 123 => ⟨S4x20000x1, .f32⟩
  | 124 => ⟨S4x20000x1, .f32⟩
  | 125 => ⟨S4x20000x1, .f32⟩
  | 126 => ⟨S4x20000x1, .f32⟩
  | 127 => ⟨S4x20000x4, .f32⟩
  | _ => ⟨S4x20000x80, .f32⟩

abbrev hbmTy0_2 (i : Nat) : BufTy := match i % 128 with
  | 0 => ⟨S1x1x4, .f32⟩
  | 1 => ⟨S4x20000x4, .f32⟩
  | 2 => ⟨S4x20000x4, .f32⟩
  | 3 => ⟨S4x20000x4, .f32⟩
  | 4 => ⟨S4x20000x4, .f32⟩
  | 5 => ⟨S_, .f32⟩
  | 6 => ⟨S4x20000x4, .f32⟩
  | 7 => ⟨S4x20000x4, .i1⟩
  | 8 => ⟨S4x20000x4, .f32⟩
  | 9 => ⟨S_, .f32⟩
  | 10 => ⟨S4x20000x4, .f32⟩
  | 11 => ⟨S4x20000x4, .f32⟩
  | 12 => ⟨S_, .f32⟩
  | 13 => ⟨S4x20000x4, .f32⟩
  | 14 => ⟨S4x20000x4, .f32⟩
  | 15 => ⟨S4x20000x4, .f32⟩
  | 16 => ⟨S4x20000x1, .i1⟩
  | 17 => ⟨S4x20000x1, .f32⟩
  | 18 => ⟨S4x20000x4, .f32⟩
  | 19 => ⟨S4x20000x4, .f32⟩
  | 20 => ⟨S_, .f32⟩
  | 21 => ⟨S4, .f32⟩
  | 22 => ⟨S_, .f32⟩
  | 23 => ⟨S4, .f32⟩
  | 24 => ⟨S4, .f32⟩
  | 25 => ⟨S4, .f32⟩
  | 26 => ⟨S_, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4, .f32⟩
  | 35 => ⟨S_, .f32⟩
  | 36 => ⟨S_, .f32⟩
  | 37 => ⟨S1, .f32⟩
  | 38 => ⟨S_, .f32⟩
  | 39 => ⟨S1, .f32⟩
  | 40 => ⟨S1, .f32⟩
  | 41 => ⟨S_, .f32⟩
  | 42 => ⟨S_, .f32⟩
  | 43 => ⟨S1, .f32⟩
  | 44 => ⟨S_, .f32⟩
  | 45 => ⟨S1, .f32⟩
  | 46 => ⟨S1, .f32⟩
  | _ => ⟨S4x20000x80, .f32⟩

abbrev hbmTy (i : Nat) : BufTy := match i / 128 with
  | 0 => hbmTy0_0 i
  | 1 => hbmTy0_1 i
  | 2 => hbmTy0_2 i
  | _ => ⟨S4x20000x80, .f32⟩

abbrev bufTy : (tb : Table) → Fin (tcTables nBuf tb) → BufTy
  | .hbm, ⟨i, _⟩ => hbmTy i
  | _, _ => ⟨S4x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_4 : Ref sig .tc := ⟨.hbm, 94, rfl⟩
abbrev main_v80 : Ref sig .tc := ⟨.hbm, 95, rfl⟩
abbrev main_v81 : Ref sig .tc := ⟨.hbm, 96, rfl⟩
abbrev main_cst_5 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_6 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_7 : Ref sig .tc := ⟨.hbm, 111, rfl⟩
abbrev main_v94 : Ref sig .tc := ⟨.hbm, 112, rfl⟩
abbrev main_call1_v0 : Ref sig .tc := ⟨.hbm, 113, rfl⟩
abbrev main_call1_cst : Ref sig .tc := ⟨.hbm, 114, rfl⟩
abbrev main_call1_c : Ref sig .tc := ⟨.hbm, 115, rfl⟩
abbrev main_call1_v1_0 : Ref sig .tc := ⟨.hbm, 116, rfl⟩
abbrev main_v95 : Ref sig .tc := ⟨.hbm, 117, rfl⟩
abbrev main_cst_8 : Ref sig .tc := ⟨.hbm, 118, rfl⟩
abbrev main_v96 : Ref sig .tc := ⟨.hbm, 119, rfl⟩
abbrev main_v97 : Ref sig .tc := ⟨.hbm, 120, rfl⟩
abbrev main_cst_9 : Ref sig .tc := ⟨.hbm, 121, rfl⟩
abbrev main_v98 : Ref sig .tc := ⟨.hbm, 122, rfl⟩
abbrev main_v99 : Ref sig .tc := ⟨.hbm, 123, rfl⟩
abbrev main_c : Ref sig .tc := ⟨.hbm, 124, rfl⟩
abbrev main_v100 : Ref sig .tc := ⟨.hbm, 125, rfl⟩
abbrev main_v101 : Ref sig .tc := ⟨.hbm, 126, rfl⟩
abbrev main_c_10 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_11 : Ref sig .tc := ⟨.hbm, 145, rfl⟩
abbrev main_cst_12 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_call3_v3 : Ref sig .tc := ⟨.hbm, 150, rfl⟩
abbrev main_v113 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_v114 : Ref sig .tc := ⟨.hbm, 155, rfl⟩
abbrev main_v115 : Ref sig .tc := ⟨.hbm, 156, rfl⟩
abbrev main_c_13 : Ref sig .tc := ⟨.hbm, 157, rfl⟩
abbrev main_v116 : Ref sig .tc := ⟨.hbm, 158, rfl⟩
abbrev main_v117 : Ref sig .tc := ⟨.hbm, 159, rfl⟩
abbrev main_cst_14 : Ref sig .tc := ⟨.hbm, 160, rfl⟩
abbrev main_v118 : Ref sig .tc := ⟨.hbm, 161, rfl⟩
abbrev main_v119 : Ref sig .tc := ⟨.hbm, 162, rfl⟩
abbrev main_cst_15 : Ref sig .tc := ⟨.hbm, 163, rfl⟩
abbrev main_cst_16 : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_call5_v3 : Ref sig .tc := ⟨.hbm, 168, rfl⟩
abbrev main_v120 : Ref sig .tc := ⟨.hbm, 169, rfl⟩
abbrev main_cst_17 : Ref sig .tc := ⟨.hbm, 170, rfl⟩
abbrev main_v121 : Ref sig .tc := ⟨.hbm, 171, rfl⟩
abbrev main_v122 : Ref sig .tc := ⟨.hbm, 172, rfl⟩
abbrev main_cst_18 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_19 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_20 : Ref sig .tc := ⟨.hbm, 184, rfl⟩
abbrev main_v132 : Ref sig .tc := ⟨.hbm, 185, rfl⟩
abbrev main_v133 : Ref sig .tc := ⟨.hbm, 186, rfl⟩
abbrev main_cst_21 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_22 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_23 : Ref sig .tc := ⟨.hbm, 198, rfl⟩
abbrev main_call7_v0 : Ref sig .tc := ⟨.hbm, 199, rfl⟩
abbrev main_call7_v1 : Ref sig .tc := ⟨.hbm, 200, rfl⟩
abbrev main_call7_v2 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_24 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_25 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_26 : Ref sig .tc := ⟨.hbm, 225, rfl⟩
abbrev main_v164 : Ref sig .tc := ⟨.hbm, 226, rfl⟩
abbrev main_v165 : Ref sig .tc := ⟨.hbm, 227, rfl⟩
abbrev main_cst_27 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_cst_28 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_cst_29 : Ref sig .tc := ⟨.hbm, 265, rfl⟩
abbrev main_v201 : Ref sig .tc := ⟨.hbm, 266, rfl⟩
abbrev main_v202 : Ref sig .tc := ⟨.hbm, 267, rfl⟩
abbrev main_cst_30 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_cst_31 : Ref sig .tc := ⟨.hbm, 276, rfl⟩
abbrev main_v210 : Ref sig .tc := ⟨.hbm, 277, rfl⟩
abbrev main_cst_32 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_cst_33 : Ref sig .tc := ⟨.hbm, 282, rfl⟩
abbrev main_v214 : Ref sig .tc := ⟨.hbm, 283, rfl⟩
abbrev main_cst_34 : Ref sig .tc := ⟨.hbm, 284, rfl⟩
abbrev main_v215 : Ref sig .tc := ⟨.hbm, 285, rfl⟩
abbrev main_v216 : Ref sig .tc := ⟨.hbm, 286, rfl⟩
abbrev main_cst_35 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_cst_36 : Ref sig .tc := ⟨.hbm, 291, rfl⟩
abbrev main_v220 : Ref sig .tc := ⟨.hbm, 292, rfl⟩
abbrev main_v221 : Ref sig .tc := ⟨.hbm, 293, rfl⟩
abbrev main_cst_37 : Ref sig .tc := ⟨.hbm, 294, rfl⟩
abbrev main_v222 : Ref sig .tc := ⟨.hbm, 295, rfl⟩
abbrev main_v223 : Ref sig .tc := ⟨.hbm, 296, rfl⟩
abbrev main_cst_38 : Ref sig .tc := ⟨.hbm, 297, rfl⟩
abbrev main_v224 : Ref sig .tc := ⟨.hbm, 298, rfl⟩
abbrev main_v225 : Ref sig .tc := ⟨.hbm, 299, rfl⟩
abbrev main_cst_39 : Ref sig .tc := ⟨.hbm, 300, rfl⟩
abbrev main_v226 : Ref sig .tc := ⟨.hbm, 301, rfl⟩
abbrev main_v227 : Ref sig .tc := ⟨.hbm, 302, rfl⟩

abbrev nD : Nat := 1
abbrev τ : Topo := Topo.v7x

variable {F : FTy → Type} [FloatOps F]
-- ==== Proof.Run.KernelIdealBody.lean ====
/- The body of the focal-loss kernel at one grid point: what it computes from the blocks it loads, and that it leaves
   exactly that in the result's staging words (hand-written). -/
module

public import proofs.«01_k».proof.Proof.Gen.KernelIdeal.Skeleton
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.FrameSuffix
public import Idealize.ShloMosaic.Lib.Tactic
public import Idealize.ShloMosaic.Lib.Exec

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-! ## What the body computes -/

/-- The four rows of the anchors' block. -/
abbrev rowA (n : Nat) (h : ∀ a, (![n, 0] : Fin 2 → Nat) a + S1x20480.size a ≤ S4x20480.size a) : Rect S4x20480 :=
  Rect.unit (s := S4x20480) ![n, 0] S1x20480.size h
/-- The four rows of the regressions' block. -/
abbrev rowR (n : Nat) (h : ∀ a, (![0, n, 0] : Fin 3 → Nat) a + S1x1x20480.size a ≤ S1x4x20480.size a) : Rect S1x4x20480 :=
  Rect.unit (s := S1x4x20480) ![0, n, 0] S1x1x20480.size h
/-- The four words of the result's block. -/
abbrev word (n : Nat) (h : ∀ a, (![0, 0, n] : Fin 3 → Nat) a + S1x1x1.size a ≤ S1x1x4.size a) : Rect S1x1x4 :=
  Rect.unit (s := S1x1x4) ![0, 0, n] S1x1x1.size h

/-- The body's vectors, from the blocks' rows: the lanes inside the array, -/
def bValid (i : grid0.Coords) (n : Elt F .i32) : IVec S1x20480 1 := k0_pay4 i n
/-- the largest overlap of each lane's anchor, -/
def bMax (i : grid0.Coords) (n : Elt F .i32) (ann : Vec F S1x32x5 .f32) (a0 a1 a2 a3 : Vec F S1x20480 .f32) : FVec F S1x20480 .f32 :=
  k0_pay22 (k0_pay4 i n) (k0_pay7 ann) (k0_pay8 ann) (k0_pay9 ann) (k0_pay10 ann) (k0_pay11 i n a0) (k0_pay12 i n a1) (k0_pay13 i n a2) a3
/-- where the overlap is the largest, -/
def bTop (i : grid0.Coords) (n : Elt F .i32) (ann : Vec F S1x32x5 .f32) (a0 a1 a2 a3 : Vec F S1x20480 .f32) : IVec S32x20480 1 :=
  k0_pay23 (k0_pay4 i n) (k0_pay7 ann) (k0_pay8 ann) (k0_pay9 ann) (k0_pay10 ann) (k0_pay11 i n a0) (k0_pay12 i n a1) (k0_pay13 i n a2) a3
/-- the row numbers of the overlaps, -/
def bIota : IVec S32x20480 32 := iota .tc S32x20480 32 [0] iota_S32x20480_d0_w32
/-- the lanes whose anchor is matched, -/
def bPos (i : grid0.Coords) (n : Elt F .i32) (ann : Vec F S1x32x5 .f32) (a0 a1 a2 a3 : Vec F S1x20480 .f32) : IVec S1x20480 1 :=
  k0_pay29 (k0_pay4 i n) (bMax i n ann a0 a1 a2 a3)
/-- the probabilities, clipped, one half outside the array, -/
def bX (i : grid0.Coords) (n : Elt F .i32) (cls : Vec F S1x80x20480 .f32) : FVec F S80x20480 .f32 := k0_pay5 i cls n
/-- the matched boxes' corners. -/
def bPick (i : grid0.Coords) (n : Elt F .i32) (ann : Vec F S1x32x5 .f32) (a0 a1 a2 a3 : Vec F S1x20480 .f32) (k : Fin 4) : FVec F S1x20480 .f32 :=
  match k with
  | 0 => k0_pay25 (k0_pay7 ann) bIota (bTop i n ann a0 a1 a2 a3) 32#32
  | 1 => k0_pay26 (k0_pay8 ann) bIota (bTop i n ann a0 a1 a2 a3) 32#32
  | 2 => k0_pay27 (k0_pay9 ann) bIota (bTop i n ann a0 a1 a2 a3) 32#32
  | 3 => k0_pay28 (k0_pay10 ann) bIota (bTop i n ann a0 a1 a2 a3) 32#32
/-- The classification loss summed over the lanes. -/
def bCls (i : grid0.Coords) (n : Elt F .i32) (cls : Vec F S1x80x20480 .f32) (ann : Vec F S1x32x5 .f32) (a0 a1 a2 a3 : Vec F S1x20480 .f32) : F .f32 :=
  k0_pay37 (bPos i n ann a0 a1 a2 a3) (k0_pay30 (k0_pay4 i n) (bMax i n ann a0 a1 a2 a3))
    (k0_pay33 (bX i n cls) (k0_pay32 (bX i n cls)) (Scalar.ofBits .f32 0x3F400000#32))
    (k0_pay35 (bX i n cls) (k0_pay6 ann) (k0_pay24 bIota (bTop i n ann a0 a1 a2 a3) 32#32))
    (k0_pay36 (bX i n cls) (k0_pay6 ann) (k0_pay24 bIota (bTop i n ann a0 a1 a2 a3) 32#32))
/-- The number of matched anchors. -/
def bNpos (i : grid0.Coords) (n : Elt F .i32) (ann : Vec F S1x32x5 .f32) (a0 a1 a2 a3 : Vec F S1x20480 .f32) : F .f32 :=
  k0_pay31 (k0_pay4 i n) (bMax i n ann a0 a1 a2 a3)
/-- The regression loss summed over the lanes, added to a word. -/
def bReg (i : grid0.Coords) (n : Elt F .i32) (ann : Vec F S1x32x5 .f32) (a0 a1 a2 a3 : Vec F S1x20480 .f32)
    (r0 r1 r2 r3 : Vec F S1x1x20480 .f32) (w : Elt F .f32) : F .f32 :=
  let A := k0_pay17 (k0_pay11 i n a0) (k0_pay13 i n a2)
  let B := k0_pay18 (k0_pay4 i n) (k0_pay12 i n a1) a3
  let C := k0_pay19 (k0_pay11 i n a0) (k0_pay13 i n a2)
  let D := k0_pay20 (k0_pay4 i n) (k0_pay12 i n a1) a3
  let g := bPick i n ann a0 a1 a2 a3
  k0_pay2 (bPos i n ann a0 a1 a2 a3)
    (k0_pay46 (k0_pay40 B D (g 1) (g 3)) (k0_pay41 C (g 0) (g 2)) (k0_pay43 A C (g 0) (g 2) r0)
      (k0_pay44 A C (g 0) (g 2) r0) (k0_pay45 A C (g 0) (g 2) r0) r1 r2)
    (k0_pay47 (k0_pay42 D (g 1) (g 3)) r3) (k0_pay48 (k0_pay42 D (g 1) (g 3)) r3) (k0_pay49 (k0_pay42 D (g 1) (g 3)) r3)
    (Scalar.ofBits .f32 0x3D638E39#32) w

/-- The float zero word. -/
abbrev zw : F .f32 := Scalar.ofBits .f32 0x00000000#32

/-- What the body leaves in the result's four words, from the input windows' blocks. -/
def outw (i : grid0.Coords) (cls : Vec F S1x80x20480 .f32) (reg : Vec F S1x4x20480 .f32) (anc : Vec F S4x20480 .f32)
    (ann : Vec F S1x32x5 .f32) (nv : Vec F S1 .i32) : Vec F S1x1x4 .f32 := fun y =>
  let n := View.ld nv (Rect.unit (s := S1) ![0] S1.size inb_S1_S1_0) (Shape.Idx.first (by decide))
  let x := View.ld cls (Rect.unit (s := S1x80x20480) ![0, 0, 0] S1x80x20480.size inb_S1x80x20480_S1x80x20480_0_0_0)
  let t := View.ld ann (Rect.unit (s := S1x32x5) ![0, 0, 0] S1x32x5.size inb_S1x32x5_S1x32x5_0_0_0)
  let a0 := View.ld anc (rowA 0 inb_S4x20480_S1x20480_0_0)
  let a1 := View.ld anc (rowA 1 inb_S4x20480_S1x20480_1_0)
  let a2 := View.ld anc (rowA 2 inb_S4x20480_S1x20480_2_0)
  let a3 := View.ld anc (rowA 3 inb_S4x20480_S1x20480_3_0)
  if (y 2).val = 0 then k0_pay1 (bCls i n x t a0 a1 a2 a3) zw
  else if (y 2).val = 1 then bReg i n t a0 a1 a2 a3 (View.ld reg (rowR 0 inb_S1x4x20480_S1x1x20480_0_0_0))
    (View.ld reg (rowR 1 inb_S1x4x20480_S1x1x20480_0_1_0)) (View.ld reg (rowR 2 inb_S1x4x20480_S1x1x20480_0_2_0))
    (View.ld reg (rowR 3 inb_S1x4x20480_S1x1x20480_0_3_0)) zw
  else if (y 2).val = 2 then k0_pay3 (bNpos i n t a0 a1 a2 a3) zw
  else zw

/-- A list of writes whose payloads are all one value leaves that value wherever it covers. -/
theorem canon_const (z : Elt F .f32) (y : S1x1x4.Idx) : ∀ L : List (View.Piece (Elt F) S1x1x4 .f32),
    (∀ p ∈ L, ∀ x, p.2 x = z) → (∃ p ∈ L, y ∈ p.1.set) → View.canon L y = z
  | [], _, h => by obtain ⟨_, hm, _⟩ := h; exact absurd hm List.not_mem_nil
  | p :: L, hz, h => by
    by_cases hy : y ∈ p.1.set
    · obtain ⟨x, rfl⟩ : ∃ x, p.1.emb x = y := by
        rw [← Rect.map_emb_univ] at hy
        obtain ⟨x, -, hx⟩ := Finset.mem_map.mp hy
        exact ⟨x, hx⟩
      rw [View.canon_cons_emb]; exact hz p List.mem_cons_self x
    · rw [View.canon_cons_of_not_mem _ _ hy]
      refine canon_const z y L (fun q hq => hz q (List.mem_cons_of_mem _ hq)) ?_
      obtain ⟨q, hq, hyq⟩ := h
      rcases List.mem_cons.mp hq with rfl | hq
      · exact absurd hyq hy
      · exact ⟨q, hq, hyq⟩

/-- A word of the result's block is in the rectangle of its own number. -/
theorem mem_word (n : Nat) (h) (y : S1x1x4.Idx) : y ∈ (word n h).set ↔ (y 2).val = n := by
  rw [Rect.mem_set_unit]
  have h0 : (y 0).val < 1 := (y 0).isLt
  have h1 : (y 1).val < 1 := (y 1).isLt
  constructor
  · intro H
    have := H 2
    change n ≤ (y 2).val ∧ (y 2).val < n + 1 at this
    omega
  · intro H a
    fin_cases a
    · change 0 ≤ (y 0).val ∧ (y 0).val < 0 + 1; omega
    · change 0 ≤ (y 1).val ∧ (y 1).val < 0 + 1; omega
    · change n ≤ (y 2).val ∧ (y 2).val < n + 1; omega

/-- Every word is one of the four. -/
theorem word_cases (y : S1x1x4.Idx) : (y 2).val = 0 ∨ (y 2).val = 1 ∨ (y 2).val = 2 ∨ (y 2).val = 3 := by
  have h2 : (y 2).val < 4 := (y 2).isLt
  omega

/-- The four zero writes of the block's words. -/
abbrev zeros : List (View.Piece (Elt F) S1x1x4 .f32) :=
  [⟨word 3 inb_S1x1x4_S1x1x1_0_0_3, fun _ => (zw : F .f32)⟩, ⟨word 2 inb_S1x1x4_S1x1x1_0_0_2, fun _ => (zw : F .f32)⟩,
    ⟨word 1 inb_S1x1x4_S1x1x1_0_0_1, fun _ => (zw : F .f32)⟩, ⟨word 0 inb_S1x1x4_S1x1x1_0_0_0, fun _ => (zw : F .f32)⟩]

/-- They cover the block. -/
theorem zeros_cover (y : S1x1x4.Idx) : ∃ p ∈ (zeros : List (View.Piece (Elt F) S1x1x4 .f32)), y ∈ p.1.set := by
  rcases word_cases y with h | h | h | h
  · exact ⟨_, List.mem_cons_of_mem _ (List.mem_cons_of_mem _ (List.mem_cons_of_mem _ List.mem_cons_self)), (mem_word 0 inb_S1x1x4_S1x1x1_0_0_0 y).mpr h⟩
  · exact ⟨_, List.mem_cons_of_mem _ (List.mem_cons_of_mem _ List.mem_cons_self), (mem_word 1 inb_S1x1x4_S1x1x1_0_0_1 y).mpr h⟩
  · exact ⟨_, List.mem_cons_of_mem _ List.mem_cons_self, (mem_word 2 inb_S1x1x4_S1x1x1_0_0_2 y).mpr h⟩
  · exact ⟨_, List.mem_cons_self, (mem_word 3 inb_S1x1x4_S1x1x1_0_0_3 y).mpr h⟩

/-- They leave zero at every word. -/
theorem zeroed {sp : Space} (v : View sig .tc sp S1x1x4 .f32) (f : v.ty.Contents (Elt F)) (y : S1x1x4.Idx) :
    v.read (Elt F) (v.writes (Elt F) f zeros) y = (zw : F .f32) := by
  rw [View.read_writes_apply_eq_canon v f y _ (zeros_cover y)]
  refine canon_const _ y _ ?_ (zeros_cover y)
  intro p hp x
  simp only [zeros, List.mem_cons, List.not_mem_nil, or_false] at hp
  rcases hp with rfl | rfl | rfl | rfl <;> rfl

/-- Three words written over the zeros. -/
theorem read_words {sp : Space} (v : View sig .tc sp S1x1x4 .f32) (f : v.ty.Contents (Elt F)) (w0 w1 w2 : F .f32) :
    v.read (Elt F) (v.writes (Elt F) (v.writes (Elt F) f zeros)
      [⟨word 2 inb_S1x1x4_S1x1x1_0_0_2, fun _ => w2⟩, ⟨word 1 inb_S1x1x4_S1x1x1_0_0_1, fun _ => w1⟩,
        ⟨word 0 inb_S1x1x4_S1x1x1_0_0_0, fun _ => w0⟩])
      = fun y => if (y 2).val = 0 then w0 else if (y 2).val = 1 then w1 else if (y 2).val = 2 then w2 else zw := by
  funext y
  have hz := zeroed v f y
  have m0 := mem_word 0 inb_S1x1x4_S1x1x1_0_0_0 y
  have m1 := mem_word 1 inb_S1x1x4_S1x1x1_0_0_1 y
  have m2 := mem_word 2 inb_S1x1x4_S1x1x1_0_0_2 y
  have hit : ∀ (r : Rect S1x1x4) (w : F .f32) (g : v.ty.Contents (Elt F)) (L : List (View.Piece (Elt F) S1x1x4 .f32)), y ∈ r.set →
      v.read (Elt F) (v.writes (Elt F) g (⟨r, fun _ => w⟩ :: L)) y = w := by
    intro r w g L hy
    rw [← Rect.map_emb_univ] at hy
    obtain ⟨x, -, rfl⟩ := Finset.mem_map.mp hy
    rw [View.read_writes_cons_emb]
  have miss : ∀ (p : View.Piece (Elt F) S1x1x4 .f32) (g : v.ty.Contents (Elt F)) (L : List (View.Piece (Elt F) S1x1x4 .f32)), y ∉ p.1.set →
      v.read (Elt F) (v.writes (Elt F) g (p :: L)) y = v.read (Elt F) (v.writes (Elt F) g L) y := by
    intro p g L hy
    rw [View.writes_cons, View.read_slice_write_of_not_mem p.1 _ _ _ (by rwa [Rect.map_emb_univ])]
  rcases word_cases y with h | h | h | h
  · rw [if_pos h, miss _ _ _ (fun k => by have := m2.mp k; omega), miss _ _ _ (fun k => by have := m1.mp k; omega), hit _ _ _ _ (m0.mpr h)]
  · rw [if_neg (by omega), if_pos h, miss _ _ _ (fun k => by have := m2.mp k; omega), hit _ _ _ _ (m1.mpr h)]
  · rw [if_neg (by omega), if_neg (by omega), if_pos h, hit _ _ _ _ (m2.mpr h)]
  · rw [if_neg (by omega), if_neg (by omega), if_neg (by omega), miss _ _ _ (fun k => by have := m2.mp k; omega),
      miss _ _ _ (fun k => by have := m1.mp k; omega), miss _ _ _ (fun k => by have := m0.mp k; omega)]
    exact hz

set_option maxHeartbeats 4000000 in
/-- The body on whole staging memrefs, the inputs' at read contents and the result's at anything, runs to the
    continuation holding the inputs' as they were and the result's at `outw` of the inputs'. -/
theorem sound_kernel (c : Dev nD) (E : Set ℕ) (i : grid0.Coords) (arg2 : Memref sig .tc .vmem S1x80x20480 .f32) (harg2 : arg2.IsWhole)
    (arg3 : Memref sig .tc .vmem S1x4x20480 .f32) (harg3 : arg3.IsWhole) (arg4 : Memref sig .tc .vmem S4x20480 .f32) (harg4 : arg4.IsWhole)
    (arg5 : Memref sig .tc .vmem S1x32x5 .f32) (harg5 : arg5.IsWhole) (arg6 : Memref sig .tc .smem S1 .i32) (harg6 : arg6.IsWhole)
    (arg7 : Memref sig .tc .smem S1x1x4 .f32) (harg7 : arg7.IsWhole)
    (x0 : Vec F S1x80x20480 .f32) (x1 : Vec F S1x4x20480 .f32) (x2 : Vec F S4x20480 .f32) (x3 : Vec F S1x32x5 .f32) (x4 : Vec F S1 .i32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outw i x0 x1 x2 x3 x4)) -∗ K ⟨⟩))
      ⊢ wp frame (wpE (defs₀ (F := F)) Variants.none c none) E
          (cc0__focal_body i arg2 harg2 arg3 harg3 arg4 harg4 arg5 harg5 arg6 harg6 arg7 harg7) K := by
  have hi : (i 1).val = 0 := by have h : (i 1).val < 1 := (i 1).isLt; omega
  simp only [cc0__focal_body_eq_skeleton]; unfold cc0__focal_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  have hc : sound_kernel.sl.v274 i = 1#1 := by
    unfold sound_kernel.sl.v274 sound_kernel.sl.v273 sound_kernel.sl.v272
    rw [hi]; decide
  have e3 : ∀ h, sound_kernel.sl.f_3 c i arg7 f5 h = (zw : F .f32) := by
    intro h
    unfold sound_kernel.sl.f_3
    rw [dif_pos hc, View.readAt_apply]
    exact zeroed arg7.view f5 _
  have e4 : ∀ h, sound_kernel.sl.f_4 c i arg7 f5 h = (zw : F .f32) := by
    intro h
    unfold sound_kernel.sl.f_4
    rw [dif_pos hc, View.readAt_apply]
    exact zeroed arg7.view f5 _
  have e5 : ∀ h, sound_kernel.sl.f_5 c i arg7 f5 h = (zw : F .f32) := by
    intro h
    unfold sound_kernel.sl.f_5
    rw [dif_pos hc, View.readAt_apply]
    exact zeroed arg7.view f5 _
  rw [dif_pos hc]
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (read_words arg7.view f5 _ _ _).trans ?_
  rw [show sound_kernel.sl.r_45 c i arg7 f5 = (zw : F .f32) from e3 _,
    show sound_kernel.sl.r_46 c i arg7 f5 = (zw : F .f32) from e4 _,
    show sound_kernel.sl.r_47 c i arg7 f5 = (zw : F .f32) from e5 _]
  unfold sound_kernel.sl.r_40 sound_kernel.sl.r_39 sound_kernel.sl.r_38 sound_kernel.sl.r_37 sound_kernel.sl.r_36 sound_kernel.sl.r_35
  unfold sound_kernel.sl.r_34 sound_kernel.sl.r_33 sound_kernel.sl.r_32 sound_kernel.sl.r_31 sound_kernel.sl.r_30 sound_kernel.sl.r_29
  unfold sound_kernel.sl.r_28 sound_kernel.sl.r_27 sound_kernel.sl.r_26 sound_kernel.sl.r_25 sound_kernel.sl.r_24 sound_kernel.sl.r_23
  unfold sound_kernel.sl.r_22 sound_kernel.sl.r_21 sound_kernel.sl.r_20 sound_kernel.sl.r_19 sound_kernel.sl.r_18 sound_kernel.sl.r_17
  unfold sound_kernel.sl.r_16 sound_kernel.sl.r_15 sound_kernel.sl.r_14 sound_kernel.sl.r_13 sound_kernel.sl.r_12 sound_kernel.sl.r_11
  unfold sound_kernel.sl.r_10 sound_kernel.sl.r_9 sound_kernel.sl.r_8 sound_kernel.sl.r_7 sound_kernel.sl.r_6 sound_kernel.sl.r_5
  unfold sound_kernel.sl.r_4 sound_kernel.sl.r_3 sound_kernel.sl.r_2 sound_kernel.sl.r_1 sound_kernel.sl.r sound_kernel.sl.v83
  unfold sound_kernel.sl.cst_38 sound_kernel.sl.cst_88
  simp only [View.readAt_eq_ld]
  unfold outw
  dsimp only
  unfold bCls bReg bNpos bPos bTop bMax bX
  dsimp only [bPick, bIota]
  rfl

end Cert.KernelIdeal.Run

end
-- ==== Proof.Run.KernelIdealLanes.lean ====
/- The lanes past the arrays' last anchor: nothing the body leaves depends on them (hand-written). -/
module

public import proofs.«01_k».proof.Proof.Run.KernelIdealBody
public import Idealize.ShloMosaic.Lib.Pointwise
public import Idealize.ShloMosaic.Lib.Pipeline.ValueKit.Tiles

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

/-- The anchors' number, as the kernel's word. -/
abbrev nA : Elt F .i32 := (20000#32 : BitVec 32)

/-- The part of a block inside its array at each point: 20000 of the 20480 lanes. -/
theorem xsize0 (t : Fin cfg0.N) (a : Fin 3) : win0_0.xsize (grid0.coords t) a = (![1, 80, 20000] : Fin 3 → Nat) a := by
  rcases fin_N0 t with rfl | rfl | rfl | rfl <;> fin_cases a <;> decide
theorem xsize1 (t : Fin cfg0.N) (a : Fin 3) : win0_1.xsize (grid0.coords t) a = (![1, 4, 20000] : Fin 3 → Nat) a := by
  rcases fin_N0 t with rfl | rfl | rfl | rfl <;> fin_cases a <;> decide
theorem xsize2 (t : Fin cfg0.N) (a : Fin 2) : win0_2.xsize (grid0.coords t) a = (![4, 20000] : Fin 2 → Nat) a := by
  rcases fin_N0 t with rfl | rfl | rfl | rfl <;> fin_cases a <;> decide

/-- A select on a comparison below the anchors' number, read by cases on the lane. -/
theorem valid_at (i : grid0.Coords) (l : Fin 20480) :
    k0_pay4 (F := F) i nA (ix2 (0 : Fin 1) l) = if l.val < 20000 then 1#1 else 0#1 := by
  have hi : (i 1).val = 0 := by
    have h : (i 1).val < 1 := (i 1).isLt
    omega
  have hl := l.isLt
  pointwise [k0_pay4, hi]
  have e1 : IntOp.addi (BitVec.ofNat 32 l.val) (Scalar.muli 0#32 20480#32) = BitVec.ofNat 32 l.val := by
    unfold IntOp.addi Scalar.muli IntOp.muli; simp
  rw [e1]
  unfold IntOp.cmpi
  have e2 : (BitVec.ofNat 32 l.val).slt 20000#32 = decide (l.val < 20000) := by
    rw [BitVec.slt_eq_decide]
    have h1 : (BitVec.ofNat 32 l.val).toInt = (l.val : Int) := by
      rw [BitVec.toInt_eq_toNat_of_lt] <;> rw [BitVec.toNat_ofNat, Nat.mod_eq_of_lt (by omega)]; omega
    rw [h1]; simp
  show BitVec.ofBool ((BitVec.ofNat 32 l.val).slt 20000#32) = _
  rw [e2]
  by_cases h : l.val < 20000 <;> simp [h]

/-- A select under a bit reads alike when its first branch does wherever the bit holds. -/
theorem select_congr {α : Type} {c : BitVec 1} {a a' b : α} (h : c = 1#1 → a = a') : Scalar.select c a b = Scalar.select c a' b := by
  unfold Scalar.select
  by_cases hc : c = 1#1
  · rw [h hc]
  · simp [hc]

/-- The lanes inside the array agree. -/
def AgreeC (x x' : Vec F S1x80x20480 .f32) : Prop := ∀ (c : Fin 80) (l : Fin 20480), l.val < 20000 → x (ix3 (0 : Fin 1) c l) = x' (ix3 (0 : Fin 1) c l)
def AgreeR (x x' : Vec F S1x4x20480 .f32) : Prop := ∀ (c : Fin 4) (l : Fin 20480), l.val < 20000 → x (ix3 (0 : Fin 1) c l) = x' (ix3 (0 : Fin 1) c l)
def AgreeA (x x' : Vec F S4x20480 .f32) : Prop := ∀ (c : Fin 4) (l : Fin 20480), l.val < 20000 → x (ix2 c l) = x' (ix2 c l)
/-- Rows agreeing on those lanes. -/
def AgreeRow (x x' : Vec F S1x20480 .f32) : Prop := ∀ l : Fin 20480, l.val < 20000 → x (ix2 (0 : Fin 1) l) = x' (ix2 (0 : Fin 1) l)
def AgreeRow3 (x x' : Vec F S1x1x20480 .f32) : Prop := ∀ l : Fin 20480, l.val < 20000 → x (ix3 (0 : Fin 1) (0 : Fin 1) l) = x' (ix3 (0 : Fin 1) (0 : Fin 1) l)

/-- Rows of agreeing blocks agree. -/
theorem AgreeA.row {x x' : Vec F S4x20480 .f32} (h : AgreeA x x') (n : Nat) (hn : n < 4) (hr) :
    AgreeRow (View.ld x (rowA n hr)) (View.ld x' (rowA n hr)) := by
  intro l hl
  rw [View.ld_unit_apply_of x _ _ _ _ (ix2 (⟨n, hn⟩ : Fin 4) l) (by intro a; fin_cases a; exacts [rfl, (Nat.zero_add _).symm]),
    View.ld_unit_apply_of x' _ _ _ _ (ix2 (⟨n, hn⟩ : Fin 4) l) (by intro a; fin_cases a; exacts [rfl, (Nat.zero_add _).symm])]
  exact h _ l hl
theorem AgreeR.row {x x' : Vec F S1x4x20480 .f32} (h : AgreeR x x') (n : Nat) (hn : n < 4) (hr) :
    AgreeRow3 (View.ld x (rowR n hr)) (View.ld x' (rowR n hr)) := by
  intro l hl
  rw [View.ld_unit_apply_of x _ _ _ _ (ix3 (0 : Fin 1) (⟨n, hn⟩ : Fin 4) l) (by intro a; fin_cases a; exacts [rfl, rfl, (Nat.zero_add _).symm]),
    View.ld_unit_apply_of x' _ _ _ _ (ix3 (0 : Fin 1) (⟨n, hn⟩ : Fin 4) l) (by intro a; fin_cases a; exacts [rfl, rfl, (Nat.zero_add _).symm])]
  exact h _ l hl

/-- The validity bit of a lane inside. -/
theorem valid_one {i : grid0.Coords} {l : Fin 20480} (h : k0_pay4 (F := F) i nA (ix2 (0 : Fin 1) l) = 1#1) : l.val < 20000 := by
  rw [valid_at] at h
  by_contra hl
  rw [if_neg hl] at h
  exact absurd h (by decide)

/-- The clipped probabilities do not depend on the lanes outside, -/
theorem bX_congr (i : grid0.Coords) {x x' : Vec F S1x80x20480 .f32} (h : AgreeC x x') : bX i nA x = bX i nA x' := by
  funext j
  idx_vars j
  unfold bX
  have key : ∀ z : Vec F S1x80x20480 .f32, k0_pay5 i z nA (ix2 j0 j1)
      = Scalar.select (k0_pay4 (F := F) i nA (ix2 (0 : Fin 1) j1))
        (FloatOps.minimumf (Scalar.ofBits .f32 0x3F7FF972#32) (FloatOps.maximumf (Scalar.ofBits .f32 0x38D1B717#32) (z (ix3 (0 : Fin 1) j0 j1))))
        (Scalar.ofBits .f32 0x3F000000#32) := by
    intro z
    pointwise [k0_pay5]
  rw [key, key]
  refine select_congr fun hc => ?_
  rw [h j0 j1 (valid_one hc)]

/-- nor the masked rows of the anchors. -/
theorem pay11_congr (i : grid0.Coords) {x x' : Vec F S1x20480 .f32} (h : AgreeRow x x') : k0_pay11 i nA x = k0_pay11 i nA x' := by
  funext j
  idx_vars j
  obtain rfl : j0 = (0 : Fin 1) := Subsingleton.elim _ _
  have key : ∀ z : Vec F S1x20480 .f32, k0_pay11 i nA z (ix2 (0 : Fin 1) j1)
      = Scalar.select (k0_pay4 (F := F) i nA (ix2 (0 : Fin 1) j1)) (z (ix2 (0 : Fin 1) j1)) (Scalar.ofBits .f32 0x00000000#32) := by
    intro z
    pointwise [k0_pay11]
  rw [key, key]
  exact select_congr fun hc => h j1 (valid_one hc)
theorem pay12_congr (i : grid0.Coords) {x x' : Vec F S1x20480 .f32} (h : AgreeRow x x') : k0_pay12 i nA x = k0_pay12 i nA x' := by
  funext j
  idx_vars j
  obtain rfl : j0 = (0 : Fin 1) := Subsingleton.elim _ _
  have key : ∀ z : Vec F S1x20480 .f32, k0_pay12 i nA z (ix2 (0 : Fin 1) j1)
      = Scalar.select (k0_pay4 (F := F) i nA (ix2 (0 : Fin 1) j1)) (z (ix2 (0 : Fin 1) j1)) (Scalar.ofBits .f32 0x00000000#32) := by
    intro z
    pointwise [k0_pay12]
  rw [key, key]
  exact select_congr fun hc => h j1 (valid_one hc)
theorem pay13_congr (i : grid0.Coords) {x x' : Vec F S1x20480 .f32} (h : AgreeRow x x') : k0_pay13 i nA x = k0_pay13 i nA x' := by
  funext j
  idx_vars j
  obtain rfl : j0 = (0 : Fin 1) := Subsingleton.elim _ _
  have key : ∀ z : Vec F S1x20480 .f32, k0_pay13 i nA z (ix2 (0 : Fin 1) j1)
      = Scalar.select (k0_pay4 (F := F) i nA (ix2 (0 : Fin 1) j1)) (z (ix2 (0 : Fin 1) j1)) (Scalar.ofBits .f32 0x41800000#32) := by
    intro z
    pointwise [k0_pay13]
  rw [key, key]
  exact select_congr fun hc => h j1 (valid_one hc)
theorem pay14_congr (i : grid0.Coords) {x x' : Vec F S1x20480 .f32} (h : AgreeRow x x') :
    k0_pay14 (k0_pay4 (F := F) i nA) x = k0_pay14 (k0_pay4 (F := F) i nA) x' := by
  funext j
  idx_vars j
  obtain rfl : j0 = (0 : Fin 1) := Subsingleton.elim _ _
  have key : ∀ z : Vec F S1x20480 .f32, k0_pay14 (k0_pay4 (F := F) i nA) z (ix2 (0 : Fin 1) j1)
      = Scalar.select (k0_pay4 (F := F) i nA (ix2 (0 : Fin 1) j1)) (z (ix2 (0 : Fin 1) j1)) (Scalar.ofBits .f32 0x41800000#32) := by
    intro z
    pointwise [k0_pay14]
  rw [key, key]
  exact select_congr fun hc => h j1 (valid_one hc)

/-- The four values read off the fourth row only through its masked form. -/
theorem pay16_congr {c : IVec S1x20480 1} {x x' : Vec F S1x20480 .f32} (h : k0_pay14 c x = k0_pay14 c x') (b) : k0_pay16 c b x = k0_pay16 c b x' := by
  unfold k0_pay16; rw [h]
theorem pay18_congr {c : IVec S1x20480 1} {x x' : Vec F S1x20480 .f32} (h : k0_pay14 c x = k0_pay14 c x') (b) : k0_pay18 c b x = k0_pay18 c b x' := by
  unfold k0_pay18; rw [pay16_congr h]
theorem pay20_congr {c : IVec S1x20480 1} {x x' : Vec F S1x20480 .f32} (h : k0_pay14 c x = k0_pay14 c x') (b) : k0_pay20 c b x = k0_pay20 c b x' := by
  unfold k0_pay20; rw [pay16_congr h]
theorem pay21_congr {c : IVec S1x20480 1} {x x' : Vec F S1x20480 .f32} (h : k0_pay14 c x = k0_pay14 c x') (g0 g1 g2 g3 a0 a1 a2) :
    k0_pay21 c g0 g1 g2 g3 a0 a1 a2 x = k0_pay21 c g0 g1 g2 g3 a0 a1 a2 x' := by
  unfold k0_pay21; rw [pay16_congr h, h]
theorem pay22_congr {c : IVec S1x20480 1} {x x' : Vec F S1x20480 .f32} (h : k0_pay14 c x = k0_pay14 c x') (g0 g1 g2 g3 a0 a1 a2) :
    k0_pay22 c g0 g1 g2 g3 a0 a1 a2 x = k0_pay22 c g0 g1 g2 g3 a0 a1 a2 x' := by
  unfold k0_pay22; rw [pay21_congr h]
theorem pay23_congr {c : IVec S1x20480 1} {x x' : Vec F S1x20480 .f32} (h : k0_pay14 c x = k0_pay14 c x') (g0 g1 g2 g3 a0 a1 a2) :
    k0_pay23 c g0 g1 g2 g3 a0 a1 a2 x = k0_pay23 c g0 g1 g2 g3 a0 a1 a2 x' := by
  unfold k0_pay23; rw [pay21_congr h, pay22_congr h]

/-- The matched lanes are inside. -/
theorem bPos_one {i : grid0.Coords} {ann : Vec F S1x32x5 .f32} {a0 a1 a2 a3 : Vec F S1x20480 .f32} {l : Fin 20480}
    (h : bPos i nA ann a0 a1 a2 a3 (ix2 (0 : Fin 1) l) = 1#1) : l.val < 20000 := by
  unfold bPos k0_pay29 at h
  have h' : ∀ a b : BitVec 1, a &&& b = 1#1 → b = 1#1 := by decide
  exact valid_one (h' _ _ h)

/-- The last sum reads its vectors at the matched lanes only. -/
theorem pay2_congr {P : IVec S1x20480 1} {v v' u u' x x' : FVec F S1x20480 .f32} {s s' : IVec S1x20480 1} {k : F .f32}
    (hv : ∀ l : Fin 20480, P (ix2 (0 : Fin 1) l) = 1#1 → v (ix2 (0 : Fin 1) l) = v' (ix2 (0 : Fin 1) l))
    (hu : ∀ l : Fin 20480, P (ix2 (0 : Fin 1) l) = 1#1 → u (ix2 (0 : Fin 1) l) = u' (ix2 (0 : Fin 1) l))
    (hs : ∀ l : Fin 20480, P (ix2 (0 : Fin 1) l) = 1#1 → s (ix2 (0 : Fin 1) l) = s' (ix2 (0 : Fin 1) l))
    (hx : ∀ l : Fin 20480, P (ix2 (0 : Fin 1) l) = 1#1 → x (ix2 (0 : Fin 1) l) = x' (ix2 (0 : Fin 1) l)) (w : Elt F .f32) :
    k0_pay2 P v u s x k w = k0_pay2 P v' u' s' x' k w := by
  have hsel : select P (addf v (select s x (subf u (broadcast S1x20480 k)))) (broadcast S1x20480 (Scalar.ofBits .f32 0x00000000#32))
      = select P (addf v' (select s' x' (subf u' (broadcast S1x20480 k)))) (broadcast S1x20480 (Scalar.ofBits .f32 0x00000000#32)) := by
    funext j
    idx_vars j
    obtain rfl : j0 = (0 : Fin 1) := Subsingleton.elim _ _
    refine select_congr fun hc => ?_
    show FloatOps.addf _ (Scalar.select _ _ (FloatOps.subf _ _)) = FloatOps.addf _ (Scalar.select _ _ (FloatOps.subf _ _))
    rw [hv j1 hc, hu j1 hc, hs j1 hc, hx j1 hc]
  unfold k0_pay2
  dsimp only
  rw [hsel]

/-- The regression loss does not depend on the predictions at lanes not matched. -/
theorem bReg_congr (i : grid0.Coords) (ann : Vec F S1x32x5 .f32) (a0 a1 a2 a3 : Vec F S1x20480 .f32)
    {r0 r1 r2 r3 r0' r1' r2' r3' : Vec F S1x1x20480 .f32} (h0 : AgreeRow3 r0 r0') (h1 : AgreeRow3 r1 r1') (h2 : AgreeRow3 r2 r2')
    (h3 : AgreeRow3 r3 r3') (w) : bReg i nA ann a0 a1 a2 a3 r0 r1 r2 r3 w = bReg i nA ann a0 a1 a2 a3 r0' r1' r2' r3' w := by
  unfold bReg
  dsimp only
  have hj : ∀ l : Fin 20480, bPos i nA ann a0 a1 a2 a3 (ix2 (0 : Fin 1) l) = 1#1 →
      r0 (ix3 (0 : Fin 1) (0 : Fin 1) l) = r0' (ix3 (0 : Fin 1) (0 : Fin 1) l) ∧ r1 (ix3 (0 : Fin 1) (0 : Fin 1) l) = r1' (ix3 (0 : Fin 1) (0 : Fin 1) l)
      ∧ r2 (ix3 (0 : Fin 1) (0 : Fin 1) l) = r2' (ix3 (0 : Fin 1) (0 : Fin 1) l) ∧ r3 (ix3 (0 : Fin 1) (0 : Fin 1) l) = r3' (ix3 (0 : Fin 1) (0 : Fin 1) l) :=
    fun l hc => ⟨h0 l (bPos_one hc), h1 l (bPos_one hc), h2 l (bPos_one hc), h3 l (bPos_one hc)⟩
  generalize bPos i nA ann a0 a1 a2 a3 = P at hj ⊢
  generalize bPick i nA ann a0 a1 a2 a3 = g
  generalize k0_pay17 (F := F) _ _ = A
  generalize k0_pay18 (F := F) _ _ _ = B
  generalize k0_pay19 (F := F) _ _ = C
  generalize k0_pay20 (F := F) _ _ _ = D
  refine pay2_congr ?_ ?_ ?_ ?_ w
  · intro l hc
    obtain ⟨e0, e1, e2, e3⟩ := hj l hc
    pointwise [k0_pay46, k0_pay43, k0_pay44, k0_pay45]
    rw [e0, e1, e2]
  · intro l hc
    obtain ⟨e0, e1, e2, e3⟩ := hj l hc
    pointwise [k0_pay47]
    rw [e3]
  · intro l hc
    obtain ⟨e0, e1, e2, e3⟩ := hj l hc
    pointwise [k0_pay48, k0_pay47]
    rw [e3]
  · intro l hc
    obtain ⟨e0, e1, e2, e3⟩ := hj l hc
    pointwise [k0_pay49, k0_pay47]
    rw [e3]

/-- What the body leaves depends on the lanes inside the arrays only. -/
theorem outw_congr (i : grid0.Coords) {cls cls' : Vec F S1x80x20480 .f32} {reg reg' : Vec F S1x4x20480 .f32} {anc anc' : Vec F S4x20480 .f32}
    (ann : Vec F S1x32x5 .f32) (nv : Vec F S1 .i32) (hnv : nv = fun _ => nA) (hc : AgreeC cls cls') (hr : AgreeR reg reg') (ha : AgreeA anc anc') :
    outw i cls reg anc ann nv = outw i cls' reg' anc' ann nv := by
  have hn : ∀ h, View.ld nv (Rect.unit (s := S1) ![0] S1.size inb_S1_S1_0) (Shape.Idx.first h) = nA := by
    intro h; rw [hnv]
  unfold outw
  simp only [hn]
  rw [View.ld_unit_zero (S := S1x80x20480) (by funext a; fin_cases a <;> rfl) _ cls,
    View.ld_unit_zero (S := S1x80x20480) (by funext a; fin_cases a <;> rfl) _ cls']
  have e0 := pay11_congr i (ha.row 0 (by decide) inb_S4x20480_S1x20480_0_0)
  have e1 := pay12_congr i (ha.row 1 (by decide) inb_S4x20480_S1x20480_1_0)
  have e2 := pay13_congr i (ha.row 2 (by decide) inb_S4x20480_S1x20480_2_0)
  have e3 := pay14_congr i (ha.row 3 (by decide) inb_S4x20480_S1x20480_3_0)
  have ex := bX_congr i hc
  have eM : ∀ t, bMax i nA t (View.ld anc (rowA 0 inb_S4x20480_S1x20480_0_0)) (View.ld anc (rowA 1 inb_S4x20480_S1x20480_1_0))
        (View.ld anc (rowA 2 inb_S4x20480_S1x20480_2_0)) (View.ld anc (rowA 3 inb_S4x20480_S1x20480_3_0))
      = bMax i nA t (View.ld anc' (rowA 0 inb_S4x20480_S1x20480_0_0)) (View.ld anc' (rowA 1 inb_S4x20480_S1x20480_1_0))
        (View.ld anc' (rowA 2 inb_S4x20480_S1x20480_2_0)) (View.ld anc' (rowA 3 inb_S4x20480_S1x20480_3_0)) := by
    intro t; unfold bMax; rw [e0, e1, e2, pay22_congr e3]
  have eT : ∀ t, bTop i nA t (View.ld anc (rowA 0 inb_S4x20480_S1x20480_0_0)) (View.ld anc (rowA 1 inb_S4x20480_S1x20480_1_0))
        (View.ld anc (rowA 2 inb_S4x20480_S1x20480_2_0)) (View.ld anc (rowA 3 inb_S4x20480_S1x20480_3_0))
      = bTop i nA t (View.ld anc' (rowA 0 inb_S4x20480_S1x20480_0_0)) (View.ld anc' (rowA 1 inb_S4x20480_S1x20480_1_0))
        (View.ld anc' (rowA 2 inb_S4x20480_S1x20480_2_0)) (View.ld anc' (rowA 3 inb_S4x20480_S1x20480_3_0)) := by
    intro t; unfold bTop; rw [e0, e1, e2, pay23_congr e3]
  funext y
  rw [bReg_congr i _ _ _ _ _ (hr.row 0 (by decide) inb_S1x4x20480_S1x1x20480_0_0_0) (hr.row 1 (by decide) inb_S1x4x20480_S1x1x20480_0_1_0)
    (hr.row 2 (by decide) inb_S1x4x20480_S1x1x20480_0_2_0) (hr.row 3 (by decide) inb_S1x4x20480_S1x1x20480_0_3_0)]
  unfold bCls bNpos bReg bPos bPick
  dsimp only
  rw [eM, eT, ex, e0, e1, e2, pay18_congr e3, pay20_congr e3]

end Cert.KernelIdeal.Run

end
-- ==== Proof.Run.KernelIdealFrame.lean ====
/- The run of the kernel's program: the proof data of its pipeline, the body at every grid point, the launch
   and the frame (hand-written). -/
module

public import proofs.«01_k».proof.Proof.Run.KernelIdealLanes
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The anchors' number lies in its word when the region starts. -/
theorem V_count (c : Dev nD) : V m c main_call0_v4 = fun _ => nA := by
  show StableHlo.after (List.flatten [hostOps0]) (fun b => m (c, b)) _ = _
  simp only [hostOps0, List.flatten_cons, List.flatten_nil, List.append_nil]
  after_results_simp
  rfl

/-- The block of the anchors' number holds it. -/
theorem iblk_count (c : Dev nD) (t : Fin cfg0.N) : iblk m c 4 t = fun _ => nA := by
  have h : V m c (Pipeline.arrRef spec0 4) = fun _ => nA := V_count m c
  unfold iblk
  rw [h]
  rfl

/-- Two fillings of a buffer by one block agree on the lanes the block covers. -/
theorem fill_agreeC (t : Fin cfg0.N) (d d' g) : AgreeC (F := F) (win0_0.fill (grid0.coords t) d g) (win0_0.fill (grid0.coords t) d' g) := by
  intro c l hl
  have hm : win0_0.moved (grid0.coords t) (ix3 (0 : Fin 1) c l) = true := by
    rw [Window.moved_iff]
    intro a
    rw [xsize0 t a]
    fin_cases a
    exacts [Nat.zero_lt_one, c.isLt, hl]
  unfold Window.fill
  rw [dif_pos hm, dif_pos hm]

/-- The same of the regressions' window. -/
theorem fill_agreeR (t : Fin cfg0.N) (d d' g) : AgreeR (F := F) (win0_1.fill (grid0.coords t) d g) (win0_1.fill (grid0.coords t) d' g) := by
  intro c l hl
  have hm : win0_1.moved (grid0.coords t) (ix3 (0 : Fin 1) c l) = true := by
    rw [Window.moved_iff]
    intro a
    rw [xsize1 t a]
    fin_cases a
    exacts [Nat.zero_lt_one, c.isLt, hl]
  unfold Window.fill
  rw [dif_pos hm, dif_pos hm]

/-- The same of the anchors' window. -/
theorem fill_agreeA (t : Fin cfg0.N) (d d' g) : AgreeA (F := F) (win0_2.fill (grid0.coords t) d g) (win0_2.fill (grid0.coords t) d' g) := by
  intro c l hl
  have hm : win0_2.moved (grid0.coords t) (ix2 c l) = true := by
    rw [Window.moved_iff]
    intro a
    rw [xsize2 t a]
    fin_cases a
    exacts [c.isLt, hl]
  unfold Window.fill
  rw [dif_pos hm, dif_pos hm]

/-- The classifications' buffer with the lanes past the last anchor at zero. -/
def padC (c : Dev nD) (t : Fin cfg0.N) : Vec F S1x80x20480 .f32 := win0_0.fill (grid0.coords t) (fun _ => (FloatOps.ofBits .f32 0x00000000#32 : F .f32)) (iblk m c 0 t)
/-- The regressions' buffer likewise. -/
def padR (c : Dev nD) (t : Fin cfg0.N) : Vec F S1x4x20480 .f32 := win0_1.fill (grid0.coords t) (fun _ => (FloatOps.ofBits .f32 0x00000000#32 : F .f32)) (iblk m c 1 t)
/-- The anchors' buffer likewise. -/
def padA (c : Dev nD) (t : Fin cfg0.N) : Vec F S4x20480 .f32 := win0_2.fill (grid0.coords t) (fun _ => (FloatOps.ofBits .f32 0x00000000#32 : F .f32)) (iblk m c 2 t)

/-- The four words the body leaves at a grid point. -/
def outAt (c : Dev nD) (t : Fin cfg0.N) : Vec F S1x1x4 .f32 :=
  outw (grid0.coords t) (padC m c t) (padR m c t) (padA m c t) (iblk m c 3 t) (iblk m c 4 t)

/-- The proof data of the one pipeline on core `c`: the arrays as the region finds them; after the body at a
    point each input's buffer at its block (filled out by zeros where the block reaches past its array) and
    the output's at the four words of the point; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => padC m c t
    | ⟨1, _⟩ => padR m c t
    | ⟨2, _⟩ => padA m c t
    | ⟨3, _⟩ => iblk m c 3 t
    | ⟨4, _⟩ => iblk m c 4 t
    | ⟨5, _⟩ => outAt m c t
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = padC m c t := by dsimp only [dats]
theorem after0_1 (c : Dev nD) (t : Fin cfg0.N) : (dats m 0 c).after 1 t = padR m c t := by dsimp only [dats]
theorem after0_2 (c : Dev nD) (t : Fin cfg0.N) : (dats m 0 c).after 2 t = padA m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- The classifications' buffer at every point: its block over whatever lay there. -/
theorem before0_0 (c : Dev nD) (t : Fin cfg0.N) (d) : (dats m 0 c).before 0 t d = win0_0.fill (grid0.coords t) d (iblk m c 0 t) := by
  rw [(dats m 0 c).before_fetched 0 t (fetch0_0 t) d]
  unfold Dat.fetched Dat.blockOf iblk
  rw [A_eq]

/-- The regressions' buffer likewise. -/
theorem before0_1 (c : Dev nD) (t : Fin cfg0.N) (d) : (dats m 0 c).before 1 t d = win0_1.fill (grid0.coords t) d (iblk m c 1 t) := by
  rw [(dats m 0 c).before_fetched 1 t (fetch0_1 t) d]
  unfold Dat.fetched Dat.blockOf iblk
  rw [A_eq]

/-- The anchors' buffer likewise, fetched at the first point only. -/
theorem before0_2 (c : Dev nD) (t : Fin cfg0.N) (d) : (dats m 0 c).before 2 t d = win0_2.fill (grid0.coords t) d (iblk m c 2 t) := by
  rw [(dats m 0 c).before_in_eq_fetched 2 rfl (fun _ => rfl) (fun t t' _ => ?_) (fun t => ?_) t d]
  · unfold Dat.fetched Dat.blockOf iblk
    rw [A_eq]
  · rcases fin_N0 t with rfl | rfl | rfl | rfl <;> rcases fin_N0 t' with rfl | rfl | rfl | rfl <;> rfl
  · rw [after0_2]
    unfold padA
    refine (win0_2.cut_fill _ _ _).trans ?_
    unfold Dat.blockOf iblk
    rw [A_eq]

/-- The boxes' buffer holds its block at every point. -/
theorem before0_3 (c : Dev nD) (t : Fin cfg0.N) (d) : (dats m 0 c).before 3 t d = iblk m c 3 t :=
  before0_3_of m (dats m 0 c) (A_eq m c 3) (after0_3 m c) t d
/-- The anchors' number likewise. -/
theorem before0_4 (c : Dev nD) (t : Fin cfg0.N) (d) : (dats m 0 c).before 4 t d = iblk m c 4 t :=
  before0_4_of m (dats m 0 c) (A_eq m c 4) (after0_4 m c) t d

/-- The four words do not depend on what lies past the blocks. -/
theorem outw_fill (c : Dev nD) (t : Fin cfg0.N) (d0 d1 d2) :
    outw (grid0.coords t) (win0_0.fill (grid0.coords t) d0 (iblk m c 0 t)) (win0_1.fill (grid0.coords t) d1 (iblk m c 1 t))
      (win0_2.fill (grid0.coords t) d2 (iblk m c 2 t)) (iblk m c 3 t) (iblk m c 4 t) = outAt m c t :=
  outw_congr _ _ _ (iblk_count m c t) (fill_agreeC t _ _ _) (fill_agreeR t _ _ _) (fill_agreeA t _ _ _)

/-- The body table's row at a point's buffers is the body there. -/
theorem defs₀_row (t : Fin cfg0.N) :
    defs₀ (F := F) .tc cfg0.body (cfg0.bodyArgs t (cfg0.slots t)) = bodyAt0 t := by
  unfold defs₀; rw [Defs.onTc_tc]

/-- The body at every point: from the buffers as the fetches leave them to the buffers as the proof data
    state them, on the lanes the transfers move. -/
theorem body_obligation (c : Dev nD) : BodyObligationLoose (dats (F := F) m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  simp only [before0_0, before0_1, before0_2, before0_3, before0_4, after0_0, after0_1, after0_2, after0_3, after0_4, after0_5]
  unfold bodyAt0
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) _)
  rw [outw_fill]
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  have h0 : win0_0.cut (grid0.coords t) (padC m c t) = iblk m c 0 t := win0_0.cut_fill _ _ _
  have h1 : win0_1.cut (grid0.coords t) (padR m c t) = iblk m c 1 t := win0_1.cut_fill _ _ _
  have h2 : win0_2.cut (grid0.coords t) (padA m c t) = iblk m c 2 t := win0_2.cut_fill _ _ _
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (padC m c t)))
    rw [h0]
    try iexact H0
  isplitl [H1]
  · iexists d1
    change _ ⊢ owns (c : Thread nD τ) (st0_1 t) fullShare (win0_1.fill (grid0.coords t) d1 (win0_1.cut (grid0.coords t) (padR m c t)))
    rw [h1]
    try iexact H1
  isplitl [H2]
  · iexists d2
    change _ ⊢ owns (c : Thread nD τ) (st0_2 t) fullShare (win0_2.fill (grid0.coords t) d2 (win0_2.cut (grid0.coords t) (padA m c t)))
    rw [h2]
    try iexact H2
  isplitl [H3]; · iexact H3
  isplitl [H4]; · iexact H4
  iexact H5

set_option backward.isDefEq.respectTransparency.types false in
/-- The launch: every weakly fair execution ends, the arrays and the other buffers as the proof data and the
    host lines after the region state them, every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments' arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Run.ReferenceOps.lean ====
/- The reference program as a list of host operations, cut into stretches (hand-written). -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The four targets put side by side: the last operand of the regression targets. -/
def fn_concat (u0 u1 u2 u3 : Vec F S4x20000x1 .f32) : Vec F S4x20000x4 .f32 :=
  concatenate S4x20000x4 2 [⟨S4x20000x1, u0⟩, ⟨S4x20000x1, u1⟩, ⟨S4x20000x1, u2⟩, ⟨S4x20000x1, u3⟩] concatenates_S4x20000x1_S4x20000x1_S4x20000x1_S4x20000x1_S4x20000x4_d2

/-- Operations 1 to 32. -/
abbrev ops0 : List (HloOp τ sig (Elt F)) :=
  [ nullary main_cst (fun i => FloatOps.ofBits .f32 (lit0 (S1x4.rowMajor i))),
    reshape main_arg2 main_v0 (rfl : (.f32 : EltTy) = .f32) shapeCasts_S1x20000x4_S20000x4,
    unary main_v0 main_v1 ((extractStridedSlice S20000x1 ![0, 2] · slices_S20000x4_S20000x1_0_2) : (⟨S20000x4, .f32⟩ : BufTy).Contents (Elt F) → (⟨S20000x1, .f32⟩ : BufTy).Contents (Elt F)),
    reshape main_v1 main_v2 (rfl : (.f32 : EltTy) = .f32) shapeCasts_S20000x1_S20000,
    unary main_v0 main_v3 ((extractStridedSlice S20000x1 ![0, 0] · slices_S20000x4_S20000x1_0_0) : (⟨S20000x4, .f32⟩ : BufTy).Contents (Elt F) → (⟨S20000x1, .f32⟩ : BufTy).Contents (Elt F)),
    reshape main_v3 main_v4 (rfl : (.f32 : EltTy) = .f32) shapeCasts_S20000x1_S20000,
    binary main_v2 main_v4 main_v5 (subf : (⟨S20000, .f32⟩ : BufTy).Contents (Elt F) → (⟨S20000, .f32⟩ : BufTy).Contents (Elt F) → (⟨S20000, .f32⟩ : BufTy).Contents (Elt F)),
    unary main_v0 main_v6 ((extractStridedSlice S20000x1 ![0, 3] · slices_S20000x4_S20000x1_0_3) : (⟨S20000x4, .f32⟩ : BufTy).Contents (Elt F) → (⟨S20000x1, .f32⟩ : BufTy).Contents (Elt F)),
    reshape main_v6 main_v7 (rfl : (.f32 : EltTy) = .f32) shapeCasts_S20000x1_S20000,
    unary main_v0 main_v8 ((extractStridedSlice S20000x1 ![0, 1] · slices_S20000x4_S20000x1_0_1) : (⟨S20000x4, .f32⟩ : BufTy).Contents (Elt F) → (⟨S20000x1, .f32⟩ : BufTy).Contents (Elt F)),
    reshape main_v8 main_v9 (rfl : (.f32 : EltTy) = .f32) shapeCasts_S20000x1_S20000,
    binary main_v7 main_v9 main_v10 (subf : (⟨S20000, .f32⟩ : BufTy).Contents (Elt F) → (⟨S20000, .f32⟩ : BufTy).Contents (Elt F) → (⟨S20000, .f32⟩ : BufTy).Contents (Elt F)),
    unary main_v0 main_v11 ((extractStridedSlice S20000x1 ![0, 0] · slices_S20000x4_S20000x1_0_0) : (⟨S20000x4, .f32⟩ : BufTy).Contents (Elt F) → (⟨S20000x1, .f32⟩ : BufTy).Contents (Elt F)),
    reshape main_v11 main_v12 (rfl : (.f32 : EltTy) = .f32) shapeCasts_S20000x1_S20000,
    nullary main_cst_0 (constant S_ .f32 0x3F000000#32),
    unary main_cst_0 main_v13 (broadcastInDim S20000 ![] bcast_S_S20000 : (⟨S_, .f32⟩ : BufTy).Contents (Elt F) → (⟨S20000, .f32⟩ : BufTy).Contents (Elt F)),
    binary main_v13 main_v5 main_v14 (mulf : (⟨S20000, .f32⟩ : BufTy).Contents (Elt F) → (⟨S20000, .f32⟩ : BufTy).Contents (Elt F) → (⟨S20000, .f32⟩ : BufTy).Contents (Elt F)),
    binary main_v12 main_v14 main_v15 (addf : (⟨S20000, .f32⟩ : BufTy).Contents (Elt F) → (⟨S20000, .f32⟩ : BufTy).Contents (Elt F) → (⟨S20000, .f32⟩ : BufTy).Contents (Elt F)),
    unary main_v0 main_v16 ((extractStridedSlice S20000x1 ![0, 1] · slices_S20000x4_S20000x1_0_1) : (⟨S20000x4, .f32⟩ : BufTy).Contents (Elt F) → (⟨S20000x1, .f32⟩ : BufTy).Contents (Elt F)),
    reshape main_v16 main_v17 (rfl : (.f32 : EltTy) = .f32) shapeCasts_S20000x1_S20000,
    nullary main_cst_1 (constant S_ .f32 0x3F000000#32),
    unary main_cst_1 main_v18 (broadcastInDim S20000 ![] bcast_S_S20000 : (⟨S_, .f32⟩ : BufTy).Contents (Elt F) → (⟨S20000, .f32⟩ : BufTy).Contents (Elt F)),
    binary main_v18 main_v10 main_v19 (mulf : (⟨S20000, .f32⟩ : BufTy).Contents (Elt F) → (⟨S20000, .f32⟩ : BufTy).Contents (Elt F) → (⟨S20000, .f32⟩ : BufTy).Contents (Elt F)),
    binary main_v17 main_v19 main_v20 (addf : (⟨S20000, .f32⟩ : BufTy).Contents (Elt F) → (⟨S20000, .f32⟩ : BufTy).Contents (Elt F) → (⟨S20000, .f32⟩ : BufTy).Contents (Elt F)),
    nullary main_cst_2 (constant S_ .f32 0x38D1B717#32),
    nullary main_cst_3 (constant S_ .f32 0x3F7FF972#32),
    unary main_cst_2 main_call0_v0 (id : (⟨S_, .f32⟩ : BufTy).Contents (Elt F) → (⟨S_, .f32⟩ : BufTy).Contents (Elt F)),
    unary main_call0_v0 main_call0_v1 ((broadcastInDim S4x20000x80 ![] bcast_S_S4x20000x80) : (⟨S_, .f32⟩ : BufTy).Contents (Elt F) → (⟨S4x20000x80, .f32⟩ : BufTy).Contents (Elt F)),
    binary main_call0_v1 main_arg0 main_call0_v2 (maximumf : (⟨S4x20000x80, .f32⟩ : BufTy).Contents (Elt F) → (⟨S4x20000x80, .f32⟩ : BufTy).Contents (Elt F) → (⟨S4x20000x80, .f32⟩ : BufTy).Contents (Elt F)),
    unary main_cst_3 main_call0_v3 (id : (⟨S_, .f32⟩ : BufTy).Contents (Elt F) → (⟨S_, .f32⟩ : BufTy).Contents (Elt F)),
    unary main_call0_v3 main_call0_v4 ((broadcastInDim S4x20000x80 ![] bcast_S_S4x20000x80) : (⟨S_, .f32⟩ : BufTy).Contents (Elt F) → (⟨S4x20000x80, .f32⟩ : BufTy).Contents (Elt F)),
    binary main_call0_v4 main_call0_v2 main_v21 (minimumf : (⟨S4x20000x80, .f32⟩ : BufTy).Contents (Elt F) → (⟨S4x20000x80, .f32⟩ : BufTy).Contents (Elt F) → (⟨S4x20000x80, .f32⟩ : BufTy).Contents (Elt F)) ]

/-- Operations 33 to 65. -/
abbrev ops1 : List (HloOp τ sig (Elt F)) :=
  [ unary main_arg3 main_v22 ((extractStridedSlice S4x32x4 ![0, 0, 0] · slices_S4x32x5_S4x32x4_0_0_0) : (⟨S4x32x5, .f32⟩ : BufTy).Contents (Elt F) → (⟨S4x32x4, .f32⟩ : BufTy).Contents (Elt F)),
    unary main_v0 main_v23 ((extractStridedSlice S20000x1 ![0, 2] · slices_S20000x4_S20000x1_0_2) : (⟨S20000x4, .f32⟩ : BufTy).Contents (Elt F) → (⟨S20000x1, .f32⟩ : BufTy).Contents (Elt F)),
    reshape main_v23 main_v24 (rfl : (.f32 : EltTy) = .f32) shapeCasts_S20000x1_S20000,
    unary main_v0 main_v25 ((extractStridedSlice S20000x1 ![0, 0] · slices_S20000x4_S20000x1_0_0) : (⟨S20000x4, .f32⟩ : BufTy).Contents (Elt F) → (⟨S20000x1, .f32⟩ : BufTy).Contents (Elt F)),
    reshape main_v25 main_v26 (rfl : (.f32 : EltTy) = .f32) shapeCasts_S20000x1_S20000,
    binary main_v24 main_v26 main_v27 (subf : (⟨S20000, .f32⟩ : BufTy).Contents (Elt F) → (⟨S20000, .f32⟩ : BufTy).Contents (Elt F) → (⟨S20000, .f32⟩ : BufTy).Contents (Elt F)),
    unary main_v0 main_v28 ((extractStridedSlice S20000x1 ![0, 3] · slices_S20000x4_S20000x1_0_3) : (⟨S20000x4, .f32⟩ : BufTy).Contents (Elt F) → (⟨S20000x1, .f32⟩ : BufTy).Contents (Elt F)),
    reshape main_v28 main_v29 (rfl : (.f32 : EltTy) = .f32) shapeCasts_S20000x1_S20000,
    unary main_v0 main_v30 ((extractStridedSlice S20000x1 ![0, 1] · slices_S20000x4_S20000x1_0_1) : (⟨S20000x4, .f32⟩ : BufTy).Contents (Elt F) → (⟨S20000x1, .f32⟩ : BufTy).Contents (Elt F)),
    reshape main_v30 main_v31 (rfl : (.f32 : EltTy) = .f32) shapeCasts_S20000x1_S20000,
    binary main_v29 main_v31 main_v32 (subf : (⟨S20000, .f32⟩ : BufTy).Contents (Elt F) → (⟨S20000, .f32⟩ : BufTy).Contents (Elt F) → (⟨S20000, .f32⟩ : BufTy).Contents (Elt F)),
    binary main_v27 main_v32 main_v33 (mulf : (⟨S20000, .f32⟩ : BufTy).Contents (Elt F) → (⟨S20000, .f32⟩ : BufTy).Contents (Elt F) → (⟨S20000, .f32⟩ : BufTy).Contents (Elt F)),
    unary main_v33 main_v34 (broadcastInDim S20000x1 ![0] bcast_S20000_S20000x1_0 : (⟨S20000, .f32⟩ : BufTy).Contents (Elt F) → (⟨S20000x1, .f32⟩ : BufTy).Contents (Elt F)),
    unary main_v22 main_v35 ((extractStridedSlice S4x32x1 ![0, 0, 2] · slices_S4x32x4_S4x32x1_0_0_2) : (⟨S4x32x4, .f32⟩ : BufTy).Contents (Elt F) → (⟨S4x32x1, .f32⟩ : BufTy).Contents (Elt F)),
    reshape main_v35 main_v36 (rfl : (.f32 : EltTy) = .f32) shapeCasts_S4x32x1_S4x32,
    unary main_v22 main_v37 ((extractStridedSlice S4x32x1 ![0, 0, 0] · slices_S4x32x4_S4x32x1_0_0_0) : (⟨S4x32x4, .f32⟩ : BufTy).Contents (Elt F) → (⟨S4x32x1, .f32⟩ : BufTy).Contents (Elt F)),
    reshape main_v37 main_v38 (rfl : (.f32 : EltTy) = .f32) shapeCasts_S4x32x1_S4x32,
    binary main_v36 main_v38 main_v39 (subf : (⟨S4x32, .f32⟩ : BufTy).Contents (Elt F) → (⟨S4x32, .f32⟩ : BufTy).Contents (Elt F) → (⟨S4x32, .f32⟩ : BufTy).Contents (Elt F)),
    unary main_v22 main_v40 ((extractStridedSlice S4x32x1 ![0, 0, 3] · slices_S4x32x4_S4x32x1_0_0_3) : (⟨S4x32x4, .f32⟩ : BufTy).Contents (Elt F) → (⟨S4x32x1, .f32⟩ : BufTy).Contents (Elt F)),
    reshape main_v40 main_v41 (rfl : (.f32 : EltTy) = .f32) shapeCasts_S4x32x1_S4x32,
    unary main_v22 main_v42 ((extractStridedSlice S4x32x1 ![0, 0, 1] · slices_S4x32x4_S4x32x1_0_0_1) : (⟨S4x32x4, .f32⟩ : BufTy).Contents (Elt F) → (⟨S4x32x1, .f32⟩ : BufTy).Contents (Elt F)),
    reshape main_v42 main_v43 (rfl : (.f32 : EltTy) = .f32) shapeCasts_S4x32x1_S4x32,
    binary main_v41 main_v43 main_v44 (subf : (⟨S4x32, .f32⟩ : BufTy).Contents (Elt F) → (⟨S4x32, .f32⟩ : BufTy).Contents (Elt F) → (⟨S4x32, .f32⟩ : BufTy).Contents (Elt F)),
    binary main_v39 main_v44 main_v45 (mulf : (⟨S4x32, .f32⟩ : BufTy).Contents (Elt F) → (⟨S4x32, .f32⟩ : BufTy).Contents (Elt F) → (⟨S4x32, .f32⟩ : BufTy).Contents (Elt F)),
    unary main_v0 main_v46 ((extractStridedSlice S20000x1 ![0, 2] · slices_S20000x4_S20000x1_0_2) : (⟨S20000x4, .f32⟩ : BufTy).Contents (Elt F) → (⟨S20000x1, .f32⟩ : BufTy).Contents (Elt F)),
    unary main_v22 main_v47 ((extractStridedSlice S4x32x1 ![0, 0, 2] · slices_S4x32x4_S4x32x1_0_0_2) : (⟨S4x32x4, .f32⟩ : BufTy).Contents (Elt F) → (⟨S4x32x1, .f32⟩ : BufTy).Contents (Elt F)),
    reshape main_v47 main_v48 (rfl : (.f32 : EltTy) = .f32) shapeCasts_S4x32x1_S4x32,
    unary main_v48 main_v49 (broadcastInDim S4x1x32 ![0, 2] bcast_S4x32_S4x1x32_0_2 : (⟨S4x32, .f32⟩ : BufTy).Contents (Elt F) → (⟨S4x1x32, .f32⟩ : BufTy).Contents (Elt F)),
    unary main_v46 main_v50 (broadcastInDim S1x20000x1 ![1, 2] bcast_S20000x1_S1x20000x1_1_2 : (⟨S20000x1, .f32⟩ : BufTy).Contents (Elt F) → (⟨S1x20000x1, .f32⟩ : BufTy).Contents (Elt F)),
    unary main_v50 main_v51 (broadcastInDim S4x20000x32 ![0, 1, 2] bcast_S1x20000x1_S4x20000x32_0_1_2 : (⟨S1x20000x1, .f32⟩ : BufTy).Contents (Elt F) → (⟨S4x20000x32, .f32⟩ : BufTy).Contents (Elt F)),
    unary main_v49 main_v52 (broadcastInDim S4x20000x32 ![0, 1, 2] bcast_S4x1x32_S4x20000x32_0_1_2 : (⟨S4x1x32, .f32⟩ : BufTy).Contents (Elt F) → (⟨S4x20000x32, .f32⟩ : BufTy).Contents (Elt F)),
    binary main_v51 main_v52 main_v53 (minimumf : (⟨S4x20000x32, .f32⟩ : BufTy).Contents (Elt F) → (⟨S4x20000x32, .f32⟩ : BufTy).Contents (Elt F) → (⟨S4x20000x32, .f32⟩ : BufTy).Contents (Elt F)),
    unary main_v0 main_v54 ((extractStridedSlice S20000x1 ![0, 0] · slices_S20000x4_S20000x1_0_0) : (⟨S20000x4, .f32⟩ : BufTy).Contents (Elt F) → (⟨S20000x1, .f32⟩ : BufTy).Contents (Elt F)) ]

/-- Operations 66 to 107. -/
abbrev ops2 : List (HloOp τ sig (Elt F)) :=
  [ unary main_v22 main_v55 ((extractStridedSlice S4x32x1 ![0, 0, 0] · slices_S4x32x4_S4x32x1_0_0_0) : (⟨S4x32x4, .f32⟩ : BufTy).Contents (Elt F) → (⟨S4x32x1, .f32⟩ : BufTy).Contents (Elt F)),
    reshape main_v55 main_v56 (rfl : (.f32 : EltTy) = .f32) shapeCasts_S4x32x1_S4x32,
    unary main_v56 main_v57 (broadcastInDim S4x1x32 ![0, 2] bcast_S4x32_S4x1x32_0_2 : (⟨S4x32, .f32⟩ : BufTy).Contents (Elt F) → (⟨S4x1x32, .f32⟩ : BufTy).Contents (Elt F)),
    unary main_v54 main_v58 (broadcastInDim S1x20000x1 ![1, 2] bcast_S20000x1_S1x20000x1_1_2 : (⟨S20000x1, .f32⟩ : BufTy).Contents (Elt F) → (⟨S1x20000x1, .f32⟩ : BufTy).Contents (Elt F)),
    unary main_v58 main_v59 (broadcastInDim S4x20000x32 ![0, 1, 2] bcast_S1x20000x1_S4x20000x32_0_1_2 : (⟨S1x20000x1, .f32⟩ : BufTy).Contents (Elt F) → (⟨S4x20000x32, .f32⟩ : BufTy).Contents (Elt F)),
    unary main_v57 main_v60 (broadcastInDim S4x20000x32 ![0, 1, 2] bcast_S4x1x32_S4x20000x32_0_1_2 : (⟨S4x1x32, .f32⟩ : BufTy).Contents (Elt F) → (⟨S4x20000x32, .f32⟩ : BufTy).Contents (Elt F)),
    binary main_v59 main_v60 main_v61 (maximumf : (⟨S4x20000x32, .f32⟩ : BufTy).Contents (Elt F) → (⟨S4x20000x32, .f32⟩ : BufTy).Contents (Elt F) → (⟨S4x20000x32, .f32⟩ : BufTy).Contents (Elt F)),
    binary main_v53 main_v61 main_v62 (subf : (⟨S4x20000x32, .f32⟩ : BufTy).Contents (Elt F) → (⟨S4x20000x32, .f32⟩ : BufTy).Contents (Elt F) → (⟨S4x20000x32, .f32⟩ : BufTy).Contents (Elt F)),
    unary main_v0 main_v63 ((extractStridedSlice S20000x1 ![0, 3] · slices_S20000x4_S20000x1_0_3) : (⟨S20000x4, .f32⟩ : BufTy).Contents (Elt F) → (⟨S20000x1, .f32⟩ : BufTy).Contents (Elt F)),
    unary main_v22 main_v64 ((extractStridedSlice S4x32x1 ![0, 0, 3] · slices_S4x32x4_S4x32x1_0_0_3) : (⟨S4x32x4, .f32⟩ : BufTy).Contents (Elt F) → (⟨S4x32x1, .f32⟩ : BufTy).Contents (Elt F)),
    reshape main_v64 main_v65 (rfl : (.f32 : EltTy) = .f32) shapeCasts_S4x32x1_S4x32,
    unary main_v65 main_v66 (broadcastInDim S4x1x32 ![0, 2] bcast_S4x32_S4x1x32_0_2 : (⟨S4x32, .f32⟩ : BufTy).Contents (Elt F) → (⟨S4x1x32, .f32⟩ : BufTy).Contents (Elt F)),
    unary main_v63 main_v67 (broadcastInDim S1x20000x1 ![1, 2] bcast_S20000x1_S1x20000x1_1_2 : (⟨S20000x1, .f32⟩ : BufTy).Contents (Elt F) → (⟨S1x20000x1, .f32⟩ : BufTy).Contents (Elt F)),
    unary main_v67 main_v68 (broadcastInDim S4x20000x32 ![0, 1, 2] bcast_S1x20000x1_S4x20000x32_0_1_2 : (⟨S1x20000x1, .f32⟩ : BufTy).Contents (Elt F) → (⟨S4x20000x32, .f32⟩ : BufTy).Contents (Elt F)),
    unary main_v66 main_v69 (broadcastInDim S4x20000x32 ![0, 1, 2] bcast_S4x1x32_S4x20000x32_0_1_2 : (⟨S4x1x32, .f32⟩ : BufTy).Contents (Elt F) → (⟨S4x20000x32, .f32⟩ : BufTy).Contents (Elt F)),
    binary main_v68 main_v69 main_v70 (minimumf : (⟨S4x20000x32, .f32⟩ : BufTy).Contents (Elt F) → (⟨S4x20000x32, .f32⟩ : BufTy).Contents (Elt F) → (⟨S4x20000x32, .f32⟩ : BufTy).Contents (Elt F)),
    unary main_v0 main_v71 ((extractStridedSlice S20000x1 ![0, 1] · slices_S20000x4_S20000x1_0_1) : (⟨S20000x4, .f32⟩ : BufTy).Contents (Elt F) → (⟨S20000x1, .f32⟩ : BufTy).Contents (Elt F)),
    unary main_v22 main_v72 ((extractStridedSlice S4x32x1 ![0, 0, 1] · slices_S4x32x4_S4x32x1_0_0_1) : (⟨S4x32x4, .f32⟩ : BufTy).Contents (Elt F) → (⟨S4x32x1, .f32⟩ : BufTy).Contents (Elt F)),
    reshape main_v72 main_v73 (rfl : (.f32 : EltTy) = .f32) shapeCasts_S4x32x1_S4x32,
    unary main_v73 main_v74 (broadcastInDim S4x1x32 ![0, 2] bcast_S4x32_S4x1x32_0_2 : (⟨S4x32, .f32⟩ : BufTy).Contents (Elt F) → (⟨S4x1x32, .f32⟩ : BufTy).Contents (Elt F)),
    unary main_v71 main_v75 (broadcastInDim S1x20000x1 ![1, 2] bcast_S20000x1_S1x20000x1_1_2 : (⟨S20000x1, .f32⟩ : BufTy).Contents (Elt F) → (⟨S1x20000x1, .f32⟩ : BufTy).Contents (Elt F)),
    unary main_v75 main_v76 (broadcastInDim S4x20000x32 ![0, 1, 2] bcast_S1x20000x1_S4x20000x32_0_1_2 : (⟨S1x20000x1, .f32⟩ : BufTy).Contents (Elt F) → (⟨S4x20000x32, .f32⟩ : BufTy).Contents (Elt F)),
    unary main_v74 main_v77 (broadcastInDim S4x20000x32 ![0, 1, 2] bcast_S4x1x32_S4x20000x32_0_1_2 : (⟨S4x1x32, .f32⟩ : BufTy).Contents (Elt F) → (⟨S4x20000x32, .f32⟩ : BufTy).Contents (Elt F)),
    binary main_v76 main_v77 main_v78 (maximumf : (⟨S4x20000x32, .f32⟩ : BufTy).Contents (Elt F) → (⟨S4x20000x32, .f32⟩ : BufTy).Contents (Elt F) → (⟨S4x20000x32, .f32⟩ : BufTy).Contents (Elt F)),
    binary main_v70 main_v78 main_v79 (subf : (⟨S4x20000x32, .f32⟩ : BufTy).Contents (Elt F) → (⟨S4x20000x32, .f32⟩ : BufTy).Contents (Elt F) → (⟨S4x20000x32, .f32⟩ : BufTy).Contents (Elt F)),
    nullary main_cst_4 (constant S_ .f32 0x00000000#32),
    unary main_cst_4 main_v80 (broadcastInDim S4x20000x32 ![] bcast_S_S4x20000x32 : (⟨S_, .f32⟩ : BufTy).Contents (Elt F) → (⟨S4x20000x32, .f32⟩ : BufTy).Contents (Elt F)),
    binary main_v62 main_v80 main_v81 (maximumf : (⟨S4x20000x32, .f32⟩ : BufTy).Contents (Elt F) → (⟨S4x20000x32, .f32⟩ : BufTy).Contents (Elt F) → (⟨S4x20000x32, .f32⟩ : BufTy).Contents (Elt F)),
    nullary main_cst_5 (constant S_ .f32 0x00000000#32),
    unary main_cst_5 main_v82 (broadcastInDim S4x20000x32 ![] bcast_S_S4x20000x32 : (⟨S_, .f32⟩ : BufTy).Contents (Elt F) → (⟨S4x20000x32, .f32⟩ : BufTy).Contents (Elt F)),
    binary main_v79 main_v82 main_v83 (maximumf : (⟨S4x20000x32, .f32⟩ : BufTy).Contents (Elt F) → (⟨S4x20000x32, .f32⟩ : BufTy).Contents (Elt F) → (⟨S4x20000x32, .f32⟩ : BufTy).Contents (Elt F)),
    binary main_v81 main_v83 main_v84 (mulf : (⟨S4x20000x32, .f32⟩ : BufTy).Contents (Elt F) → (⟨S4x20000x32, .f32⟩ : BufTy).Contents (Elt F) → (⟨S4x20000x32, .f32⟩ : BufTy).Contents (Elt F)),
    unary main_v45 main_v85 (broadcastInDim S4x1x32 ![0, 2] bcast_S4x32_S4x1x32_0_2 : (⟨S4x32, .f32⟩ : BufTy).Contents (Elt F) → (⟨S4x1x32, .f32⟩ : BufTy).Contents (Elt F)),
    unary main_v34 main_v86 (broadcastInDim S1x20000x1 ![1, 2] bcast_S20000x1_S1x20000x1_1_2 : (⟨S20000x1, .f32⟩ : BufTy).Contents (Elt F) → (⟨S1x20000x1, .f32⟩ : BufTy).Contents (Elt F)),
    unary main_v86 main_v87 (broadcastInDim S4x20000x32 ![0, 1, 2] bcast_S1x20000x1_S4x20000x32_0_1_2 : (⟨S1x20000x1, .f32⟩ : BufTy).Contents (Elt F) → (⟨S4x20000x32, .f32⟩ : BufTy).Contents (Elt F)),
    unary main_v85 main_v88 (broadcastInDim S4x20000x32 ![0, 1, 2] bcast_S4x1x32_S4x20000x32_0_1_2 : (⟨S4x1x32, .f32⟩ : BufTy).Contents (Elt F) → (⟨S4x20000x32, .f32⟩ : BufTy).Contents (Elt F)),
    binary main_v87 main_v88 main_v89 (addf : (⟨S4x20000x32, .f32⟩ : BufTy).Contents (Elt F) → (⟨S4x20000x32, .f32⟩ : BufTy).Contents (Elt F) → (⟨S4x20000x32, .f32⟩ : BufTy).Contents (Elt F)),
    binary main_v89 main_v84 main_v90 (subf : (⟨S4x20000x32, .f32⟩ : BufTy).Contents (Elt F) → (⟨S4x20000x32, .f32⟩ : BufTy).Contents (Elt F) → (⟨S4x20000x32, .f32⟩ : BufTy).Contents (Elt F)),
    nullary main_cst_6 (constant S_ .f32 0x322BCC77#32),
    unary main_cst_6 main_v91 (broadcastInDim S4x20000x32 ![] bcast_S_S4x20000x32 : (⟨S_, .f32⟩ : BufTy).Contents (Elt F) → (⟨S4x20000x32, .f32⟩ : BufTy).Contents (Elt F)),
    binary main_v90 main_v91 main_v92 (maximumf : (⟨S4x20000x32, .f32⟩ : BufTy).Contents (Elt F) → (⟨S4x20000x32, .f32⟩ : BufTy).Contents (Elt F) → (⟨S4x20000x32, .f32⟩ : BufTy).Contents (Elt F)),
    binary main_v84 main_v92 main_v93 (Host.divf : (⟨S4x20000x32, .f32⟩ : BufTy).Contents (Elt F) → (⟨S4x20000x32, .f32⟩ : BufTy).Contents (Elt F) → (⟨S4x20000x32, .f32⟩ : BufTy).Contents (Elt F)) ]

/-- Operations 108 to 129. -/
abbrev ops3 : List (HloOp τ sig (Elt F)) :=
  [ nullary main_cst_7 (constant S_ .f32 0xFF800000#32),
    binary main_v93 main_cst_7 main_v94 ((fun x v => Host.reduce FloatOps.maximumf x v reducesTo_S4x20000x32_S4x20000_d2 h_S_) : (⟨S4x20000x32, .f32⟩ : BufTy).Contents (Elt F) → (⟨S_, .f32⟩ : BufTy).Contents (Elt F) → (⟨S4x20000, .f32⟩ : BufTy).Contents (Elt F)),
    nullary main_call1_v0 ((iotaInDim S4x20000x32 32 2) : (⟨S4x20000x32, .i32⟩ : BufTy).Contents (Elt F)),
    nullary main_call1_cst ((constant S_ .f32 0xFF800000#32) : (⟨S_, .f32⟩ : BufTy).Contents (Elt F)),
    nullary main_call1_c ((constantI S_ 32 0#32) : (⟨S_, .i32⟩ : BufTy).Contents (Elt F)),
    quaternary main_v93 main_call1_v0 main_call1_cst main_call1_c main_call1_v1_0 ((fun x y u v j => (Host.argReduce reducer_argmax_f32_i32 x y u v reducesTo_S4x20000x32_S4x20000_d2 h_S_ j).1) : (⟨S4x20000x32, .f32⟩ : BufTy).Contents (Elt F) → (⟨S4x20000x32, .i32⟩ : BufTy).Contents (Elt F) → (⟨S_, .f32⟩ : BufTy).Contents (Elt F) → (⟨S_, .i32⟩ : BufTy).Contents (Elt F) → (⟨S4x20000, .f32⟩ : BufTy).Contents (Elt F)),
    quaternary main_v93 main_call1_v0 main_call1_cst main_call1_c main_v95 ((fun x y u v j => (Host.argReduce reducer_argmax_f32_i32 x y u v reducesTo_S4x20000x32_S4x20000_d2 h_S_ j).2) : (⟨S4x20000x32, .f32⟩ : BufTy).Contents (Elt F) → (⟨S4x20000x32, .i32⟩ : BufTy).Contents (Elt F) → (⟨S_, .f32⟩ : BufTy).Contents (Elt F) → (⟨S_, .i32⟩ : BufTy).Contents (Elt F) → (⟨S4x20000, .i32⟩ : BufTy).Contents (Elt F)),
    nullary main_cst_8 (constant S_ .f32 0x3F000000#32),
    unary main_cst_8 main_v96 (broadcastInDim S4x20000 ![] bcast_S_S4x20000 : (⟨S_, .f32⟩ : BufTy).Contents (Elt F) → (⟨S4x20000, .f32⟩ : BufTy).Contents (Elt F)),
    binary main_v94 main_v96 main_v97 (cmpf .oge : (⟨S4x20000, .f32⟩ : BufTy).Contents (Elt F) → (⟨S4x20000, .f32⟩ : BufTy).Contents (Elt F) → (⟨S4x20000, .i1⟩ : BufTy).Contents (Elt F)),
    nullary main_cst_9 (constant S_ .f32 0x3ECCCCCD#32),
    unary main_cst_9 main_v98 (broadcastInDim S4x20000 ![] bcast_S_S4x20000 : (⟨S_, .f32⟩ : BufTy).Contents (Elt F) → (⟨S4x20000, .f32⟩ : BufTy).Contents (Elt F)),
    binary main_v94 main_v98 main_v99 (cmpf .olt : (⟨S4x20000, .f32⟩ : BufTy).Contents (Elt F) → (⟨S4x20000, .f32⟩ : BufTy).Contents (Elt F) → (⟨S4x20000, .i1⟩ : BufTy).Contents (Elt F)),
    nullary main_c (constantI S_ 32 0#32),
    unary main_c main_v100 (broadcastInDim S4x20000 ![] bcast_S_S4x20000 : (⟨S_, .i32⟩ : BufTy).Contents (Elt F) → (⟨S4x20000, .i32⟩ : BufTy).Contents (Elt F)),
    binary main_v95 main_v100 main_v101 (cmpi .slt : (⟨S4x20000, .i32⟩ : BufTy).Contents (Elt F) → (⟨S4x20000, .i32⟩ : BufTy).Contents (Elt F) → (⟨S4x20000, .i1⟩ : BufTy).Contents (Elt F)),
    nullary main_c_10 (constantI S_ 32 32#32),
    unary main_c_10 main_v102 (broadcastInDim S4x20000 ![] bcast_S_S4x20000 : (⟨S_, .i32⟩ : BufTy).Contents (Elt F) → (⟨S4x20000, .i32⟩ : BufTy).Contents (Elt F)),
    binary main_v95 main_v102 main_v103 (addi : (⟨S4x20000, .i32⟩ : BufTy).Contents (Elt F) → (⟨S4x20000, .i32⟩ : BufTy).Contents (Elt F) → (⟨S4x20000, .i32⟩ : BufTy).Contents (Elt F)),
    ternary main_v101 main_v103 main_v95 main_v104 (select : (⟨S4x20000, .i1⟩ : BufTy).Contents (Elt F) → (⟨S4x20000, .i32⟩ : BufTy).Contents (Elt F) → (⟨S4x20000, .i32⟩ : BufTy).Contents (Elt F) → (⟨S4x20000, .i32⟩ : BufTy).Contents (Elt F)),
    unary main_v104 main_v105 (broadcastInDim S4x20000x1 ![0, 1] bcast_S4x20000_S4x20000x1_0_1 : (⟨S4x20000, .i32⟩ : BufTy).Contents (Elt F) → (⟨S4x20000x1, .i32⟩ : BufTy).Contents (Elt F)),
    binary main_arg3 main_v105 main_v106 ((fun x i => Host.gather gather_S4x32x5_S4x20000x1_S4x20000x5_2_1_0_0_1_2_115 x i) : (⟨S4x32x5, .f32⟩ : BufTy).Contents (Elt F) → (⟨S4x20000x1, .i32⟩ : BufTy).Contents (Elt F) → (⟨S4x20000x5, .f32⟩ : BufTy).Contents (Elt F)) ]

/-- Operations 130 to 156. -/
abbrev ops4 : List (HloOp τ sig (Elt F)) :=
  [ unary main_v106 main_v107 ((extractStridedSlice S4x20000x1 ![0, 0, 4] · slices_S4x20000x5_S4x20000x1_0_0_4) : (⟨S4x20000x5, .f32⟩ : BufTy).Contents (Elt F) → (⟨S4x20000x1, .f32⟩ : BufTy).Contents (Elt F)),
    reshape main_v107 main_v108 (rfl : (.f32 : EltTy) = .f32) shapeCasts_S4x20000x1_S4x20000,
    unary main_v108 main_v109 (fptosi 32 : (⟨S4x20000, .f32⟩ : BufTy).Contents (Elt F) → (⟨S4x20000, .i32⟩ : BufTy).Contents (Elt F)),
    unary main_v109 main_call2_v0 ((broadcastInDim S4x20000x1 ![0, 1] bcast_S4x20000_S4x20000x1_0_1) : (⟨S4x20000, .i32⟩ : BufTy).Contents (Elt F) → (⟨S4x20000x1, .i32⟩ : BufTy).Contents (Elt F)),
    nullary main_call2_v1 ((iotaInDim S1x80 32 1) : (⟨S1x80, .i32⟩ : BufTy).Contents (Elt F)),
    unary main_call2_v1 main_call2_v2 ((broadcastInDim S1x1x80 ![1, 2] bcast_S1x80_S1x1x80_1_2) : (⟨S1x80, .i32⟩ : BufTy).Contents (Elt F) → (⟨S1x1x80, .i32⟩ : BufTy).Contents (Elt F)),
    unary main_call2_v0 main_call2_v3 ((broadcastInDim S4x20000x80 ![0, 1, 2] bcast_S4x20000x1_S4x20000x80_0_1_2) : (⟨S4x20000x1, .i32⟩ : BufTy).Contents (Elt F) → (⟨S4x20000x80, .i32⟩ : BufTy).Contents (Elt F)),
    unary main_call2_v2 main_call2_v4 ((broadcastInDim S4x20000x80 ![0, 1, 2] bcast_S1x1x80_S4x20000x80_0_1_2) : (⟨S1x1x80, .i32⟩ : BufTy).Contents (Elt F) → (⟨S4x20000x80, .i32⟩ : BufTy).Contents (Elt F)),
    binary main_call2_v3 main_call2_v4 main_call2_v5 ((cmpi .eq) : (⟨S4x20000x80, .i32⟩ : BufTy).Contents (Elt F) → (⟨S4x20000x80, .i32⟩ : BufTy).Contents (Elt F) → (⟨S4x20000x80, .i1⟩ : BufTy).Contents (Elt F)),
    unary main_call2_v5 main_v110 ((uitofp .f32) : (⟨S4x20000x80, .i1⟩ : BufTy).Contents (Elt F) → (⟨S4x20000x80, .f32⟩ : BufTy).Contents (Elt F)),
    unary main_v97 main_v111 (broadcastInDim S4x20000x1 ![0, 1] bcast_S4x20000_S4x20000x1_0_1 : (⟨S4x20000, .i1⟩ : BufTy).Contents (Elt F) → (⟨S4x20000x1, .i1⟩ : BufTy).Contents (Elt F)),
    unary main_v99 main_v112 (broadcastInDim S4x20000x1 ![0, 1] bcast_S4x20000_S4x20000x1_0_1 : (⟨S4x20000, .i1⟩ : BufTy).Contents (Elt F) → (⟨S4x20000x1, .i1⟩ : BufTy).Contents (Elt F)),
    nullary main_cst_11 (constant S_ .f32 0x00000000#32),
    nullary main_cst_12 (constant S_ .f32 0xBF800000#32),
    unary main_cst_11 main_call3_v0 ((broadcastInDim S20000x1 ![] bcast_S_S20000x1) : (⟨S_, .f32⟩ : BufTy).Contents (Elt F) → (⟨S20000x1, .f32⟩ : BufTy).Contents (Elt F)),
    unary main_cst_12 main_call3_v1 ((broadcastInDim S20000x1 ![] bcast_S_S20000x1) : (⟨S_, .f32⟩ : BufTy).Contents (Elt F) → (⟨S20000x1, .f32⟩ : BufTy).Contents (Elt F)),
    unary main_call3_v1 main_call3_v2 ((broadcastInDim S4x20000x1 ![1, 2] bcast_S20000x1_S4x20000x1_1_2) : (⟨S20000x1, .f32⟩ : BufTy).Contents (Elt F) → (⟨S4x20000x1, .f32⟩ : BufTy).Contents (Elt F)),
    unary main_call3_v0 main_call3_v3 ((broadcastInDim S4x20000x1 ![1, 2] bcast_S20000x1_S4x20000x1_1_2) : (⟨S20000x1, .f32⟩ : BufTy).Contents (Elt F) → (⟨S4x20000x1, .f32⟩ : BufTy).Contents (Elt F)),
    ternary main_v112 main_call3_v3 main_call3_v2 main_v113 (select : (⟨S4x20000x1, .i1⟩ : BufTy).Contents (Elt F) → (⟨S4x20000x1, .f32⟩ : BufTy).Contents (Elt F) → (⟨S4x20000x1, .f32⟩ : BufTy).Contents (Elt F) → (⟨S4x20000x1, .f32⟩ : BufTy).Contents (Elt F)),
    unary main_v113 main_call4_v0 (id : (⟨S4x20000x1, .f32⟩ : BufTy).Contents (Elt F) → (⟨S4x20000x1, .f32⟩ : BufTy).Contents (Elt F)),
    unary main_v111 main_call4_v1 ((broadcastInDim S4x20000x80 ![0, 1, 2] bcast_S4x20000x1_S4x20000x80_0_1_2) : (⟨S4x20000x1, .i1⟩ : BufTy).Contents (Elt F) → (⟨S4x20000x80, .i1⟩ : BufTy).Contents (Elt F)),
    unary main_call4_v0 main_call4_v2 ((broadcastInDim S4x20000x80 ![0, 1, 2] bcast_S4x20000x1_S4x20000x80_0_1_2) : (⟨S4x20000x1, .f32⟩ : BufTy).Contents (Elt F) → (⟨S4x20000x80, .f32⟩ : BufTy).Contents (Elt F)),
    ternary main_call4_v1 main_v110 main_call4_v2 main_v114 (select : (⟨S4x20000x80, .i1⟩ : BufTy).Contents (Elt F) → (⟨S4x20000x80, .f32⟩ : BufTy).Contents (Elt F) → (⟨S4x20000x80, .f32⟩ : BufTy).Contents (Elt F) → (⟨S4x20000x80, .f32⟩ : BufTy).Contents (Elt F)),
    unary main_v97 main_v115 ((extui 32 · natLt_1_32) : (⟨S4x20000, .i1⟩ : BufTy).Contents (Elt F) → (⟨S4x20000, .i32⟩ : BufTy).Contents (Elt F)),
    nullary main_c_13 (constantI S_ 32 0#32),
    binary main_v115 main_c_13 main_v116 ((fun x v => Host.reduce IntOp.addi x v reducesTo_S4x20000_S4_d1 h_S_) : (⟨S4x20000, .i32⟩ : BufTy).Contents (Elt F) → (⟨S_, .i32⟩ : BufTy).Contents (Elt F) → (⟨S4, .i32⟩ : BufTy).Contents (Elt F)),
    unary main_v116 main_v117 (sitofp .f32 : (⟨S4, .i32⟩ : BufTy).Contents (Elt F) → (⟨S4, .f32⟩ : BufTy).Contents (Elt F)) ]

/-- Operations 157 to 199. -/
abbrev ops5 : List (HloOp τ sig (Elt F)) :=
  [ nullary main_cst_14 (constant S_ .f32 0x3F800000#32),
    unary main_cst_14 main_v118 (broadcastInDim S4x20000x80 ![] bcast_S_S4x20000x80 : (⟨S_, .f32⟩ : BufTy).Contents (Elt F) → (⟨S4x20000x80, .f32⟩ : BufTy).Contents (Elt F)),
    binary main_v114 main_v118 main_v119 (cmpf .oeq : (⟨S4x20000x80, .f32⟩ : BufTy).Contents (Elt F) → (⟨S4x20000x80, .f32⟩ : BufTy).Contents (Elt F) → (⟨S4x20000x80, .i1⟩ : BufTy).Contents (Elt F)),
    nullary main_cst_15 (constant S_ .f32 0x3E800000#32),
    nullary main_cst_16 (constant S_ .f32 0x3F400000#32),
    unary main_cst_15 main_call5_v0 ((broadcastInDim S20000x80 ![] bcast_S_S20000x80) : (⟨S_, .f32⟩ : BufTy).Contents (Elt F) → (⟨S20000x80, .f32⟩ : BufTy).Contents (Elt F)),
    unary main_cst_16 main_call5_v1 ((broadcastInDim S20000x80 ![] bcast_S_S20000x80) : (⟨S_, .f32⟩ : BufTy).Contents (Elt F) → (⟨S20000x80, .f32⟩ : BufTy).Contents (Elt F)),
    unary main_call5_v1 main_call5_v2 ((broadcastInDim S4x20000x80 ![1, 2] bcast_S20000x80_S4x20000x80_1_2) : (⟨S20000x80, .f32⟩ : BufTy).Contents (Elt F) → (⟨S4x20000x80, .f32⟩ : BufTy).Contents (Elt F)),
    unary main_call5_v0 main_call5_v3 ((broadcastInDim S4x20000x80 ![1, 2] bcast_S20000x80_S4x20000x80_1_2) : (⟨S20000x80, .f32⟩ : BufTy).Contents (Elt F) → (⟨S4x20000x80, .f32⟩ : BufTy).Contents (Elt F)),
    ternary main_v119 main_call5_v3 main_call5_v2 main_v120 (select : (⟨S4x20000x80, .i1⟩ : BufTy).Contents (Elt F) → (⟨S4x20000x80, .f32⟩ : BufTy).Contents (Elt F) → (⟨S4x20000x80, .f32⟩ : BufTy).Contents (Elt F) → (⟨S4x20000x80, .f32⟩ : BufTy).Contents (Elt F)),
    nullary main_cst_17 (constant S_ .f32 0x3F800000#32),
    unary main_cst_17 main_v121 (broadcastInDim S4x20000x80 ![] bcast_S_S4x20000x80 : (⟨S_, .f32⟩ : BufTy).Contents (Elt F) → (⟨S4x20000x80, .f32⟩ : BufTy).Contents (Elt F)),
    binary main_v114 main_v121 main_v122 (cmpf .oeq : (⟨S4x20000x80, .f32⟩ : BufTy).Contents (Elt F) → (⟨S4x20000x80, .f32⟩ : BufTy).Contents (Elt F) → (⟨S4x20000x80, .i1⟩ : BufTy).Contents (Elt F)),
    nullary main_cst_18 (constant S_ .f32 0x3F800000#32),
    unary main_cst_18 main_v123 (broadcastInDim S4x20000x80 ![] bcast_S_S4x20000x80 : (⟨S_, .f32⟩ : BufTy).Contents (Elt F) → (⟨S4x20000x80, .f32⟩ : BufTy).Contents (Elt F)),
    binary main_v123 main_v21 main_v124 (subf : (⟨S4x20000x80, .f32⟩ : BufTy).Contents (Elt F) → (⟨S4x20000x80, .f32⟩ : BufTy).Contents (Elt F) → (⟨S4x20000x80, .f32⟩ : BufTy).Contents (Elt F)),
    ternary main_v122 main_v124 main_v21 main_v125 (select : (⟨S4x20000x80, .i1⟩ : BufTy).Contents (Elt F) → (⟨S4x20000x80, .f32⟩ : BufTy).Contents (Elt F) → (⟨S4x20000x80, .f32⟩ : BufTy).Contents (Elt F) → (⟨S4x20000x80, .f32⟩ : BufTy).Contents (Elt F)),
    nullary main_cst_19 (constant S_ .f32 0x40000000#32),
    unary main_cst_19 main_v126 (broadcastInDim S4x20000x80 ![] bcast_S_S4x20000x80 : (⟨S_, .f32⟩ : BufTy).Contents (Elt F) → (⟨S4x20000x80, .f32⟩ : BufTy).Contents (Elt F)),
    binary main_v125 main_v126 main_v127 (Host.powf : (⟨S4x20000x80, .f32⟩ : BufTy).Contents (Elt F) → (⟨S4x20000x80, .f32⟩ : BufTy).Contents (Elt F) → (⟨S4x20000x80, .f32⟩ : BufTy).Contents (Elt F)),
    unary main_v120 main_v128 (id : (⟨S4x20000x80, .f32⟩ : BufTy).Contents (Elt F) → (⟨S4x20000x80, .f32⟩ : BufTy).Contents (Elt F)),
    binary main_v128 main_v127 main_v129 (mulf : (⟨S4x20000x80, .f32⟩ : BufTy).Contents (Elt F) → (⟨S4x20000x80, .f32⟩ : BufTy).Contents (Elt F) → (⟨S4x20000x80, .f32⟩ : BufTy).Contents (Elt F)),
    unary main_v21 main_v130 (Host.log : (⟨S4x20000x80, .f32⟩ : BufTy).Contents (Elt F) → (⟨S4x20000x80, .f32⟩ : BufTy).Contents (Elt F)),
    binary main_v114 main_v130 main_v131 (mulf : (⟨S4x20000x80, .f32⟩ : BufTy).Contents (Elt F) → (⟨S4x20000x80, .f32⟩ : BufTy).Contents (Elt F) → (⟨S4x20000x80, .f32⟩ : BufTy).Contents (Elt F)),
    nullary main_cst_20 (constant S_ .f32 0x3F800000#32),
    unary main_cst_20 main_v132 (broadcastInDim S4x20000x80 ![] bcast_S_S4x20000x80 : (⟨S_, .f32⟩ : BufTy).Contents (Elt F) → (⟨S4x20000x80, .f32⟩ : BufTy).Contents (Elt F)),
    binary main_v132 main_v114 main_v133 (subf : (⟨S4x20000x80, .f32⟩ : BufTy).Contents (Elt F) → (⟨S4x20000x80, .f32⟩ : BufTy).Contents (Elt F) → (⟨S4x20000x80, .f32⟩ : BufTy).Contents (Elt F)),
    nullary main_cst_21 (constant S_ .f32 0x3F800000#32),
    unary main_cst_21 main_v134 (broadcastInDim S4x20000x80 ![] bcast_S_S4x20000x80 : (⟨S_, .f32⟩ : BufTy).Contents (Elt F) → (⟨S4x20000x80, .f32⟩ : BufTy).Contents (Elt F)),
    binary main_v134 main_v21 main_v135 (subf : (⟨S4x20000x80, .f32⟩ : BufTy).Contents (Elt F) → (⟨S4x20000x80, .f32⟩ : BufTy).Contents (Elt F) → (⟨S4x20000x80, .f32⟩ : BufTy).Contents (Elt F)),
    unary main_v135 main_v136 (Host.log : (⟨S4x20000x80, .f32⟩ : BufTy).Contents (Elt F) → (⟨S4x20000x80, .f32⟩ : BufTy).Contents (Elt F)),
    binary main_v133 main_v136 main_v137 (mulf : (⟨S4x20000x80, .f32⟩ : BufTy).Contents (Elt F) → (⟨S4x20000x80, .f32⟩ : BufTy).Contents (Elt F) → (⟨S4x20000x80, .f32⟩ : BufTy).Contents (Elt F)),
    binary main_v131 main_v137 main_v138 (addf : (⟨S4x20000x80, .f32⟩ : BufTy).Contents (Elt F) → (⟨S4x20000x80, .f32⟩ : BufTy).Contents (Elt F) → (⟨S4x20000x80, .f32⟩ : BufTy).Contents (Elt F)),
    unary main_v138 main_v139 (Host.negf : (⟨S4x20000x80, .f32⟩ : BufTy).Contents (Elt F) → (⟨S4x20000x80, .f32⟩ : BufTy).Contents (Elt F)),
    nullary main_cst_22 (constant S_ .f32 0xBF800000#32),
    unary main_cst_22 main_v140 (broadcastInDim S4x20000x80 ![] bcast_S_S4x20000x80 : (⟨S_, .f32⟩ : BufTy).Contents (Elt F) → (⟨S4x20000x80, .f32⟩ : BufTy).Contents (Elt F)),
    binary main_v114 main_v140 main_v141 (cmpf .une : (⟨S4x20000x80, .f32⟩ : BufTy).Contents (Elt F) → (⟨S4x20000x80, .f32⟩ : BufTy).Contents (Elt F) → (⟨S4x20000x80, .i1⟩ : BufTy).Contents (Elt F)),
    binary main_v129 main_v139 main_v142 (mulf : (⟨S4x20000x80, .f32⟩ : BufTy).Contents (Elt F) → (⟨S4x20000x80, .f32⟩ : BufTy).Contents (Elt F) → (⟨S4x20000x80, .f32⟩ : BufTy).Contents (Elt F)),
    nullary main_cst_23 (constant S_ .f32 0x00000000#32),
    unary main_cst_23 main_call7_v0 (id : (⟨S_, .f32⟩ : BufTy).Contents (Elt F) → (⟨S_, .f32⟩ : BufTy).Contents (Elt F)),
    unary main_call7_v0 main_call7_v1 ((broadcastInDim S20000x80 ![] bcast_S_S20000x80) : (⟨S_, .f32⟩ : BufTy).Contents (Elt F) → (⟨S20000x80, .f32⟩ : BufTy).Contents (Elt F)),
    unary main_call7_v1 main_call7_v2 ((broadcastInDim S4x20000x80 ![1, 2] bcast_S20000x80_S4x20000x80_1_2) : (⟨S20000x80, .f32⟩ : BufTy).Contents (Elt F) → (⟨S4x20000x80, .f32⟩ : BufTy).Contents (Elt F)),
    ternary main_v141 main_v142 main_call7_v2 main_v143 (select : (⟨S4x20000x80, .i1⟩ : BufTy).Contents (Elt F) → (⟨S4x20000x80, .f32⟩ : BufTy).Contents (Elt F) → (⟨S4x20000x80, .f32⟩ : BufTy).Contents (Elt F) → (⟨S4x20000x80, .f32⟩ : BufTy).Contents (Elt F)) ]

/-- Operations 200 to 209. -/
abbrev ops6 : List (HloOp τ sig (Elt F)) :=
  [ unary main_v106 main_v144 ((extractStridedSlice S4x20000x1 ![0, 0, 2] · slices_S4x20000x5_S4x20000x1_0_0_2) : (⟨S4x20000x5, .f32⟩ : BufTy).Contents (Elt F) → (⟨S4x20000x1, .f32⟩ : BufTy).Contents (Elt F)),
    reshape main_v144 main_v145 (rfl : (.f32 : EltTy) = .f32) shapeCasts_S4x20000x1_S4x20000,
    unary main_v106 main_v146 ((extractStridedSlice S4x20000x1 ![0, 0, 0] · slices_S4x20000x5_S4x20000x1_0_0_0) : (⟨S4x20000x5, .f32⟩ : BufTy).Contents (Elt F) → (⟨S4x20000x1, .f32⟩ : BufTy).Contents (Elt F)),
    reshape main_v146 main_v147 (rfl : (.f32 : EltTy) = .f32) shapeCasts_S4x20000x1_S4x20000,
    binary main_v145 main_v147 main_v148 (subf : (⟨S4x20000, .f32⟩ : BufTy).Contents (Elt F) → (⟨S4x20000, .f32⟩ : BufTy).Contents (Elt F) → (⟨S4x20000, .f32⟩ : BufTy).Contents (Elt F)),
    unary main_v106 main_v149 ((extractStridedSlice S4x20000x1 ![0, 0, 3] · slices_S4x20000x5_S4x20000x1_0_0_3) : (⟨S4x20000x5, .f32⟩ : BufTy).Contents (Elt F) → (⟨S4x20000x1, .f32⟩ : BufTy).Contents (Elt F)),
    reshape main_v149 main_v150 (rfl : (.f32 : EltTy) = .f32) shapeCasts_S4x20000x1_S4x20000,
    unary main_v106 main_v151 ((extractStridedSlice S4x20000x1 ![0, 0, 1] · slices_S4x20000x5_S4x20000x1_0_0_1) : (⟨S4x20000x5, .f32⟩ : BufTy).Contents (Elt F) → (⟨S4x20000x1, .f32⟩ : BufTy).Contents (Elt F)),
    reshape main_v151 main_v152 (rfl : (.f32 : EltTy) = .f32) shapeCasts_S4x20000x1_S4x20000,
    binary main_v150 main_v152 main_v153 (subf : (⟨S4x20000, .f32⟩ : BufTy).Contents (Elt F) → (⟨S4x20000, .f32⟩ : BufTy).Contents (Elt F) → (⟨S4x20000, .f32⟩ : BufTy).Contents (Elt F)) ]

/-- Operations 210 to 252. -/
abbrev ops7 : List (HloOp τ sig (Elt F)) :=
  [ unary main_v106 main_v154 ((extractStridedSlice S4x20000x1 ![0, 0, 0] · slices_S4x20000x5_S4x20000x1_0_0_0) : (⟨S4x20000x5, .f32⟩ : BufTy).Contents (Elt F) → (⟨S4x20000x1, .f32⟩ : BufTy).Contents (Elt F)),
    reshape main_v154 main_v155 (rfl : (.f32 : EltTy) = .f32) shapeCasts_S4x20000x1_S4x20000,
    nullary main_cst_24 (constant S_ .f32 0x3F000000#32),
    unary main_cst_24 main_v156 (broadcastInDim S4x20000 ![] bcast_S_S4x20000 : (⟨S_, .f32⟩ : BufTy).Contents (Elt F) → (⟨S4x20000, .f32⟩ : BufTy).Contents (Elt F)),
    binary main_v156 main_v148 main_v157 (mulf : (⟨S4x20000, .f32⟩ : BufTy).Contents (Elt F) → (⟨S4x20000, .f32⟩ : BufTy).Contents (Elt F) → (⟨S4x20000, .f32⟩ : BufTy).Contents (Elt F)),
    binary main_v155 main_v157 main_v158 (addf : (⟨S4x20000, .f32⟩ : BufTy).Contents (Elt F) → (⟨S4x20000, .f32⟩ : BufTy).Contents (Elt F) → (⟨S4x20000, .f32⟩ : BufTy).Contents (Elt F)),
    unary main_v106 main_v159 ((extractStridedSlice S4x20000x1 ![0, 0, 1] · slices_S4x20000x5_S4x20000x1_0_0_1) : (⟨S4x20000x5, .f32⟩ : BufTy).Contents (Elt F) → (⟨S4x20000x1, .f32⟩ : BufTy).Contents (Elt F)),
    reshape main_v159 main_v160 (rfl : (.f32 : EltTy) = .f32) shapeCasts_S4x20000x1_S4x20000,
    nullary main_cst_25 (constant S_ .f32 0x3F000000#32),
    unary main_cst_25 main_v161 (broadcastInDim S4x20000 ![] bcast_S_S4x20000 : (⟨S_, .f32⟩ : BufTy).Contents (Elt F) → (⟨S4x20000, .f32⟩ : BufTy).Contents (Elt F)),
    binary main_v161 main_v153 main_v162 (mulf : (⟨S4x20000, .f32⟩ : BufTy).Contents (Elt F) → (⟨S4x20000, .f32⟩ : BufTy).Contents (Elt F) → (⟨S4x20000, .f32⟩ : BufTy).Contents (Elt F)),
    binary main_v160 main_v162 main_v163 (addf : (⟨S4x20000, .f32⟩ : BufTy).Contents (Elt F) → (⟨S4x20000, .f32⟩ : BufTy).Contents (Elt F) → (⟨S4x20000, .f32⟩ : BufTy).Contents (Elt F)),
    nullary main_cst_26 (constant S_ .f32 0x3F800000#32),
    unary main_cst_26 main_v164 (broadcastInDim S4x20000 ![] bcast_S_S4x20000 : (⟨S_, .f32⟩ : BufTy).Contents (Elt F) → (⟨S4x20000, .f32⟩ : BufTy).Contents (Elt F)),
    binary main_v148 main_v164 main_v165 (maximumf : (⟨S4x20000, .f32⟩ : BufTy).Contents (Elt F) → (⟨S4x20000, .f32⟩ : BufTy).Contents (Elt F) → (⟨S4x20000, .f32⟩ : BufTy).Contents (Elt F)),
    nullary main_cst_27 (constant S_ .f32 0x3F800000#32),
    unary main_cst_27 main_v166 (broadcastInDim S4x20000 ![] bcast_S_S4x20000 : (⟨S_, .f32⟩ : BufTy).Contents (Elt F) → (⟨S4x20000, .f32⟩ : BufTy).Contents (Elt F)),
    binary main_v153 main_v166 main_v167 (maximumf : (⟨S4x20000, .f32⟩ : BufTy).Contents (Elt F) → (⟨S4x20000, .f32⟩ : BufTy).Contents (Elt F) → (⟨S4x20000, .f32⟩ : BufTy).Contents (Elt F)),
    unary main_v15 main_v168 (broadcastInDim S1x20000 ![1] bcast_S20000_S1x20000_1 : (⟨S20000, .f32⟩ : BufTy).Contents (Elt F) → (⟨S1x20000, .f32⟩ : BufTy).Contents (Elt F)),
    unary main_v168 main_v169 (broadcastInDim S4x20000 ![0, 1] bcast_S1x20000_S4x20000_0_1 : (⟨S1x20000, .f32⟩ : BufTy).Contents (Elt F) → (⟨S4x20000, .f32⟩ : BufTy).Contents (Elt F)),
    binary main_v158 main_v169 main_v170 (subf : (⟨S4x20000, .f32⟩ : BufTy).Contents (Elt F) → (⟨S4x20000, .f32⟩ : BufTy).Contents (Elt F) → (⟨S4x20000, .f32⟩ : BufTy).Contents (Elt F)),
    unary main_v5 main_v171 (broadcastInDim S1x20000 ![1] bcast_S20000_S1x20000_1 : (⟨S20000, .f32⟩ : BufTy).Contents (Elt F) → (⟨S1x20000, .f32⟩ : BufTy).Contents (Elt F)),
    unary main_v171 main_v172 (broadcastInDim S4x20000 ![0, 1] bcast_S1x20000_S4x20000_0_1 : (⟨S1x20000, .f32⟩ : BufTy).Contents (Elt F) → (⟨S4x20000, .f32⟩ : BufTy).Contents (Elt F)),
    binary main_v170 main_v172 main_v173 (Host.divf : (⟨S4x20000, .f32⟩ : BufTy).Contents (Elt F) → (⟨S4x20000, .f32⟩ : BufTy).Contents (Elt F) → (⟨S4x20000, .f32⟩ : BufTy).Contents (Elt F)),
    unary main_v20 main_v174 (broadcastInDim S1x20000 ![1] bcast_S20000_S1x20000_1 : (⟨S20000, .f32⟩ : BufTy).Contents (Elt F) → (⟨S1x20000, .f32⟩ : BufTy).Contents (Elt F)),
    unary main_v174 main_v175 (broadcastInDim S4x20000 ![0, 1] bcast_S1x20000_S4x20000_0_1 : (⟨S1x20000, .f32⟩ : BufTy).Contents (Elt F) → (⟨S4x20000, .f32⟩ : BufTy).Contents (Elt F)),
    binary main_v163 main_v175 main_v176 (subf : (⟨S4x20000, .f32⟩ : BufTy).Contents (Elt F) → (⟨S4x20000, .f32⟩ : BufTy).Contents (Elt F) → (⟨S4x20000, .f32⟩ : BufTy).Contents (Elt F)),
    unary main_v10 main_v177 (broadcastInDim S1x20000 ![1] bcast_S20000_S1x20000_1 : (⟨S20000, .f32⟩ : BufTy).Contents (Elt F) → (⟨S1x20000, .f32⟩ : BufTy).Contents (Elt F)),
    unary main_v177 main_v178 (broadcastInDim S4x20000 ![0, 1] bcast_S1x20000_S4x20000_0_1 : (⟨S1x20000, .f32⟩ : BufTy).Contents (Elt F) → (⟨S4x20000, .f32⟩ : BufTy).Contents (Elt F)),
    binary main_v176 main_v178 main_v179 (Host.divf : (⟨S4x20000, .f32⟩ : BufTy).Contents (Elt F) → (⟨S4x20000, .f32⟩ : BufTy).Contents (Elt F) → (⟨S4x20000, .f32⟩ : BufTy).Contents (Elt F)),
    unary main_v5 main_v180 (broadcastInDim S1x20000 ![1] bcast_S20000_S1x20000_1 : (⟨S20000, .f32⟩ : BufTy).Contents (Elt F) → (⟨S1x20000, .f32⟩ : BufTy).Contents (Elt F)),
    unary main_v180 main_v181 (broadcastInDim S4x20000 ![0, 1] bcast_S1x20000_S4x20000_0_1 : (⟨S1x20000, .f32⟩ : BufTy).Contents (Elt F) → (⟨S4x20000, .f32⟩ : BufTy).Contents (Elt F)),
    binary main_v165 main_v181 main_v182 (Host.divf : (⟨S4x20000, .f32⟩ : BufTy).Contents (Elt F) → (⟨S4x20000, .f32⟩ : BufTy).Contents (Elt F) → (⟨S4x20000, .f32⟩ : BufTy).Contents (Elt F)),
    unary main_v182 main_v183 (Host.log : (⟨S4x20000, .f32⟩ : BufTy).Contents (Elt F) → (⟨S4x20000, .f32⟩ : BufTy).Contents (Elt F)),
    unary main_v10 main_v184 (broadcastInDim S1x20000 ![1] bcast_S20000_S1x20000_1 : (⟨S20000, .f32⟩ : BufTy).Contents (Elt F) → (⟨S1x20000, .f32⟩ : BufTy).Contents (Elt F)),
    unary main_v184 main_v185 (broadcastInDim S4x20000 ![0, 1] bcast_S1x20000_S4x20000_0_1 : (⟨S1x20000, .f32⟩ : BufTy).Contents (Elt F) → (⟨S4x20000, .f32⟩ : BufTy).Contents (Elt F)),
    binary main_v167 main_v185 main_v186 (Host.divf : (⟨S4x20000, .f32⟩ : BufTy).Contents (Elt F) → (⟨S4x20000, .f32⟩ : BufTy).Contents (Elt F) → (⟨S4x20000, .f32⟩ : BufTy).Contents (Elt F)),
    unary main_v186 main_v187 (Host.log : (⟨S4x20000, .f32⟩ : BufTy).Contents (Elt F) → (⟨S4x20000, .f32⟩ : BufTy).Contents (Elt F)),
    unary main_v173 main_v188 (broadcastInDim S4x20000x1 ![0, 1] bcast_S4x20000_S4x20000x1_0_1 : (⟨S4x20000, .f32⟩ : BufTy).Contents (Elt F) → (⟨S4x20000x1, .f32⟩ : BufTy).Contents (Elt F)),
    unary main_v179 main_v189 (broadcastInDim S4x20000x1 ![0, 1] bcast_S4x20000_S4x20000x1_0_1 : (⟨S4x20000, .f32⟩ : BufTy).Contents (Elt F) → (⟨S4x20000x1, .f32⟩ : BufTy).Contents (Elt F)),
    unary main_v183 main_v190 (broadcastInDim S4x20000x1 ![0, 1] bcast_S4x20000_S4x20000x1_0_1 : (⟨S4x20000, .f32⟩ : BufTy).Contents (Elt F) → (⟨S4x20000x1, .f32⟩ : BufTy).Contents (Elt F)),
    unary main_v187 main_v191 (broadcastInDim S4x20000x1 ![0, 1] bcast_S4x20000_S4x20000x1_0_1 : (⟨S4x20000, .f32⟩ : BufTy).Contents (Elt F) → (⟨S4x20000x1, .f32⟩ : BufTy).Contents (Elt F)),
    nary ![main_v188, main_v189, main_v190, main_v191] main_v192 (fun u => fn_concat (u 0) (u 1) (u 2) (u 3)) ]

/-- Operations 253 to 269. -/
abbrev ops8 : List (HloOp τ sig (Elt F)) :=
  [ unary main_cst main_v193 (broadcastInDim S1x1x4 ![1, 2] bcast_S1x4_S1x1x4_1_2 : (⟨S1x4, .f32⟩ : BufTy).Contents (Elt F) → (⟨S1x1x4, .f32⟩ : BufTy).Contents (Elt F)),
    unary main_v193 main_v194 (broadcastInDim S4x20000x4 ![0, 1, 2] bcast_S1x1x4_S4x20000x4_0_1_2 : (⟨S1x1x4, .f32⟩ : BufTy).Contents (Elt F) → (⟨S4x20000x4, .f32⟩ : BufTy).Contents (Elt F)),
    binary main_v192 main_v194 main_v195 (Host.divf : (⟨S4x20000x4, .f32⟩ : BufTy).Contents (Elt F) → (⟨S4x20000x4, .f32⟩ : BufTy).Contents (Elt F) → (⟨S4x20000x4, .f32⟩ : BufTy).Contents (Elt F)),
    binary main_v195 main_arg1 main_v196 (subf : (⟨S4x20000x4, .f32⟩ : BufTy).Contents (Elt F) → (⟨S4x20000x4, .f32⟩ : BufTy).Contents (Elt F) → (⟨S4x20000x4, .f32⟩ : BufTy).Contents (Elt F)),
    unary main_v196 main_v197 (Host.absf : (⟨S4x20000x4, .f32⟩ : BufTy).Contents (Elt F) → (⟨S4x20000x4, .f32⟩ : BufTy).Contents (Elt F)),
    nullary main_cst_28 (constant S_ .f32 0x3DE38E39#32),
    unary main_cst_28 main_v198 (broadcastInDim S4x20000x4 ![] bcast_S_S4x20000x4 : (⟨S_, .f32⟩ : BufTy).Contents (Elt F) → (⟨S4x20000x4, .f32⟩ : BufTy).Contents (Elt F)),
    binary main_v197 main_v198 main_v199 (cmpf .ole : (⟨S4x20000x4, .f32⟩ : BufTy).Contents (Elt F) → (⟨S4x20000x4, .f32⟩ : BufTy).Contents (Elt F) → (⟨S4x20000x4, .i1⟩ : BufTy).Contents (Elt F)),
    binary main_v197 main_v197 main_v200 (mulf : (⟨S4x20000x4, .f32⟩ : BufTy).Contents (Elt F) → (⟨S4x20000x4, .f32⟩ : BufTy).Contents (Elt F) → (⟨S4x20000x4, .f32⟩ : BufTy).Contents (Elt F)),
    nullary main_cst_29 (constant S_ .f32 0x40900000#32),
    unary main_cst_29 main_v201 (broadcastInDim S4x20000x4 ![] bcast_S_S4x20000x4 : (⟨S_, .f32⟩ : BufTy).Contents (Elt F) → (⟨S4x20000x4, .f32⟩ : BufTy).Contents (Elt F)),
    binary main_v201 main_v200 main_v202 (mulf : (⟨S4x20000x4, .f32⟩ : BufTy).Contents (Elt F) → (⟨S4x20000x4, .f32⟩ : BufTy).Contents (Elt F) → (⟨S4x20000x4, .f32⟩ : BufTy).Contents (Elt F)),
    nullary main_cst_30 (constant S_ .f32 0x3D638E39#32),
    unary main_cst_30 main_v203 (broadcastInDim S4x20000x4 ![] bcast_S_S4x20000x4 : (⟨S_, .f32⟩ : BufTy).Contents (Elt F) → (⟨S4x20000x4, .f32⟩ : BufTy).Contents (Elt F)),
    binary main_v197 main_v203 main_v204 (subf : (⟨S4x20000x4, .f32⟩ : BufTy).Contents (Elt F) → (⟨S4x20000x4, .f32⟩ : BufTy).Contents (Elt F) → (⟨S4x20000x4, .f32⟩ : BufTy).Contents (Elt F)),
    ternary main_v199 main_v202 main_v204 main_v205 (select : (⟨S4x20000x4, .i1⟩ : BufTy).Contents (Elt F) → (⟨S4x20000x4, .f32⟩ : BufTy).Contents (Elt F) → (⟨S4x20000x4, .f32⟩ : BufTy).Contents (Elt F) → (⟨S4x20000x4, .f32⟩ : BufTy).Contents (Elt F)),
    unary main_v97 main_v206 (broadcastInDim S4x20000x1 ![0, 1] bcast_S4x20000_S4x20000x1_0_1 : (⟨S4x20000, .i1⟩ : BufTy).Contents (Elt F) → (⟨S4x20000x1, .i1⟩ : BufTy).Contents (Elt F)) ]

/-- Operations 270 to 299. -/
abbrev ops9 : List (HloOp τ sig (Elt F)) :=
  [ unary main_v206 main_v207 (uitofp .f32 : (⟨S4x20000x1, .i1⟩ : BufTy).Contents (Elt F) → (⟨S4x20000x1, .f32⟩ : BufTy).Contents (Elt F)),
    unary main_v207 main_v208 (broadcastInDim S4x20000x4 ![0, 1, 2] bcast_S4x20000x1_S4x20000x4_0_1_2 : (⟨S4x20000x1, .f32⟩ : BufTy).Contents (Elt F) → (⟨S4x20000x4, .f32⟩ : BufTy).Contents (Elt F)),
    binary main_v205 main_v208 main_v209 (mulf : (⟨S4x20000x4, .f32⟩ : BufTy).Contents (Elt F) → (⟨S4x20000x4, .f32⟩ : BufTy).Contents (Elt F) → (⟨S4x20000x4, .f32⟩ : BufTy).Contents (Elt F)),
    nullary main_cst_31 (constant S_ .f32 0x00000000#32),
    binary main_v143 main_cst_31 main_v210 ((fun x v => Host.reduceAdd x v reducesTo_S4x20000x80_S4_d1_2 h_S_) : (⟨S4x20000x80, .f32⟩ : BufTy).Contents (Elt F) → (⟨S_, .f32⟩ : BufTy).Contents (Elt F) → (⟨S4, .f32⟩ : BufTy).Contents (Elt F)),
    nullary main_cst_32 (constant S_ .f32 0x3F800000#32),
    unary main_cst_32 main_v211 (broadcastInDim S4 ![] bcast_S_S4 : (⟨S_, .f32⟩ : BufTy).Contents (Elt F) → (⟨S4, .f32⟩ : BufTy).Contents (Elt F)),
    binary main_v117 main_v211 main_v212 (maximumf : (⟨S4, .f32⟩ : BufTy).Contents (Elt F) → (⟨S4, .f32⟩ : BufTy).Contents (Elt F) → (⟨S4, .f32⟩ : BufTy).Contents (Elt F)),
    binary main_v210 main_v212 main_v213 (Host.divf : (⟨S4, .f32⟩ : BufTy).Contents (Elt F) → (⟨S4, .f32⟩ : BufTy).Contents (Elt F) → (⟨S4, .f32⟩ : BufTy).Contents (Elt F)),
    nullary main_cst_33 (constant S_ .f32 0x00000000#32),
    binary main_v209 main_cst_33 main_v214 ((fun x v => Host.reduceAdd x v reducesTo_S4x20000x4_S4_d1_2 h_S_) : (⟨S4x20000x4, .f32⟩ : BufTy).Contents (Elt F) → (⟨S_, .f32⟩ : BufTy).Contents (Elt F) → (⟨S4, .f32⟩ : BufTy).Contents (Elt F)),
    nullary main_cst_34 (constant S_ .f32 0x40800000#32),
    unary main_cst_34 main_v215 (broadcastInDim S4 ![] bcast_S_S4 : (⟨S_, .f32⟩ : BufTy).Contents (Elt F) → (⟨S4, .f32⟩ : BufTy).Contents (Elt F)),
    binary main_v117 main_v215 main_v216 (mulf : (⟨S4, .f32⟩ : BufTy).Contents (Elt F) → (⟨S4, .f32⟩ : BufTy).Contents (Elt F) → (⟨S4, .f32⟩ : BufTy).Contents (Elt F)),
    nullary main_cst_35 (constant S_ .f32 0x3F800000#32),
    unary main_cst_35 main_v217 (broadcastInDim S4 ![] bcast_S_S4 : (⟨S_, .f32⟩ : BufTy).Contents (Elt F) → (⟨S4, .f32⟩ : BufTy).Contents (Elt F)),
    binary main_v216 main_v217 main_v218 (maximumf : (⟨S4, .f32⟩ : BufTy).Contents (Elt F) → (⟨S4, .f32⟩ : BufTy).Contents (Elt F) → (⟨S4, .f32⟩ : BufTy).Contents (Elt F)),
    binary main_v214 main_v218 main_v219 (Host.divf : (⟨S4, .f32⟩ : BufTy).Contents (Elt F) → (⟨S4, .f32⟩ : BufTy).Contents (Elt F) → (⟨S4, .f32⟩ : BufTy).Contents (Elt F)),
    nullary main_cst_36 (constant S_ .f32 0x00000000#32),
    binary main_v213 main_cst_36 main_v220 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    unary main_v220 main_v221 (broadcastInDim S1 ![] bcast_S_S1 : (⟨S_, .f32⟩ : BufTy).Contents (Elt F) → (⟨S1, .f32⟩ : BufTy).Contents (Elt F)),
    nullary main_cst_37 (constant S_ .f32 0x40800000#32),
    unary main_cst_37 main_v222 (broadcastInDim S1 ![] bcast_S_S1 : (⟨S_, .f32⟩ : BufTy).Contents (Elt F) → (⟨S1, .f32⟩ : BufTy).Contents (Elt F)),
    binary main_v221 main_v222 main_v223 (Host.divf : (⟨S1, .f32⟩ : BufTy).Contents (Elt F) → (⟨S1, .f32⟩ : BufTy).Contents (Elt F) → (⟨S1, .f32⟩ : BufTy).Contents (Elt F)),
    nullary main_cst_38 (constant S_ .f32 0x00000000#32),
    binary main_v219 main_cst_38 main_v224 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    unary main_v224 main_v225 (broadcastInDim S1 ![] bcast_S_S1 : (⟨S_, .f32⟩ : BufTy).Contents (Elt F) → (⟨S1, .f32⟩ : BufTy).Contents (Elt F)),
    nullary main_cst_39 (constant S_ .f32 0x40800000#32),
    unary main_cst_39 main_v226 (broadcastInDim S1 ![] bcast_S_S1 : (⟨S_, .f32⟩ : BufTy).Contents (Elt F) → (⟨S1, .f32⟩ : BufTy).Contents (Elt F)),
    binary main_v225 main_v226 main_v227 (Host.divf : (⟨S1, .f32⟩ : BufTy).Contents (Elt F) → (⟨S1, .f32⟩ : BufTy).Contents (Elt F) → (⟨S1, .f32⟩ : BufTy).Contents (Elt F)) ]

/-- The operations of one printed part. -/
def opsP0 : List (HloOp τ sig (Elt F)) :=
  ops0 ++ (ops1)

/-- The operations of one printed part. -/
def opsP1 : List (HloOp τ sig (Elt F)) :=
  ops2 ++ (ops3)

/-- The operations of one printed part. -/
def opsP2 : List (HloOp τ sig (Elt F)) :=
  ops4 ++ (ops5 ++ (ops6))

/-- The operations of one printed part. -/
def opsP3 : List (HloOp τ sig (Elt F)) :=
  ops7 ++ (ops8)

/-- The operations of one printed part. -/
def opsP4 : List (HloOp τ sig (Elt F)) :=
  ops9

/-- All of them. -/
abbrev ops : List (HloOp τ sig (Elt F)) :=
  opsP0 ++ (opsP1 ++ (opsP2 ++ (opsP3 ++ (opsP4))))

set_option maxRecDepth 8192 in
set_option maxHeartbeats 4000000 in
/-- A part of the program runs its operations. -/
theorem main_part0_eq (c : Dev nD) : main_part0 (F := F) c = seq opsP0 := rfl
set_option maxRecDepth 8192 in
set_option maxHeartbeats 4000000 in
/-- A part of the program runs its operations. -/
theorem main_part1_eq (c : Dev nD) : main_part1 (F := F) c = seq opsP1 := rfl
set_option maxRecDepth 8192 in
set_option maxHeartbeats 4000000 in
/-- A part of the program runs its operations. -/
theorem main_part2_eq (c : Dev nD) : main_part2 (F := F) c = seq opsP2 := rfl
set_option maxRecDepth 8192 in
set_option maxHeartbeats 4000000 in
/-- A part of the program runs its operations. -/
theorem main_part3_eq (c : Dev nD) : main_part3 (F := F) c = seq opsP3 := rfl
set_option maxRecDepth 8192 in
set_option maxHeartbeats 4000000 in
/-- A part of the program runs its operations. -/
theorem main_part4_eq (c : Dev nD) : main_part4 (F := F) c = seq opsP4 := rfl

set_option maxRecDepth 8192 in
/-- The program is the list run in order. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- They touch the core's own buffers only, -/
theorem ops0_sub : (ops0 : List (HloOp τ sig (Elt F))).Forall fun op => op.bufs ⊆ tcRefs τ sig :=
  ⟨nullary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
set_option maxRecDepth 8192 in
/-- and make no buffer of their own. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- They touch the core's own buffers only, -/
theorem ops1_sub : (ops1 : List (HloOp τ sig (Elt F))).Forall fun op => op.bufs ⊆ tcRefs τ sig :=
  ⟨unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., unary_bufs_sub .., unary_bufs_sub .., unary_bufs_sub .., binary_bufs_sub .., unary_bufs_sub ..⟩
set_option maxRecDepth 8192 in
/-- and make no buffer of their own. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- They touch the core's own buffers only, -/
theorem ops2_sub : (ops2 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., binary_bufs_sub .., unary_bufs_sub .., unary_bufs_sub .., reshape_bufs_sub .., unary_bufs_sub .., unary_bufs_sub .., unary_bufs_sub .., unary_bufs_sub .., binary_bufs_sub .., unary_bufs_sub .., unary_bufs_sub .., reshape_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub ..⟩
set_option maxRecDepth 8192 in
/-- and make no buffer of their own. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- They touch the core's own buffers only, -/
theorem ops3_sub : (ops3 : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
/-- and make no buffer of their own. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
/-- They touch the core's own buffers only, -/
theorem ops4_sub : (ops4 : List (HloOp τ sig (Elt F))).Forall fun op => op.bufs ⊆ tcRefs τ sig :=
  ⟨unary_bufs_sub .., reshape_bufs_sub .., unary_bufs_sub .., unary_bufs_sub .., nullary_bufs_sub .., unary_bufs_sub .., unary_bufs_sub .., unary_bufs_sub .., binary_bufs_sub .., unary_bufs_sub .., unary_bufs_sub .., unary_bufs_sub .., nullary_bufs_sub .., nullary_bufs_sub .., unary_bufs_sub .., unary_bufs_sub .., unary_bufs_sub .., unary_bufs_sub .., ternary_bufs_sub .., unary_bufs_sub .., unary_bufs_sub .., unary_bufs_sub .., ternary_bufs_sub .., unary_bufs_sub .., nullary_bufs_sub .., binary_bufs_sub .., unary_bufs_sub ..⟩
set_option maxRecDepth 8192 in
/-- and make no buffer of their own. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- They touch the core's own buffers only, -/
theorem ops5_sub : (ops5 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., nullary_bufs_sub .., unary_bufs_sub .., binary_bufs_sub .., binary_bufs_sub .., nullary_bufs_sub .., unary_bufs_sub .., unary_bufs_sub .., unary_bufs_sub .., ternary_bufs_sub ..⟩
set_option maxRecDepth 8192 in
/-- and make no buffer of their own. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- They touch the core's own buffers only, -/
theorem ops6_sub : (ops6 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub ..⟩
set_option maxRecDepth 8192 in
/-- and make no buffer of their own. -/
theorem ops6_fresh : (ops6 : List (HloOp τ sig (Elt F))).Forall fun op => op.fresh = ∅ :=
  ⟨rfl, rfl, rfl, rfl, rfl, rfl, rfl, rfl, rfl, rfl⟩
set_option maxRecDepth 8192 in
/-- They touch the core's own buffers only, -/
theorem ops7_sub : (ops7 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., unary_bufs_sub .., unary_bufs_sub .., unary_bufs_sub .., nary_bufs_sub ..⟩
set_option maxRecDepth 8192 in
/-- and make no buffer of their own. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- They touch the core's own buffers only, -/
theorem ops8_sub : (ops8 : List (HloOp τ sig (Elt F))).Forall fun op => op.bufs ⊆ tcRefs τ sig :=
  ⟨unary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 8192 in
/-- and make no buffer of their own. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 8192 in
/-- They touch the core's own buffers only, -/
theorem ops9_sub : (ops9 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩
set_option maxRecDepth 8192 in
/-- and make no buffer of their own. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, opsP0, opsP1, opsP2, opsP3, opsP4, List.mem_append, or_assoc] at h
    rcases h with h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h]
theorem ops_fresh : ∀ op ∈ (ops : List (HloOp τ sig (Elt F))), op.fresh = ∅ := fun op h => by
    simp only [ops, opsP0, opsP1, opsP2, opsP3, opsP4, List.mem_append, or_assoc] at h
    rcases h with h | h | h | h | h | h | h | h | h | h
    exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h]

end Cert.ReferenceIdeal.Run

end
-- ==== Proof.Run.ReferenceRun.lean ====
/- The run of the reference program: the contents of its buffers after each stretch (hand-written). -/
module

public import proofs.«01_k».proof.Proof.Run.ReferenceOps
public import Idealize.ShloMosaic.Lib.Quiescent

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The value of `main_v0` from the values it is computed from. -/
def f_v0 (arg2 : Vec F S1x20000x4 .f32) : Vec F S20000x4 .f32 :=
  shapeCast S20000x4 arg2 shapeCasts_S1x20000x4_S20000x4

/-- The value of `main_v5` from the values it is computed from. -/
def f_v5 (v0 : Vec F S20000x4 .f32) : Vec F S20000 .f32 :=
  subf (shapeCast S20000 (extractStridedSlice S20000x1 ![0, 2] v0 slices_S20000x4_S20000x1_0_2) shapeCasts_S20000x1_S20000) (shapeCast S20000 (extractStridedSlice S20000x1 ![0, 0] v0 slices_S20000x4_S20000x1_0_0) shapeCasts_S20000x1_S20000)

/-- The value of `main_v10` from the values it is computed from. -/
def f_v10 (v0 : Vec F S20000x4 .f32) : Vec F S20000 .f32 :=
  subf (shapeCast S20000 (extractStridedSlice S20000x1 ![0, 3] v0 slices_S20000x4_S20000x1_0_3) shapeCasts_S20000x1_S20000) (shapeCast S20000 (extractStridedSlice S20000x1 ![0, 1] v0 slices_S20000x4_S20000x1_0_1) shapeCasts_S20000x1_S20000)

/-- The value of `main_v15` from the values it is computed from. -/
def f_v15 (v0 : Vec F S20000x4 .f32) (v5 : Vec F S20000 .f32) : Vec F S20000 .f32 :=
  addf (shapeCast S20000 (extractStridedSlice S20000x1 ![0, 0] v0 slices_S20000x4_S20000x1_0_0) shapeCasts_S20000x1_S20000) (mulf (broadcastInDim S20000 ![] bcast_S_S20000 (constant S_ .f32 0x3F000000#32)) v5)

/-- The value of `main_v20` from the values it is computed from. -/
def f_v20 (v0 : Vec F S20000x4 .f32) (v10 : Vec F S20000 .f32) : Vec F S20000 .f32 :=
  addf (shapeCast S20000 (extractStridedSlice S20000x1 ![0, 1] v0 slices_S20000x4_S20000x1_0_1) shapeCasts_S20000x1_S20000) (mulf (broadcastInDim S20000 ![] bcast_S_S20000 (constant S_ .f32 0x3F000000#32)) v10)

/-- The value of `main_v21` from the values it is computed from. -/
def f_v21 (arg0 : Vec F S4x20000x80 .f32) : Vec F S4x20000x80 .f32 :=
  minimumf (broadcastInDim S4x20000x80 ![] bcast_S_S4x20000x80 (id (constant S_ .f32 0x3F7FF972#32))) (maximumf (broadcastInDim S4x20000x80 ![] bcast_S_S4x20000x80 (id (constant S_ .f32 0x38D1B717#32))) arg0)

/-- The value of `main_v22` from the values it is computed from. -/
def f_v22 (arg3 : Vec F S4x32x5 .f32) : Vec F S4x32x4 .f32 :=
  extractStridedSlice S4x32x4 ![0, 0, 0] arg3 slices_S4x32x5_S4x32x4_0_0_0

/-- The value of `main_v34` from the values it is computed from. -/
def f_v34 (v0 : Vec F S20000x4 .f32) : Vec F S20000x1 .f32 :=
  broadcastInDim S20000x1 ![0] bcast_S20000_S20000x1_0 (mulf (subf (shapeCast S20000 (extractStridedSlice S20000x1 ![0, 2] v0 slices_S20000x4_S20000x1_0_2) shapeCasts_S20000x1_S20000) (shapeCast S20000 (extractStridedSlice S20000x1 ![0, 0] v0 slices_S20000x4_S20000x1_0_0) shapeCasts_S20000x1_S20000)) (subf (shapeCast S20000 (extractStridedSlice S20000x1 ![0, 3] v0 slices_S20000x4_S20000x1_0_3) shapeCasts_S20000x1_S20000) (shapeCast S20000 (extractStridedSlice S20000x1 ![0, 1] v0 slices_S20000x4_S20000x1_0_1) shapeCasts_S20000x1_S20000)))

/-- The value of `main_v45` from the values it is computed from. -/
def f_v45 (v22 : Vec F S4x32x4 .f32) : Vec F S4x32 .f32 :=
  mulf (subf (shapeCast S4x32 (extractStridedSlice S4x32x1 ![0, 0, 2] v22 slices_S4x32x4_S4x32x1_0_0_2) shapeCasts_S4x32x1_S4x32) (shapeCast S4x32 (extractStridedSlice S4x32x1 ![0, 0, 0] v22 slices_S4x32x4_S4x32x1_0_0_0) shapeCasts_S4x32x1_S4x32)) (subf (shapeCast S4x32 (extractStridedSlice S4x32x1 ![0, 0, 3] v22 slices_S4x32x4_S4x32x1_0_0_3) shapeCasts_S4x32x1_S4x32) (shapeCast S4x32 (extractStridedSlice S4x32x1 ![0, 0, 1] v22 slices_S4x32x4_S4x32x1_0_0_1) shapeCasts_S4x32x1_S4x32))

/-- The value of `main_v53` from the values it is computed from. -/
def f_v53 (v0 : Vec F S20000x4 .f32) (v22 : Vec F S4x32x4 .f32) : Vec F S4x20000x32 .f32 :=
  minimumf (broadcastInDim S4x20000x32 ![0, 1, 2] bcast_S1x20000x1_S4x20000x32_0_1_2 (broadcastInDim S1x20000x1 ![1, 2] bcast_S20000x1_S1x20000x1_1_2 (extractStridedSlice S20000x1 ![0, 2] v0 slices_S20000x4_S20000x1_0_2))) (broadcastInDim S4x20000x32 ![0, 1, 2] bcast_S4x1x32_S4x20000x32_0_1_2 (broadcastInDim S4x1x32 ![0, 2] bcast_S4x32_S4x1x32_0_2 (shapeCast S4x32 (extractStridedSlice S4x32x1 ![0, 0, 2] v22 slices_S4x32x4_S4x32x1_0_0_2) shapeCasts_S4x32x1_S4x32)))

/-- The value of `main_v54` from the values it is computed from. -/
def f_v54 (v0 : Vec F S20000x4 .f32) : Vec F S20000x1 .f32 :=
  extractStridedSlice S20000x1 ![0, 0] v0 slices_S20000x4_S20000x1_0_0

/-- The value of `main_v84` from the values it is computed from. -/
def f_v84 (v53 : Vec F S4x20000x32 .f32) (v54 : Vec F S20000x1 .f32) (v22 : Vec F S4x32x4 .f32) (v0 : Vec F S20000x4 .f32) : Vec F S4x20000x32 .f32 :=
  mulf (maximumf (subf v53 (maximumf (broadcastInDim S4x20000x32 ![0, 1, 2] bcast_S1x20000x1_S4x20000x32_0_1_2 (broadcastInDim S1x20000x1 ![1, 2] bcast_S20000x1_S1x20000x1_1_2 v54)) (broadcastInDim S4x20000x32 ![0, 1, 2] bcast_S4x1x32_S4x20000x32_0_1_2 (broadcastInDim S4x1x32 ![0, 2] bcast_S4x32_S4x1x32_0_2 (shapeCast S4x32 (extractStridedSlice S4x32x1 ![0, 0, 0] v22 slices_S4x32x4_S4x32x1_0_0_0) shapeCasts_S4x32x1_S4x32))))) (broadcastInDim S4x20000x32 ![] bcast_S_S4x20000x32 (constant S_ .f32 0x00000000#32))) (maximumf (subf (minimumf (broadcastInDim S4x20000x32 ![0, 1, 2] bcast_S1x20000x1_S4x20000x32_0_1_2 (broadcastInDim S1x20000x1 ![1, 2] bcast_S20000x1_S1x20000x1_1_2 (extractStridedSlice S20000x1 ![0, 3] v0 slices_S20000x4_S20000x1_0_3))) (broadcastInDim S4x20000x32 ![0, 1, 2] bcast_S4x1x32_S4x20000x32_0_1_2 (broadcastInDim S4x1x32 ![0, 2] bcast_S4x32_S4x1x32_0_2 (shapeCast S4x32 (extractStridedSlice S4x32x1 ![0, 0, 3] v22 slices_S4x32x4_S4x32x1_0_0_3) shapeCasts_S4x32x1_S4x32)))) (maximumf (broadcastInDim S4x20000x32 ![0, 1, 2] bcast_S1x20000x1_S4x20000x32_0_1_2 (broadcastInDim S1x20000x1 ![1, 2] bcast_S20000x1_S1x20000x1_1_2 (extractStridedSlice S20000x1 ![0, 1] v0 slices_S20000x4_S20000x1_0_1))) (broadcastInDim S4x20000x32 ![0, 1, 2] bcast_S4x1x32_S4x20000x32_0_1_2 (broadcastInDim S4x1x32 ![0, 2] bcast_S4x32_S4x1x32_0_2 (shapeCast S4x32 (extractStridedSlice S4x32x1 ![0, 0, 1] v22 slices_S4x32x4_S4x32x1_0_0_1) shapeCasts_S4x32x1_S4x32))))) (broadcastInDim S4x20000x32 ![] bcast_S_S4x20000x32 (constant S_ .f32 0x00000000#32)))

/-- The value of `main_v93` from the values it is computed from. -/
def f_v93 (v84 : Vec F S4x20000x32 .f32) (v34 : Vec F S20000x1 .f32) (v45 : Vec F S4x32 .f32) : Vec F S4x20000x32 .f32 :=
  Host.divf v84 (maximumf (subf (addf (broadcastInDim S4x20000x32 ![0, 1, 2] bcast_S1x20000x1_S4x20000x32_0_1_2 (broadcastInDim S1x20000x1 ![1, 2] bcast_S20000x1_S1x20000x1_1_2 v34)) (broadcastInDim S4x20000x32 ![0, 1, 2] bcast_S4x1x32_S4x20000x32_0_1_2 (broadcastInDim S4x1x32 ![0, 2] bcast_S4x32_S4x1x32_0_2 v45))) v84) (broadcastInDim S4x20000x32 ![] bcast_S_S4x20000x32 (constant S_ .f32 0x322BCC77#32)))

/-- The value of `main_v94` from the values it is computed from. -/
def f_v94 (v93 : Vec F S4x20000x32 .f32) : Vec F S4x20000 .f32 :=
  Host.reduce FloatOps.maximumf v93 (constant S_ .f32 0xFF800000#32) reducesTo_S4x20000x32_S4x20000_d2 h_S_

/-- The value of `main_v95` from the values it is computed from. -/
def f_v95 (v93 : Vec F S4x20000x32 .f32) : Vec F S4x20000 .i32 :=
  fun j => (Host.argReduce reducer_argmax_f32_i32 v93 (iotaInDim S4x20000x32 32 2) (constant S_ .f32 0xFF800000#32) (constantI S_ 32 0#32) reducesTo_S4x20000x32_S4x20000_d2 h_S_ j).2

/-- The value of `main_v97` from the values it is computed from. -/
def f_v97 (v94 : Vec F S4x20000 .f32) : Vec F S4x20000 .i1 :=
  cmpf .oge v94 (broadcastInDim S4x20000 ![] bcast_S_S4x20000 (constant S_ .f32 0x3F000000#32))

/-- The value of `main_v99` from the values it is computed from. -/
def f_v99 (v94 : Vec F S4x20000 .f32) : Vec F S4x20000 .i1 :=
  cmpf .olt v94 (broadcastInDim S4x20000 ![] bcast_S_S4x20000 (constant S_ .f32 0x3ECCCCCD#32))

/-- The value of `main_v106` from the values it is computed from. -/
def f_v106 (arg3 : Vec F S4x32x5 .f32) (v95 : Vec F S4x20000 .i32) : Vec F S4x20000x5 .f32 :=
  Host.gather gather_S4x32x5_S4x20000x1_S4x20000x5_2_1_0_0_1_2_115 arg3 (broadcastInDim S4x20000x1 ![0, 1] bcast_S4x20000_S4x20000x1_0_1 (select (cmpi .slt v95 (broadcastInDim S4x20000 ![] bcast_S_S4x20000 (constantI S_ 32 0#32))) (addi v95 (broadcastInDim S4x20000 ![] bcast_S_S4x20000 (constantI S_ 32 32#32))) v95))

/-- The value of `main_v110` from the values it is computed from. -/
def f_v110 (v106 : Vec F S4x20000x5 .f32) : Vec F S4x20000x80 .f32 :=
  uitofp .f32 (cmpi .eq (broadcastInDim S4x20000x80 ![0, 1, 2] bcast_S4x20000x1_S4x20000x80_0_1_2 (broadcastInDim S4x20000x1 ![0, 1] bcast_S4x20000_S4x20000x1_0_1 (fptosi 32 (shapeCast S4x20000 (extractStridedSlice S4x20000x1 ![0, 0, 4] v106 slices_S4x20000x5_S4x20000x1_0_0_4) shapeCasts_S4x20000x1_S4x20000)))) (broadcastInDim S4x20000x80 ![0, 1, 2] bcast_S1x1x80_S4x20000x80_0_1_2 (broadcastInDim S1x1x80 ![1, 2] bcast_S1x80_S1x1x80_1_2 (iotaInDim S1x80 32 1))))

/-- The value of `main_v114` from the values it is computed from. -/
def f_v114 (v97 : Vec F S4x20000 .i1) (v110 : Vec F S4x20000x80 .f32) (v99 : Vec F S4x20000 .i1) : Vec F S4x20000x80 .f32 :=
  select (broadcastInDim S4x20000x80 ![0, 1, 2] bcast_S4x20000x1_S4x20000x80_0_1_2 (broadcastInDim S4x20000x1 ![0, 1] bcast_S4x20000_S4x20000x1_0_1 v97)) v110 (broadcastInDim S4x20000x80 ![0, 1, 2] bcast_S4x20000x1_S4x20000x80_0_1_2 (id (select (broadcastInDim S4x20000x1 ![0, 1] bcast_S4x20000_S4x20000x1_0_1 v99) (broadcastInDim S4x20000x1 ![1, 2] bcast_S20000x1_S4x20000x1_1_2 (broadcastInDim S20000x1 ![] bcast_S_S20000x1 (constant S_ .f32 0x00000000#32))) (broadcastInDim S4x20000x1 ![1, 2] bcast_S20000x1_S4x20000x1_1_2 (broadcastInDim S20000x1 ![] bcast_S_S20000x1 (constant S_ .f32 0xBF800000#32))))))

/-- The value of `main_v117` from the values it is computed from. -/
def f_v117 (v97 : Vec F S4x20000 .i1) : Vec F S4 .f32 :=
  sitofp .f32 (Host.reduce IntOp.addi (extui 32 v97 natLt_1_32) (constantI S_ 32 0#32) reducesTo_S4x20000_S4_d1 h_S_)

/-- The value of `main_v143` from the values it is computed from. -/
def f_v143 (v114 : Vec F S4x20000x80 .f32) (v21 : Vec F S4x20000x80 .f32) : Vec F S4x20000x80 .f32 :=
  select (cmpf .une v114 (broadcastInDim S4x20000x80 ![] bcast_S_S4x20000x80 (constant S_ .f32 0xBF800000#32))) (mulf (mulf (id (select (cmpf .oeq v114 (broadcastInDim S4x20000x80 ![] bcast_S_S4x20000x80 (constant S_ .f32 0x3F800000#32))) (broadcastInDim S4x20000x80 ![1, 2] bcast_S20000x80_S4x20000x80_1_2 (broadcastInDim S20000x80 ![] bcast_S_S20000x80 (constant S_ .f32 0x3E800000#32))) (broadcastInDim S4x20000x80 ![1, 2] bcast_S20000x80_S4x20000x80_1_2 (broadcastInDim S20000x80 ![] bcast_S_S20000x80 (constant S_ .f32 0x3F400000#32))))) (Host.powf (select (cmpf .oeq v114 (broadcastInDim S4x20000x80 ![] bcast_S_S4x20000x80 (constant S_ .f32 0x3F800000#32))) (subf (broadcastInDim S4x20000x80 ![] bcast_S_S4x20000x80 (constant S_ .f32 0x3F800000#32)) v21) v21) (broadcastInDim S4x20000x80 ![] bcast_S_S4x20000x80 (constant S_ .f32 0x40000000#32)))) (Host.negf (addf (mulf v114 (Host.log v21)) (mulf (subf (broadcastInDim S4x20000x80 ![] bcast_S_S4x20000x80 (constant S_ .f32 0x3F800000#32)) v114) (Host.log (subf (broadcastInDim S4x20000x80 ![] bcast_S_S4x20000x80 (constant S_ .f32 0x3F800000#32)) v21)))))) (broadcastInDim S4x20000x80 ![1, 2] bcast_S20000x80_S4x20000x80_1_2 (broadcastInDim S20000x80 ![] bcast_S_S20000x80 (id (constant S_ .f32 0x00000000#32))))

/-- The value of `main_v148` from the values it is computed from. -/
def f_v148 (v106 : Vec F S4x20000x5 .f32) : Vec F S4x20000 .f32 :=
  subf (shapeCast S4x20000 (extractStridedSlice S4x20000x1 ![0, 0, 2] v106 slices_S4x20000x5_S4x20000x1_0_0_2) shapeCasts_S4x20000x1_S4x20000) (shapeCast S4x20000 (extractStridedSlice S4x20000x1 ![0, 0, 0] v106 slices_S4x20000x5_S4x20000x1_0_0_0) shapeCasts_S4x20000x1_S4x20000)

/-- The value of `main_v153` from the values it is computed from. -/
def f_v153 (v106 : Vec F S4x20000x5 .f32) : Vec F S4x20000 .f32 :=
  subf (shapeCast S4x20000 (extractStridedSlice S4x20000x1 ![0, 0, 3] v106 slices_S4x20000x5_S4x20000x1_0_0_3) shapeCasts_S4x20000x1_S4x20000) (shapeCast S4x20000 (extractStridedSlice S4x20000x1 ![0, 0, 1] v106 slices_S4x20000x5_S4x20000x1_0_0_1) shapeCasts_S4x20000x1_S4x20000)

/-- The value of `main_v192` from the values it is computed from. -/
def f_v192 (v106 : Vec F S4x20000x5 .f32) (v148 : Vec F S4x20000 .f32) (v15 : Vec F S20000 .f32) (v5 : Vec F S20000 .f32) (v153 : Vec F S4x20000 .f32) (v20 : Vec F S20000 .f32) (v10 : Vec F S20000 .f32) : Vec F S4x20000x4 .f32 :=
  fn_concat (broadcastInDim S4x20000x1 ![0, 1] bcast_S4x20000_S4x20000x1_0_1 (Host.divf (subf (addf (shapeCast S4x20000 (extractStridedSlice S4x20000x1 ![0, 0, 0] v106 slices_S4x20000x5_S4x20000x1_0_0_0) shapeCasts_S4x20000x1_S4x20000) (mulf (broadcastInDim S4x20000 ![] bcast_S_S4x20000 (constant S_ .f32 0x3F000000#32)) v148)) (broadcastInDim S4x20000 ![0, 1] bcast_S1x20000_S4x20000_0_1 (broadcastInDim S1x20000 ![1] bcast_S20000_S1x20000_1 v15))) (broadcastInDim S4x20000 ![0, 1] bcast_S1x20000_S4x20000_0_1 (broadcastInDim S1x20000 ![1] bcast_S20000_S1x20000_1 v5)))) (broadcastInDim S4x20000x1 ![0, 1] bcast_S4x20000_S4x20000x1_0_1 (Host.divf (subf (addf (shapeCast S4x20000 (extractStridedSlice S4x20000x1 ![0, 0, 1] v106 slices_S4x20000x5_S4x20000x1_0_0_1) shapeCasts_S4x20000x1_S4x20000) (mulf (broadcastInDim S4x20000 ![] bcast_S_S4x20000 (constant S_ .f32 0x3F000000#32)) v153)) (broadcastInDim S4x20000 ![0, 1] bcast_S1x20000_S4x20000_0_1 (broadcastInDim S1x20000 ![1] bcast_S20000_S1x20000_1 v20))) (broadcastInDim S4x20000 ![0, 1] bcast_S1x20000_S4x20000_0_1 (broadcastInDim S1x20000 ![1] bcast_S20000_S1x20000_1 v10)))) (broadcastInDim S4x20000x1 ![0, 1] bcast_S4x20000_S4x20000x1_0_1 (Host.log (Host.divf (maximumf v148 (broadcastInDim S4x20000 ![] bcast_S_S4x20000 (constant S_ .f32 0x3F800000#32))) (broadcastInDim S4x20000 ![0, 1] bcast_S1x20000_S4x20000_0_1 (broadcastInDim S1x20000 ![1] bcast_S20000_S1x20000_1 v5))))) (broadcastInDim S4x20000x1 ![0, 1] bcast_S4x20000_S4x20000x1_0_1 (Host.log (Host.divf (maximumf v153 (broadcastInDim S4x20000 ![] bcast_S_S4x20000 (constant S_ .f32 0x3F800000#32))) (broadcastInDim S4x20000 ![0, 1] bcast_S1x20000_S4x20000_0_1 (broadcastInDim S1x20000 ![1] bcast_S20000_S1x20000_1 v10)))))

/-- The value of `main_v205` from the values it is computed from. -/
def f_v205 (v192 : Vec F S4x20000x4 .f32) (arg1 : Vec F S4x20000x4 .f32) : Vec F S4x20000x4 .f32 :=
  select (cmpf .ole (Host.absf (subf (Host.divf v192 (broadcastInDim S4x20000x4 ![0, 1, 2] bcast_S1x1x4_S4x20000x4_0_1_2 (broadcastInDim S1x1x4 ![1, 2] bcast_S1x4_S1x1x4_1_2 (fun i => FloatOps.ofBits .f32 (lit0 (S1x4.rowMajor i)))))) arg1)) (broadcastInDim S4x20000x4 ![] bcast_S_S4x20000x4 (constant S_ .f32 0x3DE38E39#32))) (mulf (broadcastInDim S4x20000x4 ![] bcast_S_S4x20000x4 (constant S_ .f32 0x40900000#32)) (mulf (Host.absf (subf (Host.divf v192 (broadcastInDim S4x20000x4 ![0, 1, 2] bcast_S1x1x4_S4x20000x4_0_1_2 (broadcastInDim S1x1x4 ![1, 2] bcast_S1x4_S1x1x4_1_2 (fun i => FloatOps.ofBits .f32 (lit0 (S1x4.rowMajor i)))))) arg1)) (Host.absf (subf (Host.divf v192 (broadcastInDim S4x20000x4 ![0, 1, 2] bcast_S1x1x4_S4x20000x4_0_1_2 (broadcastInDim S1x1x4 ![1, 2] bcast_S1x4_S1x1x4_1_2 (fun i => FloatOps.ofBits .f32 (lit0 (S1x4.rowMajor i)))))) arg1)))) (subf (Host.absf (subf (Host.divf v192 (broadcastInDim S4x20000x4 ![0, 1, 2] bcast_S1x1x4_S4x20000x4_0_1_2 (broadcastInDim S1x1x4 ![1, 2] bcast_S1x4_S1x1x4_1_2 (fun i => FloatOps.ofBits .f32 (lit0 (S1x4.rowMajor i)))))) arg1)) (broadcastInDim S4x20000x4 ![] bcast_S_S4x20000x4 (constant S_ .f32 0x3D638E39#32)))

/-- The value of `main_v206` from the values it is computed from. -/
def f_v206 (v97 : Vec F S4x20000 .i1) : Vec F S4x20000x1 .i1 :=
  broadcastInDim S4x20000x1 ![0, 1] bcast_S4x20000_S4x20000x1_0_1 v97

/-- The value of `main_v223` from the values it is computed from. -/
def f_v223 (v143 : Vec F S4x20000x80 .f32) (v117 : Vec F S4 .f32) : Vec F S1 .f32 :=
  Host.divf (broadcastInDim S1 ![] bcast_S_S1 (Host.reduceAdd (Host.divf (Host.reduceAdd v143 (constant S_ .f32 0x00000000#32) reducesTo_S4x20000x80_S4_d1_2 h_S_) (maximumf v117 (broadcastInDim S4 ![] bcast_S_S4 (constant S_ .f32 0x3F800000#32)))) (constant S_ .f32 0x00000000#32) reducesTo_S4_S_d0 h_S_)) (broadcastInDim S1 ![] bcast_S_S1 (constant S_ .f32 0x40800000#32))

/-- The value of `main_v227` from the values it is computed from. -/
def f_v227 (v205 : Vec F S4x20000x4 .f32) (v206 : Vec F S4x20000x1 .i1) (v117 : Vec F S4 .f32) : Vec F S1 .f32 :=
  Host.divf (broadcastInDim S1 ![] bcast_S_S1 (Host.reduceAdd (Host.divf (Host.reduceAdd (mulf v205 (broadcastInDim S4x20000x4 ![0, 1, 2] bcast_S4x20000x1_S4x20000x4_0_1_2 (uitofp .f32 v206))) (constant S_ .f32 0x00000000#32) reducesTo_S4x20000x4_S4_d1_2 h_S_) (maximumf (mulf v117 (broadcastInDim S4 ![] bcast_S_S4 (constant S_ .f32 0x40800000#32))) (broadcastInDim S4 ![] bcast_S_S4 (constant S_ .f32 0x3F800000#32)))) (constant S_ .f32 0x00000000#32) reducesTo_S4_S_d0 h_S_)) (broadcastInDim S1 ![] bcast_S_S1 (constant S_ .f32 0x40800000#32))

variable (V : Valuation τ sig (Elt F))

/-- The value of `main_v0` from the arguments. -/
def R_v0 : Vec F S20000x4 .f32 :=
  f_v0 (V (Proc.devRef .tc main_arg2))
/-- The value of `main_v5` from the arguments. -/
def R_v5 : Vec F S20000 .f32 :=
  f_v5 (R_v0 V)
/-- The value of `main_v10` from the arguments. -/
def R_v10 : Vec F S20000 .f32 :=
  f_v10 (R_v0 V)
/-- The value of `main_v15` from the arguments. -/
def R_v15 : Vec F S20000 .f32 :=
  f_v15 (R_v0 V) (R_v5 V)
/-- The value of `main_v20` from the arguments. -/
def R_v20 : Vec F S20000 .f32 :=
  f_v20 (R_v0 V) (R_v10 V)
/-- The value of `main_v21` from the arguments. -/
def R_v21 : Vec F S4x20000x80 .f32 :=
  f_v21 (V (Proc.devRef .tc main_arg0))
/-- The value of `main_v22` from the arguments. -/
def R_v22 : Vec F S4x32x4 .f32 :=
  f_v22 (V (Proc.devRef .tc main_arg3))
/-- The value of `main_v34` from the arguments. -/
def R_v34 : Vec F S20000x1 .f32 :=
  f_v34 (R_v0 V)
/-- The value of `main_v45` from the arguments. -/
def R_v45 : Vec F S4x32 .f32 :=
  f_v45 (R_v22 V)
/-- The value of `main_v53` from the arguments. -/
def R_v53 : Vec F S4x20000x32 .f32 :=
  f_v53 (R_v0 V) (R_v22 V)
/-- The value of `main_v54` from the arguments. -/
def R_v54 : Vec F S20000x1 .f32 :=
  f_v54 (R_v0 V)
/-- The value of `main_v84` from the arguments. -/
def R_v84 : Vec F S4x20000x32 .f32 :=
  f_v84 (R_v53 V) (R_v54 V) (R_v22 V) (R_v0 V)
/-- The value of `main_v93` from the arguments. -/
def R_v93 : Vec F S4x20000x32 .f32 :=
  f_v93 (R_v84 V) (R_v34 V) (R_v45 V)
/-- The value of `main_v94` from the arguments. -/
def R_v94 : Vec F S4x20000 .f32 :=
  f_v94 (R_v93 V)
/-- The value of `main_v95` from the arguments. -/
def R_v95 : Vec F S4x20000 .i32 :=
  f_v95 (R_v93 V)
/-- The value of `main_v97` from the arguments. -/
def R_v97 : Vec F S4x20000 .i1 :=
  f_v97 (R_v94 V)
/-- The value of `main_v99` from the arguments. -/
def R_v99 : Vec F S4x20000 .i1 :=
  f_v99 (R_v94 V)
/-- The value of `main_v106` from the arguments. -/
def R_v106 : Vec F S4x20000x5 .f32 :=
  f_v106 (V (Proc.devRef .tc main_arg3)) (R_v95 V)
/-- The value of `main_v110` from the arguments. -/
def R_v110 : Vec F S4x20000x80 .f32 :=
  f_v110 (R_v106 V)
/-- The value of `main_v114` from the arguments. -/
def R_v114 : Vec F S4x20000x80 .f32 :=
  f_v114 (R_v97 V) (R_v110 V) (R_v99 V)
/-- The value of `main_v117` from the arguments. -/
def R_v117 : Vec F S4 .f32 :=
  f_v117 (R_v97 V)
/-- The value of `main_v143` from the arguments. -/
def R_v143 : Vec F S4x20000x80 .f32 :=
  f_v143 (R_v114 V) (R_v21 V)
/-- The value of `main_v148` from the arguments. -/
def R_v148 : Vec F S4x20000 .f32 :=
  f_v148 (R_v106 V)
/-- The value of `main_v153` from the arguments. -/
def R_v153 : Vec F S4x20000 .f32 :=
  f_v153 (R_v106 V)
/-- The value of `main_v192` from the arguments. -/
def R_v192 : Vec F S4x20000x4 .f32 :=
  f_v192 (R_v106 V) (R_v148 V) (R_v15 V) (R_v5 V) (R_v153 V) (R_v20 V) (R_v10 V)
/-- The value of `main_v205` from the arguments. -/
def R_v205 : Vec F S4x20000x4 .f32 :=
  f_v205 (R_v192 V) (V (Proc.devRef .tc main_arg1))
/-- The value of `main_v206` from the arguments. -/
def R_v206 : Vec F S4x20000x1 .i1 :=
  f_v206 (R_v97 V)
/-- The value of `main_v223` from the arguments. -/
def R_v223 : Vec F S1 .f32 :=
  f_v223 (R_v143 V) (R_v117 V)
/-- The value of `main_v227` from the arguments. -/
def R_v227 : Vec F S1 .f32 :=
  f_v227 (R_v205 V) (R_v206 V) (R_v117 V)

/-- The contents after the first 1 stretches. -/
def val1 : Valuation τ sig (Elt F) := after ops0 (V)
/-- The buffers the stretch writes. -/
abbrev ops0_W : List (Ref sig .tc) := [main_cst, main_v0, main_v1, main_v2, main_v3, main_v4, main_v5, main_v6, main_v7, main_v8, main_v9, main_v10, main_v11, main_v12, main_cst_0, main_v13, main_v14, main_v15, main_v16, main_v17, main_cst_1, main_v18, main_v19, main_v20, main_cst_2, main_cst_3, main_call0_v0, main_call0_v1, main_call0_v2, main_call0_v3, main_call0_v4, main_v21]
set_option maxRecDepth 8192 in
theorem ops0_writes : (ops0 : List (HloOp τ sig (Elt F))).Forall fun op => op.writes ⊆ (ops0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val1_keep (r : Ref sig .tc) (h : r ∉ ops0_W) : val1 V (Proc.devRef .tc r) = V (Proc.devRef .tc r) :=
  after_of_writes_sub ops0 _ ops0_writes h
theorem val1_arg0 : val1 V (no_index (Proc.devRef .tc main_arg0)) = V (Proc.devRef .tc main_arg0) :=
  val1_keep V main_arg0 (by decide)
theorem val1_arg1 : val1 V (no_index (Proc.devRef .tc main_arg1)) = V (Proc.devRef .tc main_arg1) :=
  val1_keep V main_arg1 (by decide)
theorem val1_arg2 : val1 V (no_index (Proc.devRef .tc main_arg2)) = V (Proc.devRef .tc main_arg2) :=
  val1_keep V main_arg2 (by decide)
theorem val1_arg3 : val1 V (no_index (Proc.devRef .tc main_arg3)) = V (Proc.devRef .tc main_arg3) :=
  val1_keep V main_arg3 (by decide)
set_option maxRecDepth 8192 in
set_option maxHeartbeats 2000000 in
theorem val1_cst : val1 V (no_index (Proc.devRef .tc main_cst)) = (fun i => FloatOps.ofBits .f32 (lit0 (S1x4.rowMajor i)) : Vec F S1x4 .f32) := by
  unfold val1
  simp only [ops0]
  after_results_simp
  all_goals rfl
set_option maxRecDepth 8192 in
set_option maxHeartbeats 2000000 in
theorem val1_v0 : val1 V (no_index (Proc.devRef .tc main_v0)) = R_v0 V := by
  unfold val1
  simp only [ops0]
  after_results_simp
  all_goals rfl
set_option maxRecDepth 8192 in
set_option maxHeartbeats 2000000 in
theorem val1_v5 : val1 V (no_index (Proc.devRef .tc main_v5)) = R_v5 V := by
  unfold val1
  simp only [ops0]
  after_results_simp
  all_goals rfl
set_option maxRecDepth 8192 in
set_option maxHeartbeats 2000000 in
theorem val1_v10 : val1 V (no_index (Proc.devRef .tc main_v10)) = R_v10 V := by
  unfold val1
  simp only [ops0]
  after_results_simp
  all_goals rfl
set_option maxRecDepth 8192 in
set_option maxHeartbeats 2000000 in
theorem val1_v15 : val1 V (no_index (Proc.devRef .tc main_v15)) = R_v15 V := by
  unfold val1
  simp only [ops0]
  after_results_simp
  all_goals rfl
set_option maxRecDepth 8192 in
set_option maxHeartbeats 2000000 in
theorem val1_v20 : val1 V (no_index (Proc.devRef .tc main_v20)) = R_v20 V := by
  unfold val1
  simp only [ops0]
  after_results_simp
  all_goals rfl
set_option maxRecDepth 8192 in
set_option maxHeartbeats 2000000 in
theorem val1_v21 : val1 V (no_index (Proc.devRef .tc main_v21)) = R_v21 V := by
  unfold val1
  simp only [ops0]
  after_results_simp
  all_goals rfl

/-- The contents after the first 2 stretches. -/
def val2 : Valuation τ sig (Elt F) := after ops1 (val1 V)
/-- The buffers the stretch writes. -/
abbrev ops1_W : List (Ref sig .tc) := [main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]
set_option maxRecDepth 8192 in
theorem ops1_writes : (ops1 : List (HloOp τ sig (Elt F))).Forall fun op => op.writes ⊆ (ops1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val2_keep (r : Ref sig .tc) (h : r ∉ ops1_W) : val2 V (Proc.devRef .tc r) = (val1 V) (Proc.devRef .tc r) :=
  after_of_writes_sub ops1 _ ops1_writes h
theorem val2_arg0 : val2 V (no_index (Proc.devRef .tc main_arg0)) = V (Proc.devRef .tc main_arg0) :=
  (val2_keep V main_arg0 (by decide)).trans (val1_arg0 V)
theorem val2_arg1 : val2 V (no_index (Proc.devRef .tc main_arg1)) = V (Proc.devRef .tc main_arg1) :=
  (val2_keep V main_arg1 (by decide)).trans (val1_arg1 V)
theorem val2_arg2 : val2 V (no_index (Proc.devRef .tc main_arg2)) = V (Proc.devRef .tc main_arg2) :=
  (val2_keep V main_arg2 (by decide)).trans (val1_arg2 V)
theorem val2_arg3 : val2 V (no_index (Proc.devRef .tc main_arg3)) = V (Proc.devRef .tc main_arg3) :=
  (val2_keep V main_arg3 (by decide)).trans (val1_arg3 V)
theorem val2_cst : val2 V (no_index (Proc.devRef .tc main_cst)) = (fun i => FloatOps.ofBits .f32 (lit0 (S1x4.rowMajor i)) : Vec F S1x4 .f32) :=
  (val2_keep V main_cst (by decide)).trans (val1_cst V)
theorem val2_v0 : val2 V (no_index (Proc.devRef .tc main_v0)) = R_v0 V :=
  (val2_keep V main_v0 (by decide)).trans (val1_v0 V)
theorem val2_v5 : val2 V (no_index (Proc.devRef .tc main_v5)) = R_v5 V :=
  (val2_keep V main_v5 (by decide)).trans (val1_v5 V)
theorem val2_v10 : val2 V (no_index (Proc.devRef .tc main_v10)) = R_v10 V :=
  (val2_keep V main_v10 (by decide)).trans (val1_v10 V)
theorem val2_v15 : val2 V (no_index (Proc.devRef .tc main_v15)) = R_v15 V :=
  (val2_keep V main_v15 (by decide)).trans (val1_v15 V)
theorem val2_v20 : val2 V (no_index (Proc.devRef .tc main_v20)) = R_v20 V :=
  (val2_keep V main_v20 (by decide)).trans (val1_v20 V)
theorem val2_v21 : val2 V (no_index (Proc.devRef .tc main_v21)) = R_v21 V :=
  (val2_keep V main_v21 (by decide)).trans (val1_v21 V)
set_option maxRecDepth 8192 in
set_option maxHeartbeats 2000000 in
theorem val2_v22 : val2 V (no_index (Proc.devRef .tc main_v22)) = R_v22 V := by
  unfold val2
  simp only [ops1]
  after_results_simp
  simp only [val1_arg3]
  all_goals rfl
set_option maxRecDepth 8192 in
set_option maxHeartbeats 2000000 in
theorem val2_v34 : val2 V (no_index (Proc.devRef .tc main_v34)) = R_v34 V := by
  unfold val2
  simp only [ops1]
  after_results_simp
  simp only [val1_v0]
  all_goals rfl
set_option maxRecDepth 8192 in
set_option maxHeartbeats 2000000 in
theorem val2_v45 : val2 V (no_index (Proc.devRef .tc main_v45)) = R_v45 V := by
  unfold val2
  simp only [ops1]
  after_results_simp
  simp only [val1_arg3]
  all_goals rfl
set_option maxRecDepth 8192 in
set_option maxHeartbeats 2000000 in
theorem val2_v53 : val2 V (no_index (Proc.devRef .tc main_v53)) = R_v53 V := by
  unfold val2
  simp only [ops1]
  after_results_simp
  simp only [val1_v0, val1_arg3]
  all_goals rfl
set_option maxRecDepth 8192 in
set_option maxHeartbeats 2000000 in
theorem val2_v54 : val2 V (no_index (Proc.devRef .tc main_v54)) = R_v54 V := by
  unfold val2
  simp only [ops1]
  after_results_simp
  simp only [val1_v0]
  all_goals rfl

/-- The contents after the first 3 stretches. -/
def val3 : Valuation τ sig (Elt F) := after ops2 (val2 V)
/-- The buffers the stretch writes. -/
abbrev ops2_W : List (Ref sig .tc) := [main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_cst_4, main_v80, main_v81, main_cst_5, main_v82, main_v83, main_v84, main_v85, main_v86, main_v87, main_v88, main_v89, main_v90, main_cst_6, main_v91, main_v92, main_v93]
set_option maxRecDepth 8192 in
theorem ops2_writes : (ops2 : List (HloOp τ sig (Elt F))).Forall fun op => op.writes ⊆ (ops2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val3_keep (r : Ref sig .tc) (h : r ∉ ops2_W) : val3 V (Proc.devRef .tc r) = (val2 V) (Proc.devRef .tc r) :=
  after_of_writes_sub ops2 _ ops2_writes h
theorem val3_arg0 : val3 V (no_index (Proc.devRef .tc main_arg0)) = V (Proc.devRef .tc main_arg0) :=
  (val3_keep V main_arg0 (by decide)).trans (val2_arg0 V)
theorem val3_arg1 : val3 V (no_index (Proc.devRef .tc main_arg1)) = V (Proc.devRef .tc main_arg1) :=
  (val3_keep V main_arg1 (by decide)).trans (val2_arg1 V)
theorem val3_arg2 : val3 V (no_index (Proc.devRef .tc main_arg2)) = V (Proc.devRef .tc main_arg2) :=
  (val3_keep V main_arg2 (by decide)).trans (val2_arg2 V)
theorem val3_arg3 : val3 V (no_index (Proc.devRef .tc main_arg3)) = V (Proc.devRef .tc main_arg3) :=
  (val3_keep V main_arg3 (by decide)).trans (val2_arg3 V)
theorem val3_cst : val3 V (no_index (Proc.devRef .tc main_cst)) = (fun i => FloatOps.ofBits .f32 (lit0 (S1x4.rowMajor i)) : Vec F S1x4 .f32) :=
  (val3_keep V main_cst (by decide)).trans (val2_cst V)
theorem val3_v5 : val3 V (no_index (Proc.devRef .tc main_v5)) = R_v5 V :=
  (val3_keep V main_v5 (by decide)).trans (val2_v5 V)
theorem val3_v10 : val3 V (no_index (Proc.devRef .tc main_v10)) = R_v10 V :=
  (val3_keep V main_v10 (by decide)).trans (val2_v10 V)
theorem val3_v15 : val3 V (no_index (Proc.devRef .tc main_v15)) = R_v15 V :=
  (val3_keep V main_v15 (by decide)).trans (val2_v15 V)
theorem val3_v20 : val3 V (no_index (Proc.devRef .tc main_v20)) = R_v20 V :=
  (val3_keep V main_v20 (by decide)).trans (val2_v20 V)
theorem val3_v21 : val3 V (no_index (Proc.devRef .tc main_v21)) = R_v21 V :=
  (val3_keep V main_v21 (by decide)).trans (val2_v21 V)
set_option maxRecDepth 8192 in
set_option maxHeartbeats 2000000 in
theorem val3_v93 : val3 V (no_index (Proc.devRef .tc main_v93)) = R_v93 V := by
  unfold val3
  simp only [ops2]
  after_results_simp
  simp only [val2_v53, val2_v54, val2_v22, val2_v0, val2_v34, val2_v45]
  all_goals rfl

/-- The contents after the first 4 stretches. -/
def val4 : Valuation τ sig (Elt F) := after ops3 (val3 V)
/-- The buffers the stretch writes. -/
abbrev ops3_W : List (Ref sig .tc) := [main_cst_7, main_v94, main_call1_v0, main_call1_cst, main_call1_c, main_call1_v1_0, main_v95, main_cst_8, main_v96, main_v97, main_cst_9, main_v98, main_v99, main_c, main_v100, main_v101, main_c_10, main_v102, main_v103, main_v104, main_v105, main_v106]
set_option maxRecDepth 8192 in
theorem ops3_writes : (ops3 : List (HloOp τ sig (Elt F))).Forall fun op => op.writes ⊆ (ops3_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val4_keep (r : Ref sig .tc) (h : r ∉ ops3_W) : val4 V (Proc.devRef .tc r) = (val3 V) (Proc.devRef .tc r) :=
  after_of_writes_sub ops3 _ ops3_writes h
theorem val4_arg0 : val4 V (no_index (Proc.devRef .tc main_arg0)) = V (Proc.devRef .tc main_arg0) :=
  (val4_keep V main_arg0 (by decide)).trans (val3_arg0 V)
theorem val4_arg1 : val4 V (no_index (Proc.devRef .tc main_arg1)) = V (Proc.devRef .tc main_arg1) :=
  (val4_keep V main_arg1 (by decide)).trans (val3_arg1 V)
theorem val4_arg2 : val4 V (no_index (Proc.devRef .tc main_arg2)) = V (Proc.devRef .tc main_arg2) :=
  (val4_keep V main_arg2 (by decide)).trans (val3_arg2 V)
theorem val4_arg3 : val4 V (no_index (Proc.devRef .tc main_arg3)) = V (Proc.devRef .tc main_arg3) :=
  (val4_keep V main_arg3 (by decide)).trans (val3_arg3 V)
theorem val4_cst : val4 V (no_index (Proc.devRef .tc main_cst)) = (fun i => FloatOps.ofBits .f32 (lit0 (S1x4.rowMajor i)) : Vec F S1x4 .f32) :=
  (val4_keep V main_cst (by decide)).trans (val3_cst V)
theorem val4_v5 : val4 V (no_index (Proc.devRef .tc main_v5)) = R_v5 V :=
  (val4_keep V main_v5 (by decide)).trans (val3_v5 V)
theorem val4_v10 : val4 V (no_index (Proc.devRef .tc main_v10)) = R_v10 V :=
  (val4_keep V main_v10 (by decide)).trans (val3_v10 V)
theorem val4_v15 : val4 V (no_index (Proc.devRef .tc main_v15)) = R_v15 V :=
  (val4_keep V main_v15 (by decide)).trans (val3_v15 V)
theorem val4_v20 : val4 V (no_index (Proc.devRef .tc main_v20)) = R_v20 V :=
  (val4_keep V main_v20 (by decide)).trans (val3_v20 V)
theorem val4_v21 : val4 V (no_index (Proc.devRef .tc main_v21)) = R_v21 V :=
  (val4_keep V main_v21 (by decide)).trans (val3_v21 V)
set_option maxRecDepth 8192 in
set_option maxHeartbeats 2000000 in
theorem val4_v97 : val4 V (no_index (Proc.devRef .tc main_v97)) = R_v97 V := by
  unfold val4
  simp only [ops3]
  after_results_simp
  simp only [val3_v93]
  all_goals rfl
set_option maxRecDepth 8192 in
set_option maxHeartbeats 2000000 in
theorem val4_v99 : val4 V (no_index (Proc.devRef .tc main_v99)) = R_v99 V := by
  unfold val4
  simp only [ops3]
  after_results_simp
  simp only [val3_v93]
  all_goals rfl
set_option maxRecDepth 8192 in
set_option maxHeartbeats 2000000 in
theorem val4_v106 : val4 V (no_index (Proc.devRef .tc main_v106)) = R_v106 V := by
  unfold val4
  simp only [ops3]
  after_results_simp
  simp only [val3_arg3, val3_v93]
  all_goals rfl

/-- The contents after the first 5 stretches. -/
def val5 : Valuation τ sig (Elt F) := after ops4 (val4 V)
/-- The buffers the stretch writes. -/
abbrev ops4_W : List (Ref sig .tc) := [main_v107, main_v108, main_v109, main_call2_v0, main_call2_v1, main_call2_v2, main_call2_v3, main_call2_v4, main_call2_v5, main_v110, main_v111, main_v112, main_cst_11, main_cst_12, main_call3_v0, main_call3_v1, main_call3_v2, main_call3_v3, main_v113, main_call4_v0, main_call4_v1, main_call4_v2, main_v114, main_v115, main_c_13, main_v116, main_v117]
set_option maxRecDepth 8192 in
theorem ops4_writes : (ops4 : List (HloOp τ sig (Elt F))).Forall fun op => op.writes ⊆ (ops4_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val5_keep (r : Ref sig .tc) (h : r ∉ ops4_W) : val5 V (Proc.devRef .tc r) = (val4 V) (Proc.devRef .tc r) :=
  after_of_writes_sub ops4 _ ops4_writes h
theorem val5_arg0 : val5 V (no_index (Proc.devRef .tc main_arg0)) = V (Proc.devRef .tc main_arg0) :=
  (val5_keep V main_arg0 (by decide)).trans (val4_arg0 V)
theorem val5_arg1 : val5 V (no_index (Proc.devRef .tc main_arg1)) = V (Proc.devRef .tc main_arg1) :=
  (val5_keep V main_arg1 (by decide)).trans (val4_arg1 V)
theorem val5_arg2 : val5 V (no_index (Proc.devRef .tc main_arg2)) = V (Proc.devRef .tc main_arg2) :=
  (val5_keep V main_arg2 (by decide)).trans (val4_arg2 V)
theorem val5_arg3 : val5 V (no_index (Proc.devRef .tc main_arg3)) = V (Proc.devRef .tc main_arg3) :=
  (val5_keep V main_arg3 (by decide)).trans (val4_arg3 V)
theorem val5_cst : val5 V (no_index (Proc.devRef .tc main_cst)) = (fun i => FloatOps.ofBits .f32 (lit0 (S1x4.rowMajor i)) : Vec F S1x4 .f32) :=
  (val5_keep V main_cst (by decide)).trans (val4_cst V)
theorem val5_v5 : val5 V (no_index (Proc.devRef .tc main_v5)) = R_v5 V :=
  (val5_keep V main_v5 (by decide)).trans (val4_v5 V)
theorem val5_v10 : val5 V (no_index (Proc.devRef .tc main_v10)) = R_v10 V :=
  (val5_keep V main_v10 (by decide)).trans (val4_v10 V)
theorem val5_v15 : val5 V (no_index (Proc.devRef .tc main_v15)) = R_v15 V :=
  (val5_keep V main_v15 (by decide)).trans (val4_v15 V)
theorem val5_v20 : val5 V (no_index (Proc.devRef .tc main_v20)) = R_v20 V :=
  (val5_keep V main_v20 (by decide)).trans (val4_v20 V)
theorem val5_v21 : val5 V (no_index (Proc.devRef .tc main_v21)) = R_v21 V :=
  (val5_keep V main_v21 (by decide)).trans (val4_v21 V)
theorem val5_v97 : val5 V (no_index (Proc.devRef .tc main_v97)) = R_v97 V :=
  (val5_keep V main_v97 (by decide)).trans (val4_v97 V)
theorem val5_v106 : val5 V (no_index (Proc.devRef .tc main_v106)) = R_v106 V :=
  (val5_keep V main_v106 (by decide)).trans (val4_v106 V)
set_option maxRecDepth 8192 in
set_option maxHeartbeats 2000000 in
theorem val5_v114 : val5 V (no_index (Proc.devRef .tc main_v114)) = R_v114 V := by
  unfold val5
  simp only [ops4]
  after_results_simp
  simp only [val4_v97, val4_v106, val4_v99]
  all_goals rfl
set_option maxRecDepth 8192 in
set_option maxHeartbeats 2000000 in
theorem val5_v117 : val5 V (no_index (Proc.devRef .tc main_v117)) = R_v117 V := by
  unfold val5
  simp only [ops4]
  after_results_simp
  simp only [val4_v97]
  all_goals rfl

/-- The contents after the first 6 stretches. -/
def val6 : Valuation τ sig (Elt F) := after ops5 (val5 V)
/-- The buffers the stretch writes. -/
abbrev ops5_W : List (Ref sig .tc) := [main_cst_14, main_v118, main_v119, main_cst_15, main_cst_16, main_call5_v0, main_call5_v1, main_call5_v2, main_call5_v3, main_v120, main_cst_17, main_v121, main_v122, main_cst_18, main_v123, main_v124, main_v125, main_cst_19, main_v126, main_v127, main_v128, main_v129, main_v130, main_v131, main_cst_20, main_v132, main_v133, main_cst_21, main_v134, main_v135, main_v136, main_v137, main_v138, main_v139, main_cst_22, main_v140, main_v141, main_v142, main_cst_23, main_call7_v0, main_call7_v1, main_call7_v2, main_v143]
set_option maxRecDepth 8192 in
theorem ops5_writes : (ops5 : List (HloOp τ sig (Elt F))).Forall fun op => op.writes ⊆ (ops5_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val6_keep (r : Ref sig .tc) (h : r ∉ ops5_W) : val6 V (Proc.devRef .tc r) = (val5 V) (Proc.devRef .tc r) :=
  after_of_writes_sub ops5 _ ops5_writes h
theorem val6_arg0 : val6 V (no_index (Proc.devRef .tc main_arg0)) = V (Proc.devRef .tc main_arg0) :=
  (val6_keep V main_arg0 (by decide)).trans (val5_arg0 V)
theorem val6_arg1 : val6 V (no_index (Proc.devRef .tc main_arg1)) = V (Proc.devRef .tc main_arg1) :=
  (val6_keep V main_arg1 (by decide)).trans (val5_arg1 V)
theorem val6_arg2 : val6 V (no_index (Proc.devRef .tc main_arg2)) = V (Proc.devRef .tc main_arg2) :=
  (val6_keep V main_arg2 (by decide)).trans (val5_arg2 V)
theorem val6_arg3 : val6 V (no_index (Proc.devRef .tc main_arg3)) = V (Proc.devRef .tc main_arg3) :=
  (val6_keep V main_arg3 (by decide)).trans (val5_arg3 V)
theorem val6_cst : val6 V (no_index (Proc.devRef .tc main_cst)) = (fun i => FloatOps.ofBits .f32 (lit0 (S1x4.rowMajor i)) : Vec F S1x4 .f32) :=
  (val6_keep V main_cst (by decide)).trans (val5_cst V)
theorem val6_v5 : val6 V (no_index (Proc.devRef .tc main_v5)) = R_v5 V :=
  (val6_keep V main_v5 (by decide)).trans (val5_v5 V)
theorem val6_v10 : val6 V (no_index (Proc.devRef .tc main_v10)) = R_v10 V :=
  (val6_keep V main_v10 (by decide)).trans (val5_v10 V)
theorem val6_v15 : val6 V (no_index (Proc.devRef .tc main_v15)) = R_v15 V :=
  (val6_keep V main_v15 (by decide)).trans (val5_v15 V)
theorem val6_v20 : val6 V (no_index (Proc.devRef .tc main_v20)) = R_v20 V :=
  (val6_keep V main_v20 (by decide)).trans (val5_v20 V)
theorem val6_v97 : val6 V (no_index (Proc.devRef .tc main_v97)) = R_v97 V :=
  (val6_keep V main_v97 (by decide)).trans (val5_v97 V)
theorem val6_v106 : val6 V (no_index (Proc.devRef .tc main_v106)) = R_v106 V :=
  (val6_keep V main_v106 (by decide)).trans (val5_v106 V)
theorem val6_v117 : val6 V (no_index (Proc.devRef .tc main_v117)) = R_v117 V :=
  (val6_keep V main_v117 (by decide)).trans (val5_v117 V)
set_option maxRecDepth 8192 in
set_option maxHeartbeats 2000000 in
theorem val6_v143 : val6 V (no_index (Proc.devRef .tc main_v143)) = R_v143 V := by
  unfold val6
  simp only [ops5]
  after_results_simp
  simp only [val5_v114, val5_v21]
  all_goals rfl

/-- The contents after the first 7 stretches. -/
def val7 : Valuation τ sig (Elt F) := after ops6 (val6 V)
/-- The buffers the stretch writes. -/
abbrev ops6_W : List (Ref sig .tc) := [main_v144, main_v145, main_v146, main_v147, main_v148, main_v149, main_v150, main_v151, main_v152, main_v153]
set_option maxRecDepth 8192 in
theorem ops6_writes : (ops6 : List (HloOp τ sig (Elt F))).Forall fun op => op.writes ⊆ (ops6_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val7_keep (r : Ref sig .tc) (h : r ∉ ops6_W) : val7 V (Proc.devRef .tc r) = (val6 V) (Proc.devRef .tc r) :=
  after_of_writes_sub ops6 _ ops6_writes h
theorem val7_arg0 : val7 V (no_index (Proc.devRef .tc main_arg0)) = V (Proc.devRef .tc main_arg0) :=
  (val7_keep V main_arg0 (by decide)).trans (val6_arg0 V)
theorem val7_arg1 : val7 V (no_index (Proc.devRef .tc main_arg1)) = V (Proc.devRef .tc main_arg1) :=
  (val7_keep V main_arg1 (by decide)).trans (val6_arg1 V)
theorem val7_arg2 : val7 V (no_index (Proc.devRef .tc main_arg2)) = V (Proc.devRef .tc main_arg2) :=
  (val7_keep V main_arg2 (by decide)).trans (val6_arg2 V)
theorem val7_arg3 : val7 V (no_index (Proc.devRef .tc main_arg3)) = V (Proc.devRef .tc main_arg3) :=
  (val7_keep V main_arg3 (by decide)).trans (val6_arg3 V)
theorem val7_cst : val7 V (no_index (Proc.devRef .tc main_cst)) = (fun i => FloatOps.ofBits .f32 (lit0 (S1x4.rowMajor i)) : Vec F S1x4 .f32) :=
  (val7_keep V main_cst (by decide)).trans (val6_cst V)
theorem val7_v5 : val7 V (no_index (Proc.devRef .tc main_v5)) = R_v5 V :=
  (val7_keep V main_v5 (by decide)).trans (val6_v5 V)
theorem val7_v10 : val7 V (no_index (Proc.devRef .tc main_v10)) = R_v10 V :=
  (val7_keep V main_v10 (by decide)).trans (val6_v10 V)
theorem val7_v15 : val7 V (no_index (Proc.devRef .tc main_v15)) = R_v15 V :=
  (val7_keep V main_v15 (by decide)).trans (val6_v15 V)
theorem val7_v20 : val7 V (no_index (Proc.devRef .tc main_v20)) = R_v20 V :=
  (val7_keep V main_v20 (by decide)).trans (val6_v20 V)
theorem val7_v97 : val7 V (no_index (Proc.devRef .tc main_v97)) = R_v97 V :=
  (val7_keep V main_v97 (by decide)).trans (val6_v97 V)
theorem val7_v106 : val7 V (no_index (Proc.devRef .tc main_v106)) = R_v106 V :=
  (val7_keep V main_v106 (by decide)).trans (val6_v106 V)
theorem val7_v117 : val7 V (no_index (Proc.devRef .tc main_v117)) = R_v117 V :=
  (val7_keep V main_v117 (by decide)).trans (val6_v117 V)
theorem val7_v143 : val7 V (no_index (Proc.devRef .tc main_v143)) = R_v143 V :=
  (val7_keep V main_v143 (by decide)).trans (val6_v143 V)
set_option maxRecDepth 8192 in
set_option maxHeartbeats 2000000 in
theorem val7_v148 : val7 V (no_index (Proc.devRef .tc main_v148)) = R_v148 V := by
  unfold val7
  simp only [ops6]
  after_results_simp
  simp only [val6_v106]
  all_goals rfl
set_option maxRecDepth 8192 in
set_option maxHeartbeats 2000000 in
theorem val7_v153 : val7 V (no_index (Proc.devRef .tc main_v153)) = R_v153 V := by
  unfold val7
  simp only [ops6]
  after_results_simp
  simp only [val6_v106]
  all_goals rfl

/-- The contents after the first 8 stretches. -/
def val8 : Valuation τ sig (Elt F) := after ops7 (val7 V)
/-- The buffers the stretch writes. -/
abbrev ops7_W : List (Ref sig .tc) := [main_v154, main_v155, main_cst_24, main_v156, main_v157, main_v158, main_v159, main_v160, main_cst_25, main_v161, main_v162, main_v163, main_cst_26, main_v164, main_v165, main_cst_27, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192]
set_option maxRecDepth 8192 in
theorem ops7_writes : (ops7 : List (HloOp τ sig (Elt F))).Forall fun op => op.writes ⊆ (ops7_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val8_keep (r : Ref sig .tc) (h : r ∉ ops7_W) : val8 V (Proc.devRef .tc r) = (val7 V) (Proc.devRef .tc r) :=
  after_of_writes_sub ops7 _ ops7_writes h
theorem val8_arg0 : val8 V (no_index (Proc.devRef .tc main_arg0)) = V (Proc.devRef .tc main_arg0) :=
  (val8_keep V main_arg0 (by decide)).trans (val7_arg0 V)
theorem val8_arg1 : val8 V (no_index (Proc.devRef .tc main_arg1)) = V (Proc.devRef .tc main_arg1) :=
  (val8_keep V main_arg1 (by decide)).trans (val7_arg1 V)
theorem val8_arg2 : val8 V (no_index (Proc.devRef .tc main_arg2)) = V (Proc.devRef .tc main_arg2) :=
  (val8_keep V main_arg2 (by decide)).trans (val7_arg2 V)
theorem val8_arg3 : val8 V (no_index (Proc.devRef .tc main_arg3)) = V (Proc.devRef .tc main_arg3) :=
  (val8_keep V main_arg3 (by decide)).trans (val7_arg3 V)
theorem val8_cst : val8 V (no_index (Proc.devRef .tc main_cst)) = (fun i => FloatOps.ofBits .f32 (lit0 (S1x4.rowMajor i)) : Vec F S1x4 .f32) :=
  (val8_keep V main_cst (by decide)).trans (val7_cst V)
theorem val8_v97 : val8 V (no_index (Proc.devRef .tc main_v97)) = R_v97 V :=
  (val8_keep V main_v97 (by decide)).trans (val7_v97 V)
theorem val8_v117 : val8 V (no_index (Proc.devRef .tc main_v117)) = R_v117 V :=
  (val8_keep V main_v117 (by decide)).trans (val7_v117 V)
theorem val8_v143 : val8 V (no_index (Proc.devRef .tc main_v143)) = R_v143 V :=
  (val8_keep V main_v143 (by decide)).trans (val7_v143 V)
set_option maxRecDepth 8192 in
set_option maxHeartbeats 2000000 in
theorem val8_v192 : val8 V (no_index (Proc.devRef .tc main_v192)) = R_v192 V := by
  unfold val8
  simp only [ops7]
  after_results_simp
  try dsimp only [Matrix.cons_val]
  try after_results_simp
  simp only [val7_v106, val7_v148, val7_v15, val7_v5, val7_v153, val7_v20, val7_v10]
  all_goals rfl

/-- The contents after the first 9 stretches. -/
def val9 : Valuation τ sig (Elt F) := after ops8 (val8 V)
/-- The buffers the stretch writes. -/
abbrev ops8_W : List (Ref sig .tc) := [main_v193, main_v194, main_v195, main_v196, main_v197, main_cst_28, main_v198, main_v199, main_v200, main_cst_29, main_v201, main_v202, main_cst_30, main_v203, main_v204, main_v205, main_v206]
set_option maxRecDepth 8192 in
theorem ops8_writes : (ops8 : List (HloOp τ sig (Elt F))).Forall fun op => op.writes ⊆ (ops8_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val9_keep (r : Ref sig .tc) (h : r ∉ ops8_W) : val9 V (Proc.devRef .tc r) = (val8 V) (Proc.devRef .tc r) :=
  after_of_writes_sub ops8 _ ops8_writes h
theorem val9_arg0 : val9 V (no_index (Proc.devRef .tc main_arg0)) = V (Proc.devRef .tc main_arg0) :=
  (val9_keep V main_arg0 (by decide)).trans (val8_arg0 V)
theorem val9_arg1 : val9 V (no_index (Proc.devRef .tc main_arg1)) = V (Proc.devRef .tc main_arg1) :=
  (val9_keep V main_arg1 (by decide)).trans (val8_arg1 V)
theorem val9_arg2 : val9 V (no_index (Proc.devRef .tc main_arg2)) = V (Proc.devRef .tc main_arg2) :=
  (val9_keep V main_arg2 (by decide)).trans (val8_arg2 V)
theorem val9_arg3 : val9 V (no_index (Proc.devRef .tc main_arg3)) = V (Proc.devRef .tc main_arg3) :=
  (val9_keep V main_arg3 (by decide)).trans (val8_arg3 V)
theorem val9_v117 : val9 V (no_index (Proc.devRef .tc main_v117)) = R_v117 V :=
  (val9_keep V main_v117 (by decide)).trans (val8_v117 V)
theorem val9_v143 : val9 V (no_index (Proc.devRef .tc main_v143)) = R_v143 V :=
  (val9_keep V main_v143 (by decide)).trans (val8_v143 V)
set_option maxRecDepth 8192 in
set_option maxHeartbeats 2000000 in
theorem val9_v205 : val9 V (no_index (Proc.devRef .tc main_v205)) = R_v205 V := by
  unfold val9
  simp only [ops8]
  after_results_simp
  simp only [val8_v192, val8_cst, val8_arg1]
  all_goals rfl
set_option maxRecDepth 8192 in
set_option maxHeartbeats 2000000 in
theorem val9_v206 : val9 V (no_index (Proc.devRef .tc main_v206)) = R_v206 V := by
  unfold val9
  simp only [ops8]
  after_results_simp
  simp only [val8_v97]
  all_goals rfl

/-- The contents after the first 10 stretches. -/
def val10 : Valuation τ sig (Elt F) := after ops9 (val9 V)
/-- The buffers the stretch writes. -/
abbrev ops9_W : List (Ref sig .tc) := [main_v207, main_v208, main_v209, main_cst_31, main_v210, main_cst_32, main_v211, main_v212, main_v213, main_cst_33, main_v214, main_cst_34, main_v215, main_v216, main_cst_35, main_v217, main_v218, main_v219, main_cst_36, main_v220, main_v221, main_cst_37, main_v222, main_v223, main_cst_38, main_v224, main_v225, main_cst_39, main_v226, main_v227]
set_option maxRecDepth 8192 in
theorem ops9_writes : (ops9 : List (HloOp τ sig (Elt F))).Forall fun op => op.writes ⊆ (ops9_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- What the stretch does not write stays. -/
theorem val10_keep (r : Ref sig .tc) (h : r ∉ ops9_W) : val10 V (Proc.devRef .tc r) = (val9 V) (Proc.devRef .tc r) :=
  after_of_writes_sub ops9 _ ops9_writes h
theorem val10_arg0 : val10 V (no_index (Proc.devRef .tc main_arg0)) = V (Proc.devRef .tc main_arg0) :=
  (val10_keep V main_arg0 (by decide)).trans (val9_arg0 V)
theorem val10_arg1 : val10 V (no_index (Proc.devRef .tc main_arg1)) = V (Proc.devRef .tc main_arg1) :=
  (val10_keep V main_arg1 (by decide)).trans (val9_arg1 V)
theorem val10_arg2 : val10 V (no_index (Proc.devRef .tc main_arg2)) = V (Proc.devRef .tc main_arg2) :=
  (val10_keep V main_arg2 (by decide)).trans (val9_arg2 V)
theorem val10_arg3 : val10 V (no_index (Proc.devRef .tc main_arg3)) = V (Proc.devRef .tc main_arg3) :=
  (val10_keep V main_arg3 (by decide)).trans (val9_arg3 V)
set_option maxRecDepth 8192 in
set_option maxHeartbeats 2000000 in
theorem val10_v223 : val10 V (no_index (Proc.devRef .tc main_v223)) = R_v223 V := by
  unfold val10
  simp only [ops9]
  after_results_simp
  simp only [val9_v143, val9_v117]
  all_goals rfl
set_option maxRecDepth 8192 in
set_option maxHeartbeats 2000000 in
theorem val10_v227 : val10 V (no_index (Proc.devRef .tc main_v227)) = R_v227 V := by
  unfold val10
  simp only [ops9]
  after_results_simp
  simp only [val9_v205, val9_v206, val9_v117]
  all_goals rfl

/-- The contents after the whole list. -/
theorem after_ops : after ops V = val10 V := by
  simp only [ops, opsP0, opsP1, opsP2, opsP3, opsP4, after_append]
  rfl

set_option maxRecDepth 8192 in
/-- Every weakly fair execution of the reference ends with its two results at the values above, the arguments
    unchanged and every semaphore counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v223) = R_v223 (launchContents m c)
      ∧ r.2.mem ((c.tc : Thread nD τ).loc main_v227) = R_v227 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c main_v223).trans ((congrFun (after_ops (launchContents m c)) (Proc.devRef .tc main_v223)).trans (val10_v223 (launchContents m c))),
    (h c main_v227).trans ((congrFun (after_ops (launchContents m c)) (Proc.devRef .tc main_v227)).trans (val10_v227 (launchContents m c))),
    (h c main_arg0).trans ((congrFun (after_ops (launchContents m c)) (Proc.devRef .tc main_arg0)).trans (val10_arg0 (launchContents m c))),
    (h c main_arg1).trans ((congrFun (after_ops (launchContents m c)) (Proc.devRef .tc main_arg1)).trans (val10_arg1 (launchContents m c))),
    (h c main_arg2).trans ((congrFun (after_ops (launchContents m c)) (Proc.devRef .tc main_arg2)).trans (val10_arg2 (launchContents m c))),
    (h c main_arg3).trans ((congrFun (after_ops (launchContents m c)) (Proc.devRef .tc main_arg3)).trans (val10_arg3 (launchContents m c)))⟩, sem_eq_zero_of_no_sems rfl r.2⟩)
    (run_seq scopedRefs_eq scopedSems_eq defs main (fun _ => ops) main_eq (fun _ => ops_sub) m ρ fun _ => ops_fresh)

end Cert.ReferenceIdeal.Run

end
-- ==== Proof.Val.Spec.lean ====
/- The focal loss of one anchor, on the extended reals: the values both programs are read back to (hand-written). -/
module

public import Idealize.ShloMosaic.Lib.Pointwise

@[expose] public section

noncomputable section

namespace Cert.Focal

open Idealize.ShloMosaic

/-- An f32 constant, read as a real. -/
abbrev cst (b : BitVec 32) : EReal := Ideal.ofBits FTy.f32 b

/-- The area in which an anchor and a box overlap. -/
def inter (a : Fin 4 → EReal) (b : Fin 5 → EReal) : EReal :=
  max (min (a 2) (b 2) - max (a 0) (b 0)) 0 * max (min (a 3) (b 3) - max (a 1) (b 1)) 0

/-- The overlap of an anchor and a box: intersection over union. -/
def iou (a : Fin 4 → EReal) (b : Fin 5 → EReal) : EReal :=
  Ideal.div (inter a b)
    (max ((a 2 - a 0) * (a 3 - a 1) + (b 2 - b 0) * (b 3 - b 1) - inter a b) (cst 0x322BCC77#32))

/-- The largest overlap of an anchor with the boxes. -/
def top (a : Fin 4 → EReal) (B : Fin 32 → Fin 5 → EReal) : EReal :=
  Finset.fold max (cst 0xFF800000#32) (fun k => iou a (B k)) Finset.univ

/-- The constant below everything is the bottom. -/
theorem cst_bot : cst 0xFF800000#32 = ⊥ := by
  simp [cst, Ideal.ofBits, Ideal.ieee]

/-- A row is the first of the largest overlap. -/
def IsBest (a : Fin 4 → EReal) (B : Fin 32 → Fin 5 → EReal) (k : Fin 32) : Prop :=
  iou a (B k) = top a B ∧ ∀ j : Fin 32, j < k → iou a (B j) ≠ top a B

/-- The largest overlap is the supremum. -/
theorem top_eq_sup (a : Fin 4 → EReal) (B : Fin 32 → Fin 5 → EReal) :
    top a B = Finset.univ.sup (fun k => iou a (B k)) := by
  unfold top
  rw [cst_bot]
  rfl

/-- No overlap is larger. -/
theorem le_top (a : Fin 4 → EReal) (B : Fin 32 → Fin 5 → EReal) (k : Fin 32) : iou a (B k) ≤ top a B := by
  rw [top_eq_sup]
  exact Finset.le_sup (f := fun k => iou a (B k)) (Finset.mem_univ k)

/-- The largest overlap is reached. -/
theorem exists_top (a : Fin 4 → EReal) (B : Fin 32 → Fin 5 → EReal) : ∃ k, iou a (B k) = top a B := by
  obtain ⟨k, -, hk⟩ := Finset.exists_mem_eq_sup Finset.univ ⟨(0 : Fin 32), Finset.mem_univ _⟩ (fun k => iou a (B k))
  exact ⟨k, by rw [top_eq_sup, hk]⟩

/-- There is a first row of the largest overlap. -/
theorem exists_best (a : Fin 4 → EReal) (B : Fin 32 → Fin 5 → EReal) : ∃ k, IsBest a B k := by
  classical
  have h : (Finset.univ.filter fun k => iou a (B k) = top a B).Nonempty := by
    obtain ⟨k, hk⟩ := exists_top a B
    exact ⟨k, by simp [hk]⟩
  refine ⟨Finset.min' _ h, ?_, fun j hj e => ?_⟩
  · exact (Finset.mem_filter.1 (Finset.min'_mem _ h)).2
  · exact absurd (Finset.min'_le _ j (by simp [e])) (not_le.2 hj)

/-- The row matched to the anchor. -/
def best (a : Fin 4 → EReal) (B : Fin 32 → Fin 5 → EReal) : Fin 32 := Classical.choose (exists_best a B)

/-- It is the first of the largest overlap, -/
theorem best_spec (a : Fin 4 → EReal) (B : Fin 32 → Fin 5 → EReal) : IsBest a B (best a B) := Classical.choose_spec (exists_best a B)

/-- and the only such row. -/
theorem IsBest.eq_best {a : Fin 4 → EReal} {B : Fin 32 → Fin 5 → EReal} {k : Fin 32} (h : IsBest a B k) : k = best a B := by
  have h' := best_spec a B
  rcases lt_trichotomy k (best a B) with c | c | c
  · exact absurd h.1 (h'.2 _ c)
  · exact c
  · exact absurd h'.1 (h.2 _ c)

/-- The matched box. -/
def box (a : Fin 4 → EReal) (B : Fin 32 → Fin 5 → EReal) : Fin 5 → EReal := B (best a B)

/-- A probability, kept away from zero and one. -/
def clip (x : EReal) : EReal := min (cst 0x3F7FF972#32) (max (cst 0x38D1B717#32) x)

/-- The loss of a class the anchor is not of. -/
def negT (x : EReal) : EReal := cst 0x3F400000#32 * (x * x) * (0 - Ideal.log (1 - x))

/-- The loss of the class the anchor is of. -/
def posT (x : EReal) : EReal := cst 0x3E800000#32 * (1 - x) * (1 - x) * (0 - Ideal.log x)

/-- The matched box's label. -/
def lab (a : Fin 4 → EReal) (B : Fin 32 → Fin 5 → EReal) : BitVec 32 := Ideal.fptosi 32 (box a B 4)

/-- The anchor is matched. -/
def IsPos (a : Fin 4 → EReal) (B : Fin 32 → Fin 5 → EReal) : Prop := cst 0x3F000000#32 ≤ top a B

/-- The anchor is background. -/
def IsNeg (a : Fin 4 → EReal) (B : Fin 32 → Fin 5 → EReal) : Prop := top a B < cst 0x3ECCCCCD#32

open Classical in
/-- The classification loss of one anchor: over the classes when it is matched or background, zero otherwise. -/
def clsLoss (a : Fin 4 → EReal) (B : Fin 32 → Fin 5 → EReal) (x : Fin 80 → EReal) : EReal :=
  if IsPos a B then ∑ c : Fin 80, (if lab a B = BitVec.ofNat 32 c.val then posT (clip (x c)) else negT (clip (x c)))
  else if IsNeg a B then ∑ c : Fin 80, negT (clip (x c)) else 0

/-- The smooth absolute difference. -/
def smooth (t r : EReal) : EReal :=
  let d := FloatOps.absf (F := Ideal) (φ := .f32) (t - r)
  if d ≤ cst 0x3DE38E39#32 then cst 0x40900000#32 * (d * d) else d - cst 0x3D638E39#32

/-- The centre target along an axis, of a box `[p, q]` against an anchor `[u, v]`. -/
def centre (p q u v : EReal) : EReal :=
  Ideal.div (Ideal.div (p + cst 0x3F000000#32 * (q - p) - (u + cst 0x3F000000#32 * (v - u))) (v - u)) (cst 0x3DCCCCCD#32)

/-- The size target along an axis. -/
def extent (p q u v : EReal) : EReal :=
  Ideal.div (Ideal.log (Ideal.div (max (q - p) 1) (v - u))) (cst 0x3E4CCCCD#32)

/-- The four targets of the anchor. -/
def target (a : Fin 4 → EReal) (g : Fin 5 → EReal) (j : Fin 4) : EReal :=
  match j with
  | 0 => centre (g 0) (g 2) (a 0) (a 2)
  | 1 => centre (g 1) (g 3) (a 1) (a 3)
  | 2 => extent (g 0) (g 2) (a 0) (a 2)
  | 3 => extent (g 1) (g 3) (a 1) (a 3)

open Classical in
/-- The regression loss of one anchor: zero unless it is matched. -/
def regLoss (a : Fin 4 → EReal) (B : Fin 32 → Fin 5 → EReal) (r : Fin 4 → EReal) : EReal :=
  if IsPos a B then ∑ j : Fin 4, smooth (target a (box a B) j) (r j) else 0

open Classical in
/-- One for a matched anchor. -/
def posOne (a : Fin 4 → EReal) (B : Fin 32 → Fin 5 → EReal) : EReal := if IsPos a B then 1 else 0

/-- The classification loss over the batch. -/
def clsMean (l n : Fin 4 → Fin 20000 → EReal) : EReal :=
  Ideal.div (∑ b, Ideal.div (∑ a, l b a) (max (∑ a, n b a) 1)) (cst 0x40800000#32)

/-- The regression loss over the batch. -/
def regMean (l n : Fin 4 → Fin 20000 → EReal) : EReal :=
  Ideal.div (∑ b, Ideal.div (∑ a, l b a) (max ((∑ a, n b a) * cst 0x40800000#32) 1)) (cst 0x40800000#32)

end Cert.Focal
-- ==== Proof.Val.KernelLane.lean ====
/- The kernel body's vectors, read at one lane (hand-written). -/
module

public import proofs.«01_k».proof.Proof.Run.KernelIdealLanes
public import proofs.«01_k».proof.Proof.Val.Spec
public import Idealize.ShloMosaic.Lib.Pointwise

@[expose] public section

set_option maxRecDepth 16384

noncomputable section

namespace Cert.KernelIdeal.Run

open Cert.KernelIdeal Cert.KernelIdeal.Gen Cert.Focal
open Idealize.ShloMosaic Idealize.ShloMosaic.TcCoe Idealize.ShloMosaic.Tactic

variable (i : grid0.Coords) (t : Vec Ideal S1x32x5 .f32) (a0 a1 a2 a3 : Vec Ideal S1x20480 .f32)

/-- The anchor of a lane. -/
def ancL (l : Fin 20480) : Fin 4 → EReal := ![a0 (ix2 (0 : Fin 1) l), a1 (ix2 (0 : Fin 1) l), a2 (ix2 (0 : Fin 1) l), a3 (ix2 (0 : Fin 1) l)]

/-- The boxes of the block. -/
def boxL : Fin 32 → Fin 5 → EReal := fun k j => t (ix3 (0 : Fin 1) k j)

/-- The validity bit inside the array, -/
theorem valid_in {l : Fin 20480} (hl : l.val < 20000) : k0_pay4 (F := Ideal) i nA (ix2 (0 : Fin 1) l) = 1#1 := by
  rw [valid_at, if_pos hl]
/-- and outside. -/
theorem valid_out {l : Fin 20480} (hl : ¬ l.val < 20000) : k0_pay4 (F := Ideal) i nA (ix2 (0 : Fin 1) l) = 0#1 := by
  rw [valid_at, if_neg hl]

/-- A select under a bit that holds. -/
theorem sel_one {α : Type} (a b : α) : Scalar.select 1#1 a b = a := rfl
/-- A select under a bit that does not. -/
theorem sel_zero {α : Type} (a b : α) : Scalar.select 0#1 a b = b := rfl

/-- The masked rows of the anchors, inside the array. -/
theorem pay11_at {l : Fin 20480} (hl : l.val < 20000) : k0_pay11 (F := Ideal) i nA a0 (ix2 (0 : Fin 1) l) = a0 (ix2 (0 : Fin 1) l) := by
  pointwise [k0_pay11]
  rw [valid_in i hl, sel_one]
theorem pay12_at {l : Fin 20480} (hl : l.val < 20000) : k0_pay12 (F := Ideal) i nA a0 (ix2 (0 : Fin 1) l) = a0 (ix2 (0 : Fin 1) l) := by
  pointwise [k0_pay12]
  rw [valid_in i hl, sel_one]
theorem pay13_at {l : Fin 20480} (hl : l.val < 20000) : k0_pay13 (F := Ideal) i nA a0 (ix2 (0 : Fin 1) l) = a0 (ix2 (0 : Fin 1) l) := by
  pointwise [k0_pay13]
  rw [valid_in i hl, sel_one]
theorem pay14_at {l : Fin 20480} (hl : l.val < 20000) : k0_pay14 (k0_pay4 (F := Ideal) i nA) a0 (ix2 (0 : Fin 1) l) = a0 (ix2 (0 : Fin 1) l) := by
  pointwise [k0_pay14]
  rw [valid_in i hl, sel_one]

/-- The columns of the annotations. -/
theorem pay7_at (k : Fin 32) : k0_pay7 (F := Ideal) t (ix2 k (0 : Fin 1)) = boxL t k 0 := by pointwise [k0_pay7, k0_pay6]; rfl
theorem pay8_at (k : Fin 32) : k0_pay8 (F := Ideal) t (ix2 k (0 : Fin 1)) = boxL t k 1 := by pointwise [k0_pay8, k0_pay6]; rfl
theorem pay9_at (k : Fin 32) : k0_pay9 (F := Ideal) t (ix2 k (0 : Fin 1)) = boxL t k 2 := by pointwise [k0_pay9, k0_pay6]; rfl
theorem pay10_at (k : Fin 32) : k0_pay10 (F := Ideal) t (ix2 k (0 : Fin 1)) = boxL t k 3 := by pointwise [k0_pay10, k0_pay6]; rfl
theorem pay6_at (k : Fin 32) : k0_pay6 (F := Ideal) t (ix2 k (4 : Fin 5)) = boxL t k 4 := by pointwise [k0_pay6]; rfl

/-- The overlap of a lane's anchor with a box. -/
theorem iou_at {l : Fin 20480} (hl : l.val < 20000) (k : Fin 32) :
    k0_pay21 (F := Ideal) (k0_pay4 (F := Ideal) i nA) (k0_pay7 t) (k0_pay8 t) (k0_pay9 t) (k0_pay10 t) (k0_pay11 i nA a0) (k0_pay12 i nA a1) (k0_pay13 i nA a2) a3 (ix2 k l)
      = iou (ancL a0 a1 a2 a3 l) (boxL t k) := by
  pointwise [k0_pay21, k0_pay15, k0_pay16, k0_pay14]
  rw [valid_in i hl, sel_one, pay11_at i a0 hl, pay12_at i a1 hl, pay13_at i a2 hl, pay7_at, pay8_at, pay9_at, pay10_at]
  rfl

/-- The largest of a column. -/
theorem pay22_read (v12 : IVec S1x20480 1) (b0 b1 b2 b3 : FVec Ideal S32x1 .f32) (e f g : FVec Ideal S1x20480 .f32) (h : Vec Ideal S1x20480 .f32) (l : Fin 20480) :
    k0_pay22 (F := Ideal) v12 b0 b1 b2 b3 e f g h (ix2 (0 : Fin 1) l)
      = Finset.fold max (cst 0xFF800000#32) (fun x => k0_pay21 (F := Ideal) v12 b0 b1 b2 b3 e f g h (ix2 x l)) Finset.univ := by
  pointwise [k0_pay22]

/-- The largest overlap of a lane's anchor. -/
theorem max_at {l : Fin 20480} (hl : l.val < 20000) :
    bMax (F := Ideal) i nA t a0 a1 a2 a3 (ix2 (0 : Fin 1) l) = top (ancL a0 a1 a2 a3 l) (boxL t) := by
  unfold bMax
  rw [pay22_read]
  unfold top
  refine congrArg (fun f => Finset.fold max (cst 0xFF800000#32) f Finset.univ) ?_
  funext k
  exact iou_at i t a0 a1 a2 a3 hl k

/-- The equality test of a column with its largest. -/
theorem pay23_read (v12 : IVec S1x20480 1) (b0 b1 b2 b3 : FVec Ideal S32x1 .f32) (e f g : FVec Ideal S1x20480 .f32) (h : Vec Ideal S1x20480 .f32) (k : Fin 32) (l : Fin 20480) :
    k0_pay23 (F := Ideal) v12 b0 b1 b2 b3 e f g h (ix2 k l) = BitVec.ofBool (decide (k0_pay21 (F := Ideal) v12 b0 b1 b2 b3 e f g h (ix2 k l) = k0_pay22 (F := Ideal) v12 b0 b1 b2 b3 e f g h (ix2 (0 : Fin 1) l))) := by
  pointwise [k0_pay23]

/-- A decided bit. -/
theorem ofBool_iff (p : Prop) [Decidable p] : BitVec.ofBool (decide p) = 1#1 ↔ p := by
  by_cases h : p <;> simp [h]

/-- Where the overlap is the largest. -/
theorem top_at {l : Fin 20480} (hl : l.val < 20000) (k : Fin 32) :
    bTop (F := Ideal) i nA t a0 a1 a2 a3 (ix2 k l) = 1#1 ↔ iou (ancL a0 a1 a2 a3 l) (boxL t k) = top (ancL a0 a1 a2 a3 l) (boxL t) := by
  have h1 := max_at i t a0 a1 a2 a3 hl
  unfold bMax at h1
  unfold bTop
  rw [pay23_read, ofBool_iff, h1, iou_at i t a0 a1 a2 a3 hl k]

/-- The matched bit of a lane, -/
theorem pay29_read (v : IVec S1x20480 1) (M : FVec Ideal S1x20480 .f32) (l : Fin 20480) :
    k0_pay29 (F := Ideal) v M (ix2 (0 : Fin 1) l) = 1#1 ↔ cst 0x3F000000#32 ≤ M (ix2 (0 : Fin 1) l) ∧ v (ix2 (0 : Fin 1) l) = 1#1 := by
  have e : k0_pay29 (F := Ideal) v M (ix2 (0 : Fin 1) l) = IntOp.andi (BitVec.ofBool (decide (cst 0x3F000000#32 ≤ M (ix2 (0 : Fin 1) l)))) (v (ix2 (0 : Fin 1) l)) := by
    pointwise [k0_pay29]
  rw [e]
  generalize v (ix2 (0 : Fin 1) l) = w
  by_cases h : cst 0x3F000000#32 ≤ M (ix2 (0 : Fin 1) l) <;> simp only [h, decide_true, decide_false] <;> revert w <;> decide
/-- and the bit of the lanes that count. -/
theorem pay30_read (v : IVec S1x20480 1) (M : FVec Ideal S1x20480 .f32) (l : Fin 20480) :
    k0_pay30 (F := Ideal) v M (ix2 (0 : Fin 1) l) = 1#1
      ↔ (cst 0x3F000000#32 ≤ M (ix2 (0 : Fin 1) l) ∨ M (ix2 (0 : Fin 1) l) < cst 0x3ECCCCCD#32) ∧ v (ix2 (0 : Fin 1) l) = 1#1 := by
  have e : k0_pay30 (F := Ideal) v M (ix2 (0 : Fin 1) l) = IntOp.andi (IntOp.ori (BitVec.ofBool (decide (cst 0x3F000000#32 ≤ M (ix2 (0 : Fin 1) l)))) (BitVec.ofBool (decide (M (ix2 (0 : Fin 1) l) < cst 0x3ECCCCCD#32)))) (v (ix2 (0 : Fin 1) l)) := by
    pointwise [k0_pay30]
  rw [e]
  generalize v (ix2 (0 : Fin 1) l) = w
  by_cases h : cst 0x3F000000#32 ≤ M (ix2 (0 : Fin 1) l) <;> by_cases h' : M (ix2 (0 : Fin 1) l) < cst 0x3ECCCCCD#32 <;>
    simp only [h, h', decide_true, decide_false] <;> revert w <;> decide

/-- The matched lanes, -/
theorem pos_at {l : Fin 20480} (hl : l.val < 20000) :
    bPos (F := Ideal) i nA t a0 a1 a2 a3 (ix2 (0 : Fin 1) l) = 1#1 ↔ IsPos (ancL a0 a1 a2 a3 l) (boxL t) := by
  unfold bPos
  rw [pay29_read, max_at i t a0 a1 a2 a3 hl, valid_in i hl]
  exact and_iff_left rfl
/-- none outside. -/
theorem pos_out {l : Fin 20480} (hl : ¬ l.val < 20000) :
    ¬ bPos (F := Ideal) i nA t a0 a1 a2 a3 (ix2 (0 : Fin 1) l) = 1#1 := by
  unfold bPos
  rw [pay29_read, valid_out i hl]
  exact fun h => absurd h.2 (by decide)
/-- The lanes that count, -/
theorem cnt_at {l : Fin 20480} (hl : l.val < 20000) :
    k0_pay30 (F := Ideal) (k0_pay4 (F := Ideal) i nA) (bMax (F := Ideal) i nA t a0 a1 a2 a3) (ix2 (0 : Fin 1) l) = 1#1
      ↔ IsPos (ancL a0 a1 a2 a3 l) (boxL t) ∨ IsNeg (ancL a0 a1 a2 a3 l) (boxL t) := by
  rw [pay30_read, max_at i t a0 a1 a2 a3 hl, valid_in i hl]
  exact and_iff_left rfl
/-- none outside. -/
theorem cnt_out {l : Fin 20480} (hl : ¬ l.val < 20000) :
    ¬ k0_pay30 (F := Ideal) (k0_pay4 (F := Ideal) i nA) (bMax (F := Ideal) i nA t a0 a1 a2 a3) (ix2 (0 : Fin 1) l) = 1#1 := by
  rw [pay30_read, valid_out i hl]
  exact fun h => absurd h.2 (by decide)

/-! ## The first row of the largest overlap -/

/-- The smallest row number among the marked ones. -/
theorem fold_min (T : Fin 32 → BitVec 1) (k : Fin 32) (hk : T k = 1#1) (hj : ∀ j : Fin 32, j < k → T j ≠ 1#1) :
    Finset.fold IntOp.minsi 2147483647#32 (fun x : Fin 32 => Scalar.select (T x) (BitVec.ofNat 32 x.val) 32#32) Finset.univ = BitVec.ofNat 32 k.val := by
  have hom : ∀ x y : BitVec 32, (IntOp.minsi x y).toInt = min x.toInt y.toInt := by
    intro x y
    unfold IntOp.minsi
    rw [BitVec.slt_eq_decide]
    by_cases h : x.toInt < y.toInt
    · simp [h, le_of_lt h]
    · simp [h, not_lt.1 h]
  have val : ∀ x : Fin 32, (BitVec.ofNat 32 x.val).toInt = x.val := by decide
  apply BitVec.eq_of_toInt_eq
  rw [← Finset.fold_hom (op' := (min : Int → Int → Int)) (m := fun x : BitVec 32 => x.toInt) hom, val]
  apply le_antisymm
  · rw [Finset.fold_min_le]
    exact Or.inr ⟨k, Finset.mem_univ _, by simp only [hk, sel_one, val]; exact le_refl _⟩
  · rw [Finset.le_fold_min]
    refine ⟨?_, fun x _ => ?_⟩
    · have := k.isLt
      have e : (2147483647#32 : BitVec 32).toInt = 2147483647 := by decide
      rw [e]; omega
    · have hb : T x = 1#1 ∨ T x = 0#1 := by generalize T x = w; revert w; decide
      rcases hb with h | h
      · simp only [h, sel_one, val]
        have : ¬ x < k := fun c => hj x c h
        exact_mod_cast not_lt.1 this
      · simp only [h, sel_zero]
        have := k.isLt
        have e : (32#32 : BitVec 32).toInt = 32 := by decide
        rw [e]; omega

/-- The row-number test of a lane. -/
theorem pay24_read (v : IVec S32x20480 32) (b : IVec S32x20480 1) (k : Fin 32) (l : Fin 20480) :
    k0_pay24 v b 32#32 (ix2 k l) = IntOp.cmpi CmpIPredicate.eq (v (ix2 k l))
      (Finset.fold IntOp.minsi 2147483647#32 (fun x => Scalar.select (b (ix2 x l)) (v (ix2 x l)) 32#32) Finset.univ) := by
  pointwise [k0_pay24]

/-- The row numbers. -/
theorem iota_read (k : Fin 32) (l : Fin 20480) : bIota (ix2 k l) = BitVec.ofNat 32 k.val := by
  pointwise [bIota]

/-- The row-number test picks the matched row. -/
theorem pick_at {l : Fin 20480} (hl : l.val < 20000) (k : Fin 32) :
    k0_pay24 bIota (bTop (F := Ideal) i nA t a0 a1 a2 a3) 32#32 (ix2 k l) = 1#1 ↔ k = best (ancL a0 a1 a2 a3 l) (boxL t) := by
  have hb := best_spec (ancL a0 a1 a2 a3 l) (boxL t)
  rw [pay24_read]
  simp only [iota_read]
  rw [fold_min (fun x => bTop (F := Ideal) i nA t a0 a1 a2 a3 (ix2 x l)) (best (ancL a0 a1 a2 a3 l) (boxL t))
    ((top_at i t a0 a1 a2 a3 hl _).2 hb.1) (fun j hj h => hb.2 j hj ((top_at i t a0 a1 a2 a3 hl _).1 h))]
  generalize best (ancL a0 a1 a2 a3 l) (boxL t) = q
  revert k q
  decide

/-- A sum under a test that one row passes. -/
theorem sum_pick (T : Fin 32 → BitVec 1) (q : Fin 32) (h : ∀ k, T k = 1#1 ↔ k = q) (f : Fin 32 → EReal) :
    ∑ x : Fin 32, Scalar.select (T x) (f x) 0 = f q := by
  rw [Finset.sum_eq_single q]
  · rw [(h q).2 rfl, sel_one]
  · intro k _ hk
    have : ¬ T k = 1#1 := fun c => hk ((h k).1 c)
    unfold Scalar.select
    exact if_neg this
  · intro c; exact absurd (Finset.mem_univ q) c

/-- The picked entries of a column of the annotations. -/
theorem pay25_read (v : IVec S32x20480 32) (a : FVec Ideal S32x1 .f32) (b : IVec S32x20480 1) (l : Fin 20480) :
    k0_pay25 (F := Ideal) a v b 32#32 (ix2 (0 : Fin 1) l) = ∑ x : Fin 32, Scalar.select (k0_pay24 v b 32#32 (ix2 x l)) (a (ix2 x (0 : Fin 1)) : EReal) 0 := by
  pointwise [k0_pay25]
theorem pay26_read (v : IVec S32x20480 32) (a : FVec Ideal S32x1 .f32) (b : IVec S32x20480 1) (l : Fin 20480) :
    k0_pay26 (F := Ideal) a v b 32#32 (ix2 (0 : Fin 1) l) = ∑ x : Fin 32, Scalar.select (k0_pay24 v b 32#32 (ix2 x l)) (a (ix2 x (0 : Fin 1)) : EReal) 0 := by
  pointwise [k0_pay26]
theorem pay27_read (v : IVec S32x20480 32) (a : FVec Ideal S32x1 .f32) (b : IVec S32x20480 1) (l : Fin 20480) :
    k0_pay27 (F := Ideal) a v b 32#32 (ix2 (0 : Fin 1) l) = ∑ x : Fin 32, Scalar.select (k0_pay24 v b 32#32 (ix2 x l)) (a (ix2 x (0 : Fin 1)) : EReal) 0 := by
  pointwise [k0_pay27]
theorem pay28_read (v : IVec S32x20480 32) (a : FVec Ideal S32x1 .f32) (b : IVec S32x20480 1) (l : Fin 20480) :
    k0_pay28 (F := Ideal) a v b 32#32 (ix2 (0 : Fin 1) l) = ∑ x : Fin 32, Scalar.select (k0_pay24 v b 32#32 (ix2 x l)) (a (ix2 x (0 : Fin 1)) : EReal) 0 := by
  pointwise [k0_pay28]

/-- The matched box's corners. -/
theorem corner_at {l : Fin 20480} (hl : l.val < 20000) :
    bPick (F := Ideal) i nA t a0 a1 a2 a3 0 (ix2 (0 : Fin 1) l) = box (ancL a0 a1 a2 a3 l) (boxL t) 0
    ∧ bPick (F := Ideal) i nA t a0 a1 a2 a3 1 (ix2 (0 : Fin 1) l) = box (ancL a0 a1 a2 a3 l) (boxL t) 1
    ∧ bPick (F := Ideal) i nA t a0 a1 a2 a3 2 (ix2 (0 : Fin 1) l) = box (ancL a0 a1 a2 a3 l) (boxL t) 2
    ∧ bPick (F := Ideal) i nA t a0 a1 a2 a3 3 (ix2 (0 : Fin 1) l) = box (ancL a0 a1 a2 a3 l) (boxL t) 3 := by
  have hp := pick_at i t a0 a1 a2 a3 hl
  refine ⟨?_, ?_, ?_, ?_⟩
  · exact (pay25_read _ _ _ _).trans ((sum_pick _ _ hp _).trans (pay7_at t _))
  · exact (pay26_read _ _ _ _).trans ((sum_pick _ _ hp _).trans (pay8_at t _))
  · exact (pay27_read _ _ _ _).trans ((sum_pick _ _ hp _).trans (pay9_at t _))
  · exact (pay28_read _ _ _ _).trans ((sum_pick _ _ hp _).trans (pay10_at t _))

end Cert.KernelIdeal.Run
-- ==== Proof.Val.Num.lean ====
/- The constants and the clipped probabilities as reals (hand-written). -/
module

public import proofs.«01_k».proof.Proof.Val.Spec
public import Mathlib.Analysis.SpecialFunctions.Pow.Real

@[expose] public section

noncomputable section

namespace Cert.Focal

open Idealize.ShloMosaic

/-- One quarter, -/
theorem cst_quarter : cst 0x3E800000#32 = (((1 / 4 : ℝ)) : EReal) := by
  simp [cst, Ideal.ofBits, Ideal.ieee, -EReal.coe_mul]
  norm_num
/-- three quarters, -/
theorem cst_threeq : cst 0x3F400000#32 = (((3 / 4 : ℝ)) : EReal) := by
  simp [cst, Ideal.ofBits, Ideal.ieee, -EReal.coe_mul]
  norm_num
/-- two, -/
theorem cst_two : cst 0x40000000#32 = ((2 : ℝ) : EReal) := by
  simp [cst, Ideal.ofBits, Ideal.ieee, -EReal.coe_mul]
  norm_num
/-- four, -/
theorem cst_four : cst 0x40800000#32 = ((4 : ℝ) : EReal) := by
  simp [cst, Ideal.ofBits, Ideal.ieee, -EReal.coe_mul]
  norm_num
/-- minus one, -/
theorem cst_neg_one : cst 0xBF800000#32 = ((-1 : ℝ) : EReal) := by
  simp [cst, Ideal.ofBits, Ideal.ieee, -EReal.coe_mul, -EReal.coe_neg]
  norm_num
/-- the lower bound, -/
theorem cst_low : ∃ r : ℝ, 0 < r ∧ r < 1 ∧ cst 0x38D1B717#32 = (r : EReal) := by
  refine ⟨_, ?_, ?_, by simp [cst, Ideal.ofBits, Ideal.ieee, -EReal.coe_mul]; rfl⟩ <;> norm_num
/-- and the upper bound. -/
theorem cst_high : ∃ r : ℝ, 0 < r ∧ r < 1 ∧ cst 0x3F7FF972#32 = (r : EReal) := by
  refine ⟨_, ?_, ?_, by simp [cst, Ideal.ofBits, Ideal.ieee, -EReal.coe_mul]; rfl⟩ <;> norm_num
/-- The threshold of the matched is above that of the background. -/
theorem cst_thresholds : cst 0x3ECCCCCD#32 < cst 0x3F000000#32 := by
  simp [cst, Ideal.ofBits, Ideal.ieee, -EReal.coe_mul]
  norm_num

/-- The smaller of two reals, -/
theorem coe_min' (x y : ℝ) : ((min x y : ℝ) : EReal) = min (x : EReal) (y : EReal) := EReal.coe_strictMono.monotone.map_min
/-- and the larger. -/
theorem coe_max' (x y : ℝ) : ((max x y : ℝ) : EReal) = max (x : EReal) (y : EReal) := EReal.coe_strictMono.monotone.map_max

/-- A clipped probability is a real strictly between zero and one. -/
theorem clip_real (x : EReal) : ∃ r : ℝ, 0 < r ∧ r < 1 ∧ clip x = (r : EReal) := by
  obtain ⟨l, l0, l1, el⟩ := cst_low
  obtain ⟨h, h0, h1, eh⟩ := cst_high
  unfold clip
  rw [el, eh]
  induction x with
  | bot => exact ⟨min h l, lt_min h0 l0, (min_le_left _ _).trans_lt h1, by rw [max_eq_left bot_le, coe_min']⟩
  | top => exact ⟨h, h0, h1, by rw [max_eq_right _root_.le_top, min_eq_left _root_.le_top]⟩
  | coe r =>
    refine ⟨min h (max l r), lt_min h0 (lt_max_of_lt_left l0), (min_le_left _ _).trans_lt h1, ?_⟩
    rw [coe_min', coe_max']

/-- The logarithm of a positive real. -/
theorem log_pos (r : ℝ) (h : 0 < r) : Ideal.log (r : EReal) = ((Real.log r : ℝ) : EReal) := if_neg (not_le.2 h)

/-- The loss of an absent class at a real, -/
theorem negT_coe (r : ℝ) (h0 : 0 < r) (h1 : r < 1) : negT (r : EReal) = ((3 / 4 * (r * r) * (0 - Real.log (1 - r)) : ℝ) : EReal) := by
  unfold negT
  rw [cst_threeq, show (1 - (r : EReal)) = ((1 - r : ℝ) : EReal) by rw [EReal.coe_sub]; rfl, log_pos _ (by linarith)]
  push_cast
  rfl

/-- and of the present class. -/
theorem posT_coe (r : ℝ) (h0 : 0 < r) (h1 : r < 1) : posT (r : EReal) = ((1 / 4 * (1 - r) * (1 - r) * (0 - Real.log r) : ℝ) : EReal) := by
  unfold posT
  rw [cst_quarter, show (1 - (r : EReal)) = ((1 - r : ℝ) : EReal) by rw [EReal.coe_sub]; rfl, log_pos _ h0]
  push_cast
  rfl

/-- Both losses are reals. -/
theorem negT_real (x : EReal) : ∃ r : ℝ, negT (clip x) = (r : EReal) := by
  obtain ⟨r, h0, h1, e⟩ := clip_real x
  exact ⟨_, by rw [e, negT_coe r h0 h1]⟩
theorem posT_real (x : EReal) : ∃ r : ℝ, posT (clip x) = (r : EReal) := by
  obtain ⟨r, h0, h1, e⟩ := clip_real x
  exact ⟨_, by rw [e, posT_coe r h0 h1]⟩

/-- The power with exponent two. -/
theorem pow_two (r : ℝ) : Ideal.pow (r : EReal) (cst 0x40000000#32) = ((r * r : ℝ) : EReal) := by
  rw [cst_two]
  show ((Real.rpow r 2 : ℝ) : EReal) = _
  congr 1
  show r ^ (2 : ℝ) = r * r
  rw [Real.rpow_two, sq]

/-- The cross entropy with target one, -/
theorem entropy_one (x : EReal) :
    cst 0x3E800000#32 * Ideal.pow (1 - clip x) (cst 0x40000000#32) * -(1 * Ideal.log (clip x) + (1 - 1) * Ideal.log (1 - clip x)) = posT (clip x) := by
  obtain ⟨r, h0, h1, e⟩ := clip_real x
  rw [e, posT_coe r h0 h1, show (1 - (r : EReal)) = ((1 - r : ℝ) : EReal) by rw [EReal.coe_sub]; rfl, pow_two, log_pos _ h0, log_pos _ (by linarith), cst_quarter,
    show ((1 : EReal) - 1) = ((0 : ℝ) : EReal) by rw [← EReal.coe_one, ← EReal.coe_sub]; norm_num, show (1 : EReal) = ((1 : ℝ) : EReal) from rfl]
  rw [← EReal.coe_mul, ← EReal.coe_mul, ← EReal.coe_mul, ← EReal.coe_add, ← EReal.coe_neg, ← EReal.coe_mul]
  congr 1
  ring

/-- and with target zero. -/
theorem entropy_zero (x : EReal) :
    cst 0x3F400000#32 * Ideal.pow (clip x) (cst 0x40000000#32) * -(0 * Ideal.log (clip x) + (1 - 0) * Ideal.log (1 - clip x)) = negT (clip x) := by
  obtain ⟨r, h0, h1, e⟩ := clip_real x
  rw [e, negT_coe r h0 h1, show (1 - (r : EReal)) = ((1 - r : ℝ) : EReal) by rw [EReal.coe_sub]; rfl, pow_two, log_pos _ h0, log_pos _ (by linarith), cst_threeq,
    show ((1 : EReal) - 0) = ((1 : ℝ) : EReal) by rw [sub_zero]; rfl, show (0 : EReal) = ((0 : ℝ) : EReal) from rfl]
  rw [← EReal.coe_mul, ← EReal.coe_mul, ← EReal.coe_mul, ← EReal.coe_add, ← EReal.coe_neg, ← EReal.coe_mul]
  congr 1
  ring

/-! ## The means, and sums over masked lanes -/

/-- The classification loss over the batch, from its anchors' losses and counts. -/
theorem clsMean_of (L : Fin 4 → Fin 20000 → EReal) (N : Fin 4 → EReal) (l n : Fin 4 → Fin 20000 → EReal)
    (hl : ∀ b a, L b a = l b a) (hn : ∀ b, N b = ∑ a, n b a) :
    Ideal.div (∑ b, Ideal.div (∑ a, L b a) (max (N b) 1)) (cst 0x40800000#32) = clsMean l n := by
  unfold clsMean
  simp only [hl, hn]
/-- The regression loss over the batch, likewise. -/
theorem regMean_of (L : Fin 4 → Fin 20000 → EReal) (N : Fin 4 → EReal) (l n : Fin 4 → Fin 20000 → EReal)
    (hl : ∀ b a, L b a = l b a) (hn : ∀ b, N b = ∑ a, n b a) :
    Ideal.div (∑ b, Ideal.div (∑ a, L b a) (max (N b * cst 0x40800000#32) 1)) (cst 0x40800000#32) = regMean l n := by
  unfold regMean
  simp only [hl, hn]

/-- A sum over the lanes of a block, of which only those inside the array count. -/
theorem sum_lanes (f : Fin 20480 → EReal) (g : Fin 20000 → EReal)
    (h : ∀ (a : Fin 20000) (ha : a.val < 20480), f ⟨a.val, ha⟩ = g a) (h0 : ∀ l : Fin 20480, ¬ l.val < 20000 → f l = 0) :
    ∑ l, f l = ∑ a, g a := by
  have e := Fin.sum_univ_add (a := 20000) (b := 480) (M := EReal) f
  refine Eq.trans e ?_
  rw [Finset.sum_eq_zero (s := Finset.univ) (f := fun i : Fin 480 => f (Fin.natAdd 20000 i)) (fun i _ => h0 _ (by
    show ¬ 20000 + i.val < 20000
    omega)), add_zero]
  exact Finset.sum_congr rfl fun a _ => h a (by have := a.isLt; omega)

/-- A sum of reals as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, ← ih, EReal.coe_add]

/-- Replacing one term of a sum of reals by adding the difference. -/
theorem sum_replace (c0 : Fin 80) (n p : Fin 80 → EReal) (hn : ∀ c, ∃ r : ℝ, n c = (r : EReal)) (hp : ∀ c, ∃ r : ℝ, p c = (r : EReal)) :
    ∑ c, n c + (p c0 - n c0) = ∑ c, if c = c0 then p c else n c := by
  choose n' hn using hn
  choose p' hp using hp
  have e : ∀ c, (if c = c0 then p c else n c) = (((if c = c0 then p' c else n' c : ℝ)) : EReal) := by
    intro c
    split
    · exact hp c
    · exact hn c
  simp only [e]
  simp only [hn, hp]
  rw [← coe_sum, ← coe_sum, ← EReal.coe_sub, ← EReal.coe_add]
  congr 1
  have : ∀ c, (if c = c0 then p' c else n' c) = n' c + if c = c0 then p' c - n' c else 0 := by
    intro c
    split <;> ring
  simp only [this]
  rw [Finset.sum_add_distrib, Finset.sum_ite_eq' Finset.univ c0]
  simp

end Cert.Focal
-- ==== Proof.Val.KernelLoss.lean ====
/- The kernel body's three words as sums of the anchors' losses (hand-written). -/
module

public import proofs.«01_k».proof.Proof.Val.KernelLane
public import proofs.«01_k».proof.Proof.Val.Num

@[expose] public section

set_option maxRecDepth 16384

noncomputable section

namespace Cert.KernelIdeal.Run

open Cert.KernelIdeal Cert.KernelIdeal.Gen Cert.Focal
open Idealize.ShloMosaic Idealize.ShloMosaic.TcCoe Idealize.ShloMosaic.Tactic

/-! ## The reads, on any vectors -/

/-- The clipped probabilities inside the array. -/
theorem pay5_at (i : grid0.Coords) (x : Vec Ideal S1x80x20480 .f32) (c : Fin 80) {l : Fin 20480} (hl : l.val < 20000) :
    k0_pay5 (F := Ideal) i x nA (ix2 c l) = clip (x (ix3 (0 : Fin 1) c l)) := by
  pointwise [k0_pay5]
  rw [valid_in i hl, sel_one]
  rfl

/-- The losses of absent classes, summed. -/
theorem pay33_read (x : FVec Ideal S80x20480 .f32) (l : Fin 20480) :
    k0_pay33 (F := Ideal) x (k0_pay32 x) (Scalar.ofBits .f32 0x3F400000#32) (ix2 (0 : Fin 1) l) = ∑ c : Fin 80, negT (x (ix2 c l)) := by
  pointwise [k0_pay33, k0_pay32]
  rfl

/-- Different classes have different words. -/
theorem class_ne : ∀ c c0 : Fin 80, c ≠ c0 → IntOp.cmpi CmpIPredicate.eq (BitVec.ofNat 32 c.val) (BitVec.ofNat 32 c0.val) = 0#1 := by
  intro c c0 h
  have : BitVec.ofNat 32 c.val ≠ BitVec.ofNat 32 c0.val := by
    intro e
    have e := congrArg BitVec.toNat e
    have h1 := c.isLt
    have h2 := c0.isLt
    simp only [BitVec.toNat_ofNat] at e
    exact h (Fin.ext (by omega))
  show BitVec.ofBool (BitVec.ofNat 32 c.val == BitVec.ofNat 32 c0.val) = 0#1
  rw [beq_eq_false_iff_ne.2 this]
  rfl

/-- The probability of the matched label. -/
theorem pay34_read (x : FVec Ideal S80x20480 .f32) (w : FVec Ideal S32x5 .f32) (T : IVec S32x20480 1) (l : Fin 20480) (q : Fin 32) (c0 : Fin 80)
    (hT : ∀ k, T (ix2 k l) = 1#1 ↔ k = q) (hc : (Ideal.fptosi 32 (w (ix2 q (4 : Fin 5))) : BitVec 32) = BitVec.ofNat 32 c0.val) :
    k0_pay34 (F := Ideal) x w T (ix2 (0 : Fin 1) l) = x (ix2 c0 l) := by
  pointwise [k0_pay34]
  rw [sum_pick (fun k => T (ix2 k l)) q hT (fun k => w (ix2 k (4 : Fin 5)))]
  rw [show FloatOps.fptosi (F := Ideal) (φ := FTy.f32) 32 (w (ix2 q (4 : Fin 5))) = BitVec.ofNat 32 c0.val from hc]
  rw [Finset.sum_eq_single c0]
  · rw [show IntOp.cmpi CmpIPredicate.eq (BitVec.ofNat 32 c0.val) (BitVec.ofNat 32 c0.val) = 1#1 by simp [IntOp.cmpi]]
    rfl
  · intro c _ hne
    rw [class_ne c c0 hne]
    rfl
  · intro h; exact absurd (Finset.mem_univ c0) h

/-- The matched label's loss as present, -/
theorem pay35_read (x : FVec Ideal S80x20480 .f32) (w : FVec Ideal S32x5 .f32) (T : IVec S32x20480 1) (l : Fin 20480) :
    k0_pay35 (F := Ideal) x w T (ix2 (0 : Fin 1) l) = posT (k0_pay34 (F := Ideal) x w T (ix2 (0 : Fin 1) l)) := by
  pointwise [k0_pay35]
  rfl
/-- and as absent. -/
theorem pay36_read (x : FVec Ideal S80x20480 .f32) (w : FVec Ideal S32x5 .f32) (T : IVec S32x20480 1) (l : Fin 20480) :
    k0_pay36 (F := Ideal) x w T (ix2 (0 : Fin 1) l) = negT (k0_pay34 (F := Ideal) x w T (ix2 (0 : Fin 1) l)) := by
  pointwise [k0_pay36]
  rfl

/-- The sum over the lanes. -/
theorem pay37_read (p q : IVec S1x20480 1) (s P N : FVec Ideal S1x20480 .f32) :
    (k0_pay37 (F := Ideal) p q s P N : EReal)
      = ∑ l : Fin 20480, (Scalar.select (q (ix2 (0 : Fin 1) l)) (s (ix2 (0 : Fin 1) l) : EReal) 0
        + Scalar.select (p (ix2 (0 : Fin 1) l)) ((P (ix2 (0 : Fin 1) l) : EReal) - N (ix2 (0 : Fin 1) l)) 0) := by
  pointwise [k0_pay37]
  exact Fin.sum_univ_one _

/-- The count of the matched lanes. -/
theorem pay31_read (v : IVec S1x20480 1) (M : FVec Ideal S1x20480 .f32) :
    (k0_pay31 (F := Ideal) v M : EReal)
      = ∑ l : Fin 20480, (FloatOps.sitofp (F := Ideal) FTy.f32 (BitVec.setWidth 32 (k0_pay29 (F := Ideal) v M (ix2 (0 : Fin 1) l))) : EReal) := by
  pointwise [k0_pay31]
  exact Fin.sum_univ_one _

/-- The regression's sum over the lanes. -/
theorem pay2_read (p : IVec S1x20480 1) (s d : FVec Ideal S1x20480 .f32) (q : IVec S1x20480 1) (e : FVec Ideal S1x20480 .f32) (w : Elt Ideal .f32) :
    (k0_pay2 (F := Ideal) p s d q e (Scalar.ofBits .f32 0x3D638E39#32) w : EReal)
      = (w : EReal) + ∑ l : Fin 20480, Scalar.select (p (ix2 (0 : Fin 1) l)) ((s (ix2 (0 : Fin 1) l) : EReal)
        + Scalar.select (q (ix2 (0 : Fin 1) l)) (e (ix2 (0 : Fin 1) l) : EReal) ((d (ix2 (0 : Fin 1) l) : EReal) - cst 0x3D638E39#32)) 0 := by
  pointwise [k0_pay2]
  exact congrArg (fun z => (w : EReal) + z) (Fin.sum_univ_one _)

/-- The first three smooth differences. -/
theorem pay46_read (t1 t2 C g0 g2 A : FVec Ideal S1x20480 .f32) (r0 r1 r2 : Vec Ideal S1x1x20480 .f32) (l : Fin 20480) :
    k0_pay46 (F := Ideal) t1 t2 (k0_pay43 A C g0 g2 r0) (k0_pay44 A C g0 g2 r0) (k0_pay45 A C g0 g2 r0) r1 r2 (ix2 (0 : Fin 1) l)
      = smooth (Ideal.div (Ideal.div ((g0 (ix2 (0 : Fin 1) l) : EReal) + cst 0x3F000000#32 * (g2 (ix2 (0 : Fin 1) l) - g0 (ix2 (0 : Fin 1) l)) - A (ix2 (0 : Fin 1) l)) (C (ix2 (0 : Fin 1) l))) (cst 0x3DCCCCCD#32)) (r0 (ix3 (0 : Fin 1) (0 : Fin 1) l))
        + smooth (t1 (ix2 (0 : Fin 1) l)) (r1 (ix3 (0 : Fin 1) (0 : Fin 1) l)) + smooth (t2 (ix2 (0 : Fin 1) l)) (r2 (ix3 (0 : Fin 1) (0 : Fin 1) l)) := by
  pointwise [k0_pay46, k0_pay43, k0_pay44, k0_pay45, k0_pay38]
  rfl

/-- The second target, -/
theorem pay40_read (B D g1 g3 : FVec Ideal S1x20480 .f32) (l : Fin 20480) :
    k0_pay40 (F := Ideal) B D g1 g3 (ix2 (0 : Fin 1) l)
      = Ideal.div (Ideal.div ((g1 (ix2 (0 : Fin 1) l) : EReal) + cst 0x3F000000#32 * (g3 (ix2 (0 : Fin 1) l) - g1 (ix2 (0 : Fin 1) l)) - B (ix2 (0 : Fin 1) l)) (D (ix2 (0 : Fin 1) l))) (cst 0x3DCCCCCD#32) := by
  pointwise [k0_pay40, k0_pay39]
/-- the third, -/
theorem pay41_read (C g0 g2 : FVec Ideal S1x20480 .f32) (l : Fin 20480) :
    k0_pay41 (F := Ideal) C g0 g2 (ix2 (0 : Fin 1) l)
      = Ideal.div (Ideal.log (Ideal.div (max ((g2 (ix2 (0 : Fin 1) l) : EReal) - g0 (ix2 (0 : Fin 1) l)) 1) (C (ix2 (0 : Fin 1) l)))) (cst 0x3E4CCCCD#32) := by
  pointwise [k0_pay41, k0_pay38]
/-- the fourth. -/
theorem pay42_read (D g1 g3 : FVec Ideal S1x20480 .f32) (l : Fin 20480) :
    k0_pay42 (F := Ideal) D g1 g3 (ix2 (0 : Fin 1) l)
      = Ideal.div (Ideal.log (Ideal.div (max ((g3 (ix2 (0 : Fin 1) l) : EReal) - g1 (ix2 (0 : Fin 1) l)) 1) (D (ix2 (0 : Fin 1) l)))) (cst 0x3E4CCCCD#32) := by
  pointwise [k0_pay42, k0_pay39]
/-- The fourth smooth difference. -/
theorem pay47_read (t3 : FVec Ideal S1x20480 .f32) (r3 : Vec Ideal S1x1x20480 .f32) (l : Fin 20480) :
    Scalar.select (k0_pay48 (F := Ideal) t3 r3 (ix2 (0 : Fin 1) l)) (k0_pay49 (F := Ideal) t3 r3 (ix2 (0 : Fin 1) l) : EReal)
        ((k0_pay47 (F := Ideal) t3 r3 (ix2 (0 : Fin 1) l) : EReal) - cst 0x3D638E39#32)
      = smooth (t3 (ix2 (0 : Fin 1) l)) (r3 (ix3 (0 : Fin 1) (0 : Fin 1) l)) := by
  pointwise [k0_pay48, k0_pay47, k0_pay49]
  rfl

/-- The anchors' centres -/
theorem pay17_read (a b : FVec Ideal S1x20480 .f32) (l : Fin 20480) :
    k0_pay17 (F := Ideal) a b (ix2 (0 : Fin 1) l) = (a (ix2 (0 : Fin 1) l) : EReal) + cst 0x3F000000#32 * (b (ix2 (0 : Fin 1) l) - a (ix2 (0 : Fin 1) l)) := by
  pointwise [k0_pay17, k0_pay15]
theorem pay18_read (v : IVec S1x20480 1) (a : FVec Ideal S1x20480 .f32) (b : Vec Ideal S1x20480 .f32) (l : Fin 20480) :
    k0_pay18 (F := Ideal) v a b (ix2 (0 : Fin 1) l) = (a (ix2 (0 : Fin 1) l) : EReal) + cst 0x3F000000#32 * (k0_pay14 (F := Ideal) v b (ix2 (0 : Fin 1) l) - a (ix2 (0 : Fin 1) l)) := by
  pointwise [k0_pay18, k0_pay16]
/-- and sizes. -/
theorem pay19_read (a b : FVec Ideal S1x20480 .f32) (l : Fin 20480) :
    k0_pay19 (F := Ideal) a b (ix2 (0 : Fin 1) l) = max ((b (ix2 (0 : Fin 1) l) : EReal) - a (ix2 (0 : Fin 1) l)) (cst 0x3A83126F#32) := by
  pointwise [k0_pay19, k0_pay15]
theorem pay20_read (v : IVec S1x20480 1) (a : FVec Ideal S1x20480 .f32) (b : Vec Ideal S1x20480 .f32) (l : Fin 20480) :
    k0_pay20 (F := Ideal) v a b (ix2 (0 : Fin 1) l) = max ((k0_pay14 (F := Ideal) v b (ix2 (0 : Fin 1) l) : EReal) - a (ix2 (0 : Fin 1) l)) (cst 0x3A83126F#32) := by
  pointwise [k0_pay20, k0_pay16]

/-! ## The lanes -/

/-- A select under a bit that does not hold. -/
theorem sel_not {α : Type} {c : BitVec 1} (h : ¬ c = 1#1) (a b : α) : Scalar.select c a b = b := if_neg h
theorem sel_yes {α : Type} {c : BitVec 1} (h : c = 1#1) (a b : α) : Scalar.select c a b = a := if_pos h

variable (i : grid0.Coords) (x : Vec Ideal S1x80x20480 .f32) (t : Vec Ideal S1x32x5 .f32) (a0 a1 a2 a3 : Vec Ideal S1x20480 .f32)
  (r0 r1 r2 r3 : Vec Ideal S1x1x20480 .f32)

/-- The regression outputs of a lane. -/
def regL (l : Fin 20480) : Fin 4 → EReal :=
  ![r0 (ix3 (0 : Fin 1) (0 : Fin 1) l), r1 (ix3 (0 : Fin 1) (0 : Fin 1) l), r2 (ix3 (0 : Fin 1) (0 : Fin 1) l), r3 (ix3 (0 : Fin 1) (0 : Fin 1) l)]

/-- The classification loss of a lane. -/
theorem cls_lane (hlab : ∀ k, ∃ c : Fin 80, (Ideal.fptosi 32 (boxL t k 4) : BitVec 32) = BitVec.ofNat 32 c.val) {l : Fin 20480} (hl : l.val < 20000) :
    Scalar.select (k0_pay30 (F := Ideal) (k0_pay4 (F := Ideal) i nA) (bMax (F := Ideal) i nA t a0 a1 a2 a3) (ix2 (0 : Fin 1) l))
        (k0_pay33 (F := Ideal) (bX i nA x) (k0_pay32 (bX i nA x)) (Scalar.ofBits .f32 0x3F400000#32) (ix2 (0 : Fin 1) l) : EReal) 0
      + Scalar.select (bPos (F := Ideal) i nA t a0 a1 a2 a3 (ix2 (0 : Fin 1) l))
        ((k0_pay35 (F := Ideal) (bX i nA x) (k0_pay6 t) (k0_pay24 bIota (bTop (F := Ideal) i nA t a0 a1 a2 a3) 32#32) (ix2 (0 : Fin 1) l) : EReal)
          - k0_pay36 (F := Ideal) (bX i nA x) (k0_pay6 t) (k0_pay24 bIota (bTop (F := Ideal) i nA t a0 a1 a2 a3) 32#32) (ix2 (0 : Fin 1) l)) 0
      = clsLoss (ancL a0 a1 a2 a3 l) (boxL t) (fun c => x (ix3 (0 : Fin 1) c l)) := by
  have hx : ∀ c : Fin 80, bX (F := Ideal) i nA x (ix2 c l) = clip (x (ix3 (0 : Fin 1) c l)) := fun c => pay5_at i x c hl
  obtain ⟨c0, hc⟩ := hlab (best (ancL a0 a1 a2 a3 l) (boxL t))
  have hc' : (Ideal.fptosi 32 (k0_pay6 (F := Ideal) t (ix2 (best (ancL a0 a1 a2 a3 l) (boxL t)) (4 : Fin 5))) : BitVec 32) = BitVec.ofNat 32 c0.val := by
    rw [pay6_at]; exact hc
  rw [pay33_read, pay35_read, pay36_read, pay34_read _ _ _ l _ c0 (fun k => pick_at i t a0 a1 a2 a3 hl k) hc']
  simp only [hx]
  unfold clsLoss
  by_cases hp : IsPos (ancL a0 a1 a2 a3 l) (boxL t)
  · rw [sel_yes ((cnt_at i t a0 a1 a2 a3 hl).2 (Or.inl hp)), sel_yes ((pos_at i t a0 a1 a2 a3 hl).2 hp), if_pos hp]
    rw [sum_replace c0 (fun c => negT (clip (x (ix3 (0 : Fin 1) c l)))) (fun c => posT (clip (x (ix3 (0 : Fin 1) c l)))) (fun c => negT_real _) (fun c => posT_real _)]
    refine Finset.sum_congr rfl fun c _ => ?_
    have e : (lab (ancL a0 a1 a2 a3 l) (boxL t) = BitVec.ofNat 32 c.val) ↔ c = c0 := by
      have e1 : lab (ancL a0 a1 a2 a3 l) (boxL t) = BitVec.ofNat 32 c0.val := hc
      rw [e1]
      constructor
      · intro e
        have e := congrArg BitVec.toNat e
        have h1 := c.isLt
        have h2 := c0.isLt
        simp only [BitVec.toNat_ofNat] at e
        exact Fin.ext (by omega)
      · rintro rfl; rfl
    by_cases h : c = c0
    · rw [if_pos h, if_pos (e.2 h)]
    · rw [if_neg h, if_neg (fun z => h (e.1 z))]
  · rw [sel_not (fun h => hp ((pos_at i t a0 a1 a2 a3 hl).1 h)), if_neg hp, add_zero]
    by_cases hn : IsNeg (ancL a0 a1 a2 a3 l) (boxL t)
    · rw [sel_yes ((cnt_at i t a0 a1 a2 a3 hl).2 (Or.inr hn)), if_pos hn]
    · rw [sel_not (fun h => ((cnt_at i t a0 a1 a2 a3 hl).1 h).elim hp hn), if_neg hn]

/-- The classification word: the anchors' losses summed. -/
theorem bCls_eq (hlab : ∀ k, ∃ c : Fin 80, (Ideal.fptosi 32 (boxL t k 4) : BitVec 32) = BitVec.ofNat 32 c.val)
    (g : Fin 20000 → EReal)
    (hg : ∀ (a : Fin 20000) (ha : a.val < 20480), clsLoss (ancL a0 a1 a2 a3 ⟨a.val, ha⟩) (boxL t) (fun c => x (ix3 (0 : Fin 1) c (⟨a.val, ha⟩ : Fin 20480))) = g a) :
    (bCls (F := Ideal) i nA x t a0 a1 a2 a3 : EReal) = ∑ a, g a := by
  unfold bCls
  rw [pay37_read]
  refine sum_lanes _ _ (fun a ha => ?_) (fun l hl => ?_)
  · exact (cls_lane i x t a0 a1 a2 a3 hlab (l := ⟨a.val, ha⟩) a.isLt).trans (hg a ha)
  · rw [sel_not (pos_out i t a0 a1 a2 a3 hl), sel_not (cnt_out i t a0 a1 a2 a3 hl), add_zero]

/-- A bit widened to a number. -/
theorem sitofp_bit (b : BitVec 1) : (FloatOps.sitofp (F := Ideal) FTy.f32 (BitVec.setWidth 32 b) : EReal) = if b = 1#1 then 1 else 0 := by
  show ((((BitVec.setWidth 32 b).toInt : ℝ)) : EReal) = _
  have h : b = 1#1 ∨ b = 0#1 := by revert b; decide
  rcases h with rfl | rfl
  · rw [show (BitVec.setWidth 32 (1#1)).toInt = 1 by decide]; simp
  · rw [show (BitVec.setWidth 32 (0#1)).toInt = 0 by decide]; simp

/-- The count word: the matched anchors. -/
theorem bNpos_eq (g : Fin 20000 → EReal)
    (hg : ∀ (a : Fin 20000) (ha : a.val < 20480), posOne (ancL a0 a1 a2 a3 ⟨a.val, ha⟩) (boxL t) = g a) :
    (bNpos (F := Ideal) i nA t a0 a1 a2 a3 : EReal) = ∑ a, g a := by
  unfold bNpos
  rw [pay31_read]
  simp only [sitofp_bit]
  refine sum_lanes _ _ (fun a ha => ?_) (fun l hl => ?_)
  · rw [← hg a ha]
    have e := pos_at i t a0 a1 a2 a3 (l := ⟨a.val, ha⟩) a.isLt
    unfold bPos at e
    unfold posOne
    by_cases hp : IsPos (ancL a0 a1 a2 a3 ⟨a.val, ha⟩) (boxL t)
    · rw [if_pos hp, if_pos (e.2 hp)]
    · rw [if_neg hp, if_neg (fun h => hp (e.1 h))]
  · exact if_neg (pos_out i t a0 a1 a2 a3 hl)

/-- The regression loss of a lane. -/
theorem reg_lane {l : Fin 20480} (hl : l.val < 20000)
    (hw : cst 0x3A83126F#32 ≤ ancL a0 a1 a2 a3 l 2 - ancL a0 a1 a2 a3 l 0 ∧ cst 0x3A83126F#32 ≤ ancL a0 a1 a2 a3 l 3 - ancL a0 a1 a2 a3 l 1)
    (A B C D g0 g1 g2 g3 : FVec Ideal S1x20480 .f32)
    (hA : A = k0_pay17 (k0_pay11 i nA a0) (k0_pay13 i nA a2)) (hB : B = k0_pay18 (k0_pay4 (F := Ideal) i nA) (k0_pay12 i nA a1) a3)
    (hC : C = k0_pay19 (k0_pay11 i nA a0) (k0_pay13 i nA a2)) (hD : D = k0_pay20 (k0_pay4 (F := Ideal) i nA) (k0_pay12 i nA a1) a3)
    (h0 : g0 (ix2 (0 : Fin 1) l) = box (ancL a0 a1 a2 a3 l) (boxL t) 0) (h1 : g1 (ix2 (0 : Fin 1) l) = box (ancL a0 a1 a2 a3 l) (boxL t) 1)
    (h2 : g2 (ix2 (0 : Fin 1) l) = box (ancL a0 a1 a2 a3 l) (boxL t) 2) (h3 : g3 (ix2 (0 : Fin 1) l) = box (ancL a0 a1 a2 a3 l) (boxL t) 3) :
    (k0_pay46 (F := Ideal) (k0_pay40 B D g1 g3) (k0_pay41 C g0 g2) (k0_pay43 A C g0 g2 r0) (k0_pay44 A C g0 g2 r0) (k0_pay45 A C g0 g2 r0) r1 r2 (ix2 (0 : Fin 1) l) : EReal)
      + Scalar.select (k0_pay48 (F := Ideal) (k0_pay42 D g1 g3) r3 (ix2 (0 : Fin 1) l)) (k0_pay49 (F := Ideal) (k0_pay42 D g1 g3) r3 (ix2 (0 : Fin 1) l) : EReal)
        ((k0_pay47 (F := Ideal) (k0_pay42 D g1 g3) r3 (ix2 (0 : Fin 1) l) : EReal) - cst 0x3D638E39#32)
      = ∑ j : Fin 4, smooth (target (ancL a0 a1 a2 a3 l) (box (ancL a0 a1 a2 a3 l) (boxL t)) j) (regL r0 r1 r2 r3 l j) := by
  have eA : A (ix2 (0 : Fin 1) l) = ancL a0 a1 a2 a3 l 0 + cst 0x3F000000#32 * (ancL a0 a1 a2 a3 l 2 - ancL a0 a1 a2 a3 l 0) := by
    rw [hA, pay17_read, pay11_at i a0 hl, pay13_at i a2 hl]; rfl
  have eB : B (ix2 (0 : Fin 1) l) = ancL a0 a1 a2 a3 l 1 + cst 0x3F000000#32 * (ancL a0 a1 a2 a3 l 3 - ancL a0 a1 a2 a3 l 1) := by
    rw [hB, pay18_read, pay12_at i a1 hl, pay14_at i a3 hl]; rfl
  have eC : C (ix2 (0 : Fin 1) l) = ancL a0 a1 a2 a3 l 2 - ancL a0 a1 a2 a3 l 0 := by
    rw [hC, pay19_read, pay11_at i a0 hl, pay13_at i a2 hl]; exact max_eq_left hw.1
  have eD : D (ix2 (0 : Fin 1) l) = ancL a0 a1 a2 a3 l 3 - ancL a0 a1 a2 a3 l 1 := by
    rw [hD, pay20_read, pay12_at i a1 hl, pay14_at i a3 hl]; exact max_eq_left hw.2
  clear hA hB hC hD
  rw [pay46_read, pay47_read, pay40_read, pay41_read, pay42_read, eA, eB, eC, eD, h0, h1, h2, h3, Fin.sum_univ_four]
  rfl

/-- The regression word: the anchors' losses summed, added to a word. -/
theorem bReg_eq (hw : ∀ l : Fin 20480, l.val < 20000 → cst 0x3A83126F#32 ≤ ancL a0 a1 a2 a3 l 2 - ancL a0 a1 a2 a3 l 0 ∧ cst 0x3A83126F#32 ≤ ancL a0 a1 a2 a3 l 3 - ancL a0 a1 a2 a3 l 1)
    (g : Fin 20000 → EReal) (w : Elt Ideal .f32)
    (hg : ∀ (a : Fin 20000) (ha : a.val < 20480), regLoss (ancL a0 a1 a2 a3 ⟨a.val, ha⟩) (boxL t) (regL r0 r1 r2 r3 ⟨a.val, ha⟩) = g a) :
    (bReg (F := Ideal) i nA t a0 a1 a2 a3 r0 r1 r2 r3 w : EReal) = (w : EReal) + ∑ a, g a := by
  unfold bReg
  refine (pay2_read _ _ _ _ _ _).trans ?_
  refine congrArg (fun z => (w : EReal) + z) (sum_lanes _ _ (fun a ha => ?_) (fun l hl => ?_))
  · rw [← hg a ha]
    unfold regLoss
    have hl : (⟨a.val, ha⟩ : Fin 20480).val < 20000 := a.isLt
    obtain ⟨h0, h1, h2, h3⟩ := corner_at i t a0 a1 a2 a3 hl
    by_cases hp : IsPos (ancL a0 a1 a2 a3 ⟨a.val, ha⟩) (boxL t)
    · rw [if_pos hp]
      refine (sel_yes ((pos_at i t a0 a1 a2 a3 hl).2 hp) _ _).trans ?_
      exact reg_lane i t a0 a1 a2 a3 r0 r1 r2 r3 hl (hw _ hl) _ _ _ _ _ _ _ _ rfl rfl rfl rfl h0 h1 h2 h3
    · rw [if_neg hp]
      exact sel_not (fun h => hp ((pos_at i t a0 a1 a2 a3 hl).1 h)) _ _
  · exact sel_not (pos_out i t a0 a1 a2 a3 hl) _ _

end Cert.KernelIdeal.Run
-- ==== Proof.Val.KernelBlocks.lean ====
/- The kernel's blocks read off the arguments, and the array of its words (hand-written). -/
module

public import proofs.«01_k».proof.Proof.Run.KernelIdealFrame
public import proofs.«01_k».proof.Proof.Val.KernelLoss
public import Idealize.ShloMosaic.Lib.Pipeline.ValueKit

@[expose] public section

set_option maxRecDepth 16384

noncomputable section

namespace Cert.KernelIdeal.Run

open Cert.KernelIdeal Cert.KernelIdeal.Gen Cert.Focal
open Idealize.ShloMosaic Idealize.ShloMosaic.TcCoe Idealize.ShloMosaic.Tactic Idealize.ShloMosaic.StableHlo
open Idealize.SL Idealize.SL.RA Idealize.SL.Sem
open Idealize.ShloMosaic.Pipeline (Dat Cfg Window cellOf)

variable (m : (ℓ : Loc nD τ sig) → Buf (Elt Ideal) ℓ)

/-! ## The arrays the region finds -/

/-- The transposed classifications. -/
theorem V_cls (c : Dev nD) : (V m c main_call0_v0 : FVec Ideal S4x80x20000 .f32)
    = transpose S4x80x20000 [0, 2, 1] (m ((c : Thread nD τ).loc main_arg0) : FVec Ideal S4x20000x80 .f32) transposes_S4x20000x80_S4x80x20000_0_2_1 := by
  show StableHlo.after (List.flatten [hostOps0]) (fun b => m (c, b)) _ = _
  simp only [hostOps0, List.flatten_cons, List.flatten_nil, List.append_nil]
  after_results_simp
  rfl
/-- The transposed regressions. -/
theorem V_reg (c : Dev nD) : (V m c main_call0_v1 : FVec Ideal S4x4x20000 .f32)
    = transpose S4x4x20000 [0, 2, 1] (m ((c : Thread nD τ).loc main_arg1) : FVec Ideal S4x20000x4 .f32) transposes_S4x20000x4_S4x4x20000_0_2_1 := by
  show StableHlo.after (List.flatten [hostOps0]) (fun b => m (c, b)) _ = _
  simp only [hostOps0, List.flatten_cons, List.flatten_nil, List.append_nil]
  after_results_simp
  rfl
/-- The transposed anchors. -/
theorem V_anc (c : Dev nD) : (V m c main_call0_v3 : FVec Ideal S4x20000 .f32)
    = transpose S4x20000 [1, 0] (shapeCast S20000x4 (m ((c : Thread nD τ).loc main_arg2) : FVec Ideal S1x20000x4 .f32) shapeCasts_S1x20000x4_S20000x4) transposes_S20000x4_S4x20000_1_0 := by
  show StableHlo.after (List.flatten [hostOps0]) (fun b => m (c, b)) _ = _
  simp only [hostOps0, List.flatten_cons, List.flatten_nil, List.append_nil]
  after_results_simp
  rfl

/-- Their reads. -/
theorem cls_t (x : FVec Ideal S4x20000x80 .f32) (b : Fin 4) (k : Fin 80) (a : Fin 20000) :
    transpose S4x80x20000 [0, 2, 1] x transposes_S4x20000x80_S4x80x20000_0_2_1 (ix3 b k a) = x (ix3 b a k) := by
  pointwise []
theorem reg_t (x : FVec Ideal S4x20000x4 .f32) (b : Fin 4) (k : Fin 4) (a : Fin 20000) :
    transpose S4x4x20000 [0, 2, 1] x transposes_S4x20000x4_S4x4x20000_0_2_1 (ix3 b k a) = x (ix3 b a k) := by
  pointwise []
theorem anc_t (x : FVec Ideal S1x20000x4 .f32) (k : Fin 4) (a : Fin 20000) :
    transpose S4x20000 [1, 0] (shapeCast S20000x4 x shapeCasts_S1x20000x4_S20000x4) transposes_S20000x4_S4x20000_1_0 (ix2 k a) = x (ix3 (0 : Fin 1) a k) := by
  pointwise []

/-! ## The blocks -/

/-- The windows' indices at the points. -/
theorem index0 : ∀ t : Fin cfg0.N, win0_0.index t = ![t.val, 0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0, 0] := (by decide +kernel : ∀ t : Fin grid0.N, _)
theorem index5 : ∀ t : Fin cfg0.N, win0_5.index t = ![t.val, 0, 0] := (by decide +kernel : ∀ t : Fin grid0.N, _)

/-- A block's image is one of the four. -/
theorem lt4 (t : Fin cfg0.N) : t.val < 4 := t.isLt

/-- The classifications' block at a point: the point's image. -/
theorem padC_at (c : Dev nD) (t : Fin cfg0.N) (k : Fin 80) (l : Fin 20480) (hl : l.val < 20000) :
    padC (F := Ideal) m c t (ix3 (0 : Fin 1) k l)
      = (m ((c : Thread nD τ).loc main_arg0) : FVec Ideal S4x20000x80 .f32) (ix3 (⟨t.val, lt4 t⟩ : Fin 4) (⟨l.val, hl⟩ : Fin 20000) k) := by
  have hm : win0_0.moved (grid0.coords t) (ix3 (0 : Fin 1) k l) = true := by
    rw [Window.moved_iff]
    intro a
    rw [xsize0 t a]
    fin_cases a
    exacts [Nat.zero_lt_one, k.isLt, hl]
  unfold padC Window.fill
  rw [dif_pos hm]
  refine Eq.trans ?_ (cls_t _ _ _ _)
  rw [← V_cls m c]
  blk_simp [iblk]
  refine congrArg (V m c main_call0_v0) ?_
  blk_ext [index0]

/-- The regressions' block likewise. -/
theorem padR_at (c : Dev nD) (t : Fin cfg0.N) (k : Fin 4) (l : Fin 20480) (hl : l.val < 20000) :
    padR (F := Ideal) m c t (ix3 (0 : Fin 1) k l)
      = (m ((c : Thread nD τ).loc main_arg1) : FVec Ideal S4x20000x4 .f32) (ix3 (⟨t.val, lt4 t⟩ : Fin 4) (⟨l.val, hl⟩ : Fin 20000) k) := by
  have hm : win0_1.moved (grid0.coords t) (ix3 (0 : Fin 1) k l) = true := by
    rw [Window.moved_iff]
    intro a
    rw [xsize1 t a]
    fin_cases a
    exacts [Nat.zero_lt_one, k.isLt, hl]
  unfold padR Window.fill
  rw [dif_pos hm]
  refine Eq.trans ?_ (reg_t _ _ _ _)
  rw [← V_reg m c]
  blk_simp [iblk]
  refine congrArg (V m c main_call0_v1) ?_
  blk_ext [index1]

/-- The anchors' block at every point. -/
theorem padA_at (c : Dev nD) (t : Fin cfg0.N) (k : Fin 4) (l : Fin 20480) (hl : l.val < 20000) :
    padA (F := Ideal) m c t (ix2 k l)
      = (m ((c : Thread nD τ).loc main_arg2) : FVec Ideal S1x20000x4 .f32) (ix3 (0 : Fin 1) (⟨l.val, hl⟩ : Fin 20000) k) := by
  have hm : win0_2.moved (grid0.coords t) (ix2 k l) = true := by
    rw [Window.moved_iff]
    intro a
    rw [xsize2 t a]
    fin_cases a
    exacts [k.isLt, hl]
  unfold padA Window.fill
  rw [dif_pos hm]
  refine Eq.trans ?_ (anc_t _ _ _)
  rw [← V_anc m c]
  blk_simp [iblk]
  refine congrArg (V m c main_call0_v3) ?_
  blk_ext [index2]

/-- The boxes' block at a point: the point's image. -/
theorem ann_at (c : Dev nD) (t : Fin cfg0.N) (k : Fin 32) (j : Fin 5) :
    (iblk m c 3 t : Vec Ideal S1x32x5 .f32) (ix3 (0 : Fin 1) k j)
      = (m ((c : Thread nD τ).loc main_arg3) : FVec Ideal S4x32x5 .f32) (ix3 (⟨t.val, lt4 t⟩ : Fin 4) k j) := by
  rw [← V_main_arg3 m c]
  blk_simp [iblk]
  refine congrArg (V m c main_arg3) ?_
  blk_ext [index3]

/-- The array of the words: at each point the point's words. -/
theorem final_o (c : Dev nD) : (dats (F := Ideal) m 0 c).arrAt 5 cfg0.N
    = (fun i : S4x1x4.Idx => outAt (F := Ideal) m c (⟨(i 0).val, (i 0).isLt⟩ : Fin cfg0.N) (ix3 (0 : Fin 1) (0 : Fin 1) (⟨(i 2).val, (i 2).isLt⟩ : Fin 4))) := by
  refine (dats m 0 c).arrAt_eq_of_covers 5 _ (by decide +kernel) fun t hf y => ?_
  blk_simp
  rw [after0_5]
  have ht : ∀ h, (⟨win0_5.index t 0, h⟩ : Fin cfg0.N) = t := fun h => Fin.ext (congrFun (index5 t) 0)
  rw [ht]
  refine congrArg (outAt m c t) ?_
  have h0 : (y 0).val < 1 := (y 0).isLt
  have h1 : (y 1).val < 1 := (y 1).isLt
  funext a
  fin_cases a
  · exact Fin.ext (by show (y 0).val = 0; omega)
  · exact Fin.ext (by show (y 1).val = 0; omega)
  · refine Fin.ext ?_
    show (y 2).val = win0_5.index t 2 * 4 + (y 2).val
    rw [show win0_5.index t 2 = 0 from congrFun (index5 t) 2]
    omega

end Cert.KernelIdeal.Run
-- ==== Proof.Val.KernelWords.lean ====
/- The kernel's three words at a grid point: the losses and the count of the point's image (hand-written). -/
module

public import proofs.«01_k».proof.Proof.Val.KernelBlocks

@[expose] public section

set_option maxRecDepth 16384

noncomputable section

namespace Cert.KernelIdeal.Run

open Cert.KernelIdeal Cert.KernelIdeal.Gen Cert.Focal
open Idealize.ShloMosaic Idealize.ShloMosaic.TcCoe Idealize.ShloMosaic.Tactic Idealize.ShloMosaic.StableHlo

/-! ## The loads of the body -/

/-- A row of the anchors' block. -/
theorem ldA (x : Vec Ideal S4x20480 .f32) (n : Nat) (hn : n < 4) (hr) (l : Fin 20480) :
    View.ld x (rowA n hr) (ix2 (0 : Fin 1) l) = x (ix2 (⟨n, hn⟩ : Fin 4) l) :=
  View.ld_unit_apply_of x _ _ _ _ (ix2 (⟨n, hn⟩ : Fin 4) l) (by intro a; fin_cases a; exacts [rfl, (Nat.zero_add _).symm])
/-- A row of the regressions' block. -/
theorem ldR (x : Vec Ideal S1x4x20480 .f32) (n : Nat) (hn : n < 4) (hr) (l : Fin 20480) :
    View.ld x (rowR n hr) (ix3 (0 : Fin 1) (0 : Fin 1) l) = x (ix3 (0 : Fin 1) (⟨n, hn⟩ : Fin 4) l) :=
  View.ld_unit_apply_of x _ _ _ _ (ix3 (0 : Fin 1) (⟨n, hn⟩ : Fin 4) l) (by intro a; fin_cases a; exacts [rfl, rfl, (Nat.zero_add _).symm])
/-- The classifications' block. -/
theorem ldC (x : Vec Ideal S1x80x20480 .f32) (hr) (k : Fin 80) (l : Fin 20480) :
    View.ld x (Rect.unit (s := S1x80x20480) ![0, 0, 0] S1x80x20480.size hr) (ix3 (0 : Fin 1) k l) = x (ix3 (0 : Fin 1) k l) :=
  View.ld_unit_apply_of x _ _ _ _ (ix3 (0 : Fin 1) k l) (by intro a; fin_cases a; exacts [rfl, (Nat.zero_add _).symm, (Nat.zero_add _).symm])
/-- The boxes' block. -/
theorem ldB (x : Vec Ideal S1x32x5 .f32) (hr) (k : Fin 32) (j : Fin 5) :
    View.ld x (Rect.unit (s := S1x32x5) ![0, 0, 0] S1x32x5.size hr) (ix3 (0 : Fin 1) k j) = x (ix3 (0 : Fin 1) k j) :=
  View.ld_unit_apply_of x _ _ _ _ (ix3 (0 : Fin 1) k j) (by intro a; fin_cases a; exacts [rfl, (Nat.zero_add _).symm, (Nat.zero_add _).symm])

section Cases

variable {F : FTy → Type} [FloatOps F] (i : grid0.Coords) (cls : Vec F S1x80x20480 .f32) (reg : Vec F S1x4x20480 .f32) (anc : Vec F S4x20480 .f32)
  (ann : Vec F S1x32x5 .f32) (nv : Vec F S1 .i32) (y : S1x1x4.Idx)

/-- The number of anchors the body reads. -/
abbrev nOf : Elt F .i32 := View.ld nv (Rect.unit (s := S1) ![0] S1.size inb_S1_S1_0) (Shape.Idx.first (by decide))
/-- The classifications the body reads. -/
abbrev xOf : Vec F S1x80x20480 .f32 := View.ld cls (Rect.unit (s := S1x80x20480) ![0, 0, 0] S1x80x20480.size inb_S1x80x20480_S1x80x20480_0_0_0)
/-- The boxes the body reads. -/
abbrev tOf : Vec F S1x32x5 .f32 := View.ld ann (Rect.unit (s := S1x32x5) ![0, 0, 0] S1x32x5.size inb_S1x32x5_S1x32x5_0_0_0)
/-- The rows of the anchors the body reads. -/
abbrev a0Of : Vec F S1x20480 .f32 := View.ld anc (rowA 0 inb_S4x20480_S1x20480_0_0)
abbrev a1Of : Vec F S1x20480 .f32 := View.ld anc (rowA 1 inb_S4x20480_S1x20480_1_0)
abbrev a2Of : Vec F S1x20480 .f32 := View.ld anc (rowA 2 inb_S4x20480_S1x20480_2_0)
abbrev a3Of : Vec F S1x20480 .f32 := View.ld anc (rowA 3 inb_S4x20480_S1x20480_3_0)
/-- The rows of the regressions the body reads. -/
abbrev r0Of : Vec F S1x1x20480 .f32 := View.ld reg (rowR 0 inb_S1x4x20480_S1x1x20480_0_0_0)
abbrev r1Of : Vec F S1x1x20480 .f32 := View.ld reg (rowR 1 inb_S1x4x20480_S1x1x20480_0_1_0)
abbrev r2Of : Vec F S1x1x20480 .f32 := View.ld reg (rowR 2 inb_S1x4x20480_S1x1x20480_0_2_0)
abbrev r3Of : Vec F S1x1x20480 .f32 := View.ld reg (rowR 3 inb_S1x4x20480_S1x1x20480_0_3_0)

/-- The first word of the result. -/
theorem outw_zero (h : (y 2).val = 0) : outw i cls reg anc ann nv y = k0_pay1 (bCls i (nOf nv) (xOf cls) (tOf ann) (a0Of anc) (a1Of anc) (a2Of anc) (a3Of anc)) zw := by
  unfold outw
  exact if_pos h
/-- The second. -/
theorem outw_one (h : (y 2).val = 1) : outw i cls reg anc ann nv y = bReg i (nOf nv) (tOf ann) (a0Of anc) (a1Of anc) (a2Of anc) (a3Of anc) (r0Of reg) (r1Of reg) (r2Of reg) (r3Of reg) zw := by
  unfold outw
  exact (if_neg (by omega)).trans (if_pos h)
/-- The third. -/
theorem outw_two (h : (y 2).val = 2) : outw i cls reg anc ann nv y = k0_pay3 (bNpos i (nOf nv) (tOf ann) (a0Of anc) (a1Of anc) (a2Of anc) (a3Of anc)) zw := by
  unfold outw
  exact (if_neg (by omega)).trans ((if_neg (by omega)).trans (if_pos h))
/-- The number read from a constant buffer. -/
theorem nOf_const (n : Elt F .i32) : nOf (F := F) (fun _ => n) = n := rfl

end Cases

/-- A word added to another. -/
theorem pay1_read (v w : Ideal .f32) : (k0_pay1 (F := Ideal) v w : EReal) = (w : EReal) + v := rfl
theorem pay3_read (v w : Ideal .f32) : (k0_pay3 (F := Ideal) v w : EReal) = (w : EReal) + v := rfl

/-! ## The words, from what the blocks hold -/

section Words

variable (i : grid0.Coords) (cls : Vec Ideal S1x80x20480 .f32) (reg : Vec Ideal S1x4x20480 .f32) (anc : Vec Ideal S4x20480 .f32)
  (ann : Vec Ideal S1x32x5 .f32) (nv : Vec Ideal S1 .i32) (hn : nv = fun _ => nA)
  (A : Fin 20000 → Fin 4 → EReal) (B : Fin 32 → Fin 5 → EReal) (X : Fin 20000 → Fin 80 → EReal) (R : Fin 20000 → Fin 4 → EReal)
  (hA : ∀ (k : Fin 4) (l : Fin 20480) (hl : l.val < 20000), anc (ix2 k l) = A ⟨l.val, hl⟩ k)
  (hB : ∀ k j, ann (ix3 (0 : Fin 1) k j) = B k j)
  (hX : ∀ (k : Fin 80) (l : Fin 20480) (hl : l.val < 20000), cls (ix3 (0 : Fin 1) k l) = X ⟨l.val, hl⟩ k)
  (hR : ∀ (k : Fin 4) (l : Fin 20480) (hl : l.val < 20000), reg (ix3 (0 : Fin 1) k l) = R ⟨l.val, hl⟩ k)
  (hlab : ∀ k, ∃ c : Fin 80, (Ideal.fptosi 32 (B k 4) : BitVec 32) = BitVec.ofNat 32 c.val)
  (hw : ∀ a, cst 0x3A83126F#32 ≤ A a 2 - A a 0 ∧ cst 0x3A83126F#32 ≤ A a 3 - A a 1)

include hA in
/-- The anchor of a lane of the block. -/
theorem anc_lane (h0 h1 h2 h3) (l : Fin 20480) (hl : l.val < 20000) :
    ancL (View.ld anc (rowA 0 h0)) (View.ld anc (rowA 1 h1)) (View.ld anc (rowA 2 h2)) (View.ld anc (rowA 3 h3)) l = A ⟨l.val, hl⟩ := by
  funext j
  fin_cases j
  · exact (ldA anc 0 (by decide) h0 l).trans (hA 0 l hl)
  · exact (ldA anc 1 (by decide) h1 l).trans (hA 1 l hl)
  · exact (ldA anc 2 (by decide) h2 l).trans (hA 2 l hl)
  · exact (ldA anc 3 (by decide) h3 l).trans (hA 3 l hl)
include hR in
/-- The regression outputs of a lane of the block. -/
theorem reg_lane_of (h0 h1 h2 h3) (l : Fin 20480) (hl : l.val < 20000) :
    regL (View.ld reg (rowR 0 h0)) (View.ld reg (rowR 1 h1)) (View.ld reg (rowR 2 h2)) (View.ld reg (rowR 3 h3)) l = R ⟨l.val, hl⟩ := by
  funext j
  fin_cases j
  · exact (ldR reg 0 (by decide) h0 l).trans (hR 0 l hl)
  · exact (ldR reg 1 (by decide) h1 l).trans (hR 1 l hl)
  · exact (ldR reg 2 (by decide) h2 l).trans (hR 2 l hl)
  · exact (ldR reg 3 (by decide) h3 l).trans (hR 3 l hl)
include hB in
/-- The boxes of the block. -/
theorem box_of (hr) : boxL (View.ld ann (Rect.unit (s := S1x32x5) ![0, 0, 0] S1x32x5.size hr)) = B := by
  funext k j
  exact (ldB ann hr k j).trans (hB k j)

/-- The zero the words start from. -/
theorem zw_zero : (zw (F := Ideal) : EReal) = 0 := by
  show Ideal.ofBits FTy.f32 0x00000000#32 = 0
  simp [Ideal.ofBits, Ideal.ieee]

include hn hA hB hX hlab in
/-- The first word: the image's classification losses summed. -/
theorem word0 : (outw (F := Ideal) i cls reg anc ann nv (ix3 (0 : Fin 1) (0 : Fin 1) (0 : Fin 4)) : EReal) = ∑ a, clsLoss (A a) B (X a) := by
  subst hn
  have e := bCls_eq i (xOf cls)
    (tOf ann)
    (a0Of anc) (a1Of anc)
    (a2Of anc) (a3Of anc)
    (by rw [box_of ann B hB]; exact hlab) (fun a => clsLoss (A a) B (X a)) (fun a ha => by
      rw [anc_lane anc A hA _ _ _ _ ⟨a.val, ha⟩ a.isLt, box_of ann B hB]
      refine congrArg (clsLoss (A a) B) ?_
      funext k
      exact (ldC cls _ k ⟨a.val, ha⟩).trans (hX k ⟨a.val, ha⟩ a.isLt))
  rw [outw_zero i cls reg anc ann _ _ rfl, nOf_const]
  refine (pay1_read _ _).trans ?_
  rw [e, zw_zero, zero_add]

include hn hA hB hR hw in
/-- The second word: the image's regression losses summed. -/
theorem word1 : (outw (F := Ideal) i cls reg anc ann nv (ix3 (0 : Fin 1) (0 : Fin 1) (1 : Fin 4)) : EReal) = ∑ a, regLoss (A a) B (R a) := by
  subst hn
  have e := bReg_eq i (tOf ann)
    (a0Of anc) (a1Of anc)
    (a2Of anc) (a3Of anc)
    (r0Of reg) (r1Of reg)
    (r2Of reg) (r3Of reg)
    (fun l hl => by rw [anc_lane anc A hA _ _ _ _ l hl]; exact hw _) (fun a => regLoss (A a) B (R a)) (zw (F := Ideal)) (fun a ha => by
      rw [anc_lane anc A hA _ _ _ _ ⟨a.val, ha⟩ a.isLt, box_of ann B hB, reg_lane_of reg R hR _ _ _ _ ⟨a.val, ha⟩ a.isLt])
  rw [outw_one i cls reg anc ann _ _ rfl, nOf_const]
  refine e.trans ?_
  rw [zw_zero, zero_add]

include hn hA hB in
/-- The third word: the image's matched anchors counted. -/
theorem word2 : (outw (F := Ideal) i cls reg anc ann nv (ix3 (0 : Fin 1) (0 : Fin 1) (2 : Fin 4)) : EReal) = ∑ a, posOne (A a) B := by
  subst hn
  have e := bNpos_eq i (tOf ann)
    (a0Of anc) (a1Of anc)
    (a2Of anc) (a3Of anc)
    (fun a => posOne (A a) B) (fun a ha => by
      rw [anc_lane anc A hA _ _ _ _ ⟨a.val, ha⟩ a.isLt, box_of ann B hB])
  rw [outw_two i cls reg anc ann _ _ rfl, nOf_const]
  refine (pay3_read _ _).trans ?_
  rw [e, zw_zero, zero_add]

end Words

end Cert.KernelIdeal.Run
-- ==== Proof.Val.KernelValue.lean ====
/- The kernel's two results as the losses of the batch (hand-written). -/
module

public import proofs.«01_k».proof.Proof.Val.KernelWords

@[expose] public section

set_option maxRecDepth 16384

noncomputable section

namespace Cert.KernelIdeal.Run

open Cert.KernelIdeal Cert.KernelIdeal.Gen Cert.Focal
open Idealize.ShloMosaic Idealize.ShloMosaic.TcCoe Idealize.ShloMosaic.Tactic Idealize.ShloMosaic.StableHlo
open Idealize.SL Idealize.SL.RA Idealize.SL.Sem
open Idealize.ShloMosaic.Pipeline (Dat Cfg Window cellOf)

/-! ## The lines after the region -/

/-- A word of every image. -/
def word0s (x : FVec Ideal S4x1x4 .f32) : FVec Ideal S4 .f32 :=
  shapeCast S4 (extractStridedSlice S4x1x1 ![0, 0, 0] x slices_S4x1x4_S4x1x1_0_0_0) shapeCasts_S4x1x1_S4
def word1s (x : FVec Ideal S4x1x4 .f32) : FVec Ideal S4 .f32 :=
  shapeCast S4 (extractStridedSlice S4x1x1 ![0, 0, 1] x slices_S4x1x4_S4x1x1_0_0_1) shapeCasts_S4x1x1_S4
def word2s (x : FVec Ideal S4x1x4 .f32) : FVec Ideal S4 .f32 :=
  shapeCast S4 (extractStridedSlice S4x1x1 ![0, 0, 2] x slices_S4x1x4_S4x1x1_0_0_2) shapeCasts_S4x1x1_S4

/-- The classification result from the words. -/
def tailCls (x : FVec Ideal S4x1x4 .f32) : FVec Ideal S1 .f32 :=
  shapeCast S1 (Host.divf (Host.reduceAdd (Host.divf (word0s x) (maximumf (word2s x) (broadcastInDim S4 ![] bcast_S_S4 (constant S_ .f32 0x3F800000#32))))
    (constant S_ .f32 0x00000000#32) reducesTo_S4_S_d0 h_S_) (constant S_ .f32 0x40800000#32)) shapeCasts_S_S1
/-- The regression result from the words. -/
def tailReg (x : FVec Ideal S4x1x4 .f32) : FVec Ideal S1 .f32 :=
  shapeCast S1 (Host.divf (Host.reduceAdd (Host.divf (word1s x) (maximumf (mulf (word2s x) (broadcastInDim S4 ![] bcast_S_S4 (constant S_ .f32 0x40800000#32)))
    (broadcastInDim S4 ![] bcast_S_S4 (constant S_ .f32 0x3F800000#32))))
    (constant S_ .f32 0x00000000#32) reducesTo_S4_S_d0 h_S_) (constant S_ .f32 0x40800000#32)) shapeCasts_S_S1

/-- The lines leave it in the first result, -/
theorem after_cls (W : Valuation τ sig (Elt Ideal)) :
    (StableHlo.after (List.flatten [hostOps1 (F := Ideal)]) W (Proc.devRef .tc main_v0_0) : FVec Ideal S1 .f32) = tailCls (W (Proc.devRef .tc main_call0_v5)) := by
  simp only [hostOps1, List.flatten_cons, List.flatten_nil, List.append_nil]
  after_results_simp
  rfl
/-- and in the second. -/
theorem after_reg (W : Valuation τ sig (Elt Ideal)) :
    (StableHlo.after (List.flatten [hostOps1 (F := Ideal)]) W (Proc.devRef .tc main_v0_1) : FVec Ideal S1 .f32) = tailReg (W (Proc.devRef .tc main_call0_v5)) := by
  simp only [hostOps1, List.flatten_cons, List.flatten_nil, List.append_nil]
  after_results_simp
  rfl

/-- The words' reads. -/
theorem word0s_at (x : FVec Ideal S4x1x4 .f32) (b : Fin 4) : word0s x (ix1 b) = x (ix3 b (0 : Fin 1) (0 : Fin 4)) := by
  pointwise [word0s]
theorem word1s_at (x : FVec Ideal S4x1x4 .f32) (b : Fin 4) : word1s x (ix1 b) = x (ix3 b (0 : Fin 1) (1 : Fin 4)) := by
  pointwise [word1s]
theorem word2s_at (x : FVec Ideal S4x1x4 .f32) (b : Fin 4) : word2s x (ix1 b) = x (ix3 b (0 : Fin 1) (2 : Fin 4)) := by
  pointwise [word2s]

/-- The classification result at its index, -/
theorem tailCls_at (x : FVec Ideal S4x1x4 .f32) : tailCls x (ix1 (0 : Fin 1))
    = Ideal.div (∑ b : Fin 4, Ideal.div (x (ix3 b (0 : Fin 1) (0 : Fin 4)) : EReal) (max (x (ix3 b (0 : Fin 1) (2 : Fin 4)) : EReal) 1)) (cst 0x40800000#32) := by
  pointwise [tailCls]
  simp only [word0s_at, word2s_at]
/-- and the regression result. -/
theorem tailReg_at (x : FVec Ideal S4x1x4 .f32) : tailReg x (ix1 (0 : Fin 1))
    = Ideal.div (∑ b : Fin 4, Ideal.div (x (ix3 b (0 : Fin 1) (1 : Fin 4)) : EReal) (max ((x (ix3 b (0 : Fin 1) (2 : Fin 4)) : EReal) * cst 0x40800000#32) 1)) (cst 0x40800000#32) := by
  pointwise [tailReg]
  simp only [word1s_at, word2s_at]

/-! ## The words of the run -/

variable (m : (ℓ : Loc nD τ sig) → Buf (Elt Ideal) ℓ) (c : Dev nD)

/-- The anchors, -/
def ancK (a : Fin 20000) (j : Fin 4) : EReal := (m ((c : Thread nD τ).loc main_arg2) : FVec Ideal S1x20000x4 .f32) (ix3 (0 : Fin 1) a j)
/-- the boxes, -/
def boxK (b : Fin 4) (k : Fin 32) (j : Fin 5) : EReal := (m ((c : Thread nD τ).loc main_arg3) : FVec Ideal S4x32x5 .f32) (ix3 b k j)
/-- the probabilities -/
def clsK (b : Fin 4) (a : Fin 20000) (k : Fin 80) : EReal := (m ((c : Thread nD τ).loc main_arg0) : FVec Ideal S4x20000x80 .f32) (ix3 b a k)
/-- and the regression outputs of the arguments. -/
def regK (b : Fin 4) (a : Fin 20000) (j : Fin 4) : EReal := (m ((c : Thread nD τ).loc main_arg1) : FVec Ideal S4x20000x4 .f32) (ix3 b a j)

/-- The array of the words. -/
def wordsK : FVec Ideal S4x1x4 .f32 :=
  fun i : S4x1x4.Idx => outAt (F := Ideal) m c (⟨(i 0).val, (i 0).isLt⟩ : Fin cfg0.N) (ix3 (0 : Fin 1) (0 : Fin 1) (⟨(i 2).val, (i 2).isLt⟩ : Fin 4))

/-- The point of an image. -/
abbrev tP (b : Fin 4) : Fin cfg0.N := ⟨b.val, b.isLt⟩

/-- The array of the words, read. -/
theorem wordsK_at (b k : Fin 4) : wordsK m c (ix3 b (0 : Fin 1) k)
    = outw (F := Ideal) (grid0.coords (tP b)) (padC m c (tP b)) (padR m c (tP b)) (padA m c (tP b)) (iblk m c 3 (tP b)) (iblk m c 4 (tP b)) (ix3 (0 : Fin 1) (0 : Fin 1) k) := rfl

/-- An image's classification word, -/
theorem words_cls (hlab : ∀ b k, ∃ l : Fin 80, (Ideal.fptosi 32 (boxK m c b k 4) : BitVec 32) = BitVec.ofNat 32 l.val) (b : Fin 4) :
    (wordsK m c (ix3 b (0 : Fin 1) (0 : Fin 4)) : EReal) = ∑ a, clsLoss (ancK m c a) (boxK m c b) (clsK m c b a) :=
  (wordsK_at m c b 0).trans (word0 (grid0.coords (tP b)) (padC m c (tP b)) (padR m c (tP b)) (padA m c (tP b)) (iblk m c 3 (tP b)) (iblk m c 4 (tP b)) (iblk_count m c (tP b)) (ancK m c) (boxK m c b) (clsK m c b)
    (fun k l hl => padA_at m c (tP b) k l hl) (fun k j => ann_at m c (tP b) k j) (fun k l hl => padC_at m c (tP b) k l hl) (hlab b))
/-- its regression word -/
theorem words_reg (hw : ∀ a, cst 0x3A83126F#32 ≤ ancK m c a 2 - ancK m c a 0 ∧ cst 0x3A83126F#32 ≤ ancK m c a 3 - ancK m c a 1) (b : Fin 4) :
    (wordsK m c (ix3 b (0 : Fin 1) (1 : Fin 4)) : EReal) = ∑ a, regLoss (ancK m c a) (boxK m c b) (regK m c b a) :=
  (wordsK_at m c b 1).trans (word1 (grid0.coords (tP b)) (padC m c (tP b)) (padR m c (tP b)) (padA m c (tP b)) (iblk m c 3 (tP b)) (iblk m c 4 (tP b)) (iblk_count m c (tP b)) (ancK m c) (boxK m c b) (regK m c b)
    (fun k l hl => padA_at m c (tP b) k l hl) (fun k j => ann_at m c (tP b) k j) (fun k l hl => padR_at m c (tP b) k l hl) hw)
/-- and its count. -/
theorem words_pos (b : Fin 4) :
    (wordsK m c (ix3 b (0 : Fin 1) (2 : Fin 4)) : EReal) = ∑ a, posOne (ancK m c a) (boxK m c b) :=
  (wordsK_at m c b 2).trans (word2 (grid0.coords (tP b)) (padC m c (tP b)) (padR m c (tP b)) (padA m c (tP b)) (iblk m c 3 (tP b)) (iblk m c 4 (tP b)) (iblk_count m c (tP b)) (ancK m c) (boxK m c b)
    (fun k l hl => padA_at m c (tP b) k l hl) (fun k j => ann_at m c (tP b) k j))

/-- The words lie in their array after the region. -/
theorem region_words : (Pipeline.withArrays spec0 c (V0 m c) (fun w => (dats (F := Ideal) m 0 c).arrAt w cfg0.N) (Proc.devRef .tc main_call0_v5) : FVec Ideal S4x1x4 .f32) = wordsK m c :=
  (Pipeline.withArrays_arr spec0 (by decide) c (V0 m c) (fun w => (dats (F := Ideal) m 0 c).arrAt w cfg0.N) 5).trans (final_o m c)

/-- The first result the lines leave, -/
theorem tail_cls (hlab : ∀ b k, ∃ l : Fin 80, (Ideal.fptosi 32 (boxK m c b k 4) : BitVec 32) = BitVec.ofNat 32 l.val) :
    (Pipeline.afterTail₀ cfgs (dats (F := Ideal) m) 0 (V0 m) [hostOps1] c main_v0_0 : FVec Ideal S1 .f32)
      = fun _ => clsMean (fun b a => clsLoss (ancK m c a) (boxK m c b) (clsK m c b a)) (fun b a => posOne (ancK m c a) (boxK m c b)) := by
  refine (after_cls _).trans ?_
  refine (congrArg tailCls (region_words m c)).trans ?_
  funext i
  idx_vars i
  obtain rfl : i0 = (0 : Fin 1) := Subsingleton.elim _ _
  rw [tailCls_at]
  simp only [words_cls m c hlab, words_pos m c]
  rfl
/-- and the second. -/
theorem tail_reg (hw : ∀ a, cst 0x3A83126F#32 ≤ ancK m c a 2 - ancK m c a 0 ∧ cst 0x3A83126F#32 ≤ ancK m c a 3 - ancK m c a 1) :
    (Pipeline.afterTail₀ cfgs (dats (F := Ideal) m) 0 (V0 m) [hostOps1] c main_v0_1 : FVec Ideal S1 .f32)
      = fun _ => regMean (fun b a => regLoss (ancK m c a) (boxK m c b) (regK m c b a)) (fun b a => posOne (ancK m c a) (boxK m c b)) := by
  refine (after_reg _).trans ?_
  refine (congrArg tailReg (region_words m c)).trans ?_
  funext i
  idx_vars i
  obtain rfl : i0 = (0 : Fin 1) := Subsingleton.elim _ _
  rw [tailReg_at]
  simp only [words_reg m c hw, words_pos m c]
  rfl

/-- The run: both results are the losses of the batch, the arguments unchanged. -/
theorem run_value (ρ : Dev nD → PrngReg)
    (hlab : ∀ c b k, ∃ l : Fin 80, (Ideal.fptosi 32 (boxK m c b k 4) : BitVec 32) = BitVec.ofNat 32 l.val)
    (hw : ∀ c a, cst 0x3A83126F#32 ≤ ancK m c a 2 - ancK m c a 0 ∧ cst 0x3A83126F#32 ≤ ancK m c a 3 - ancK m c a 1) :
    θ_run defs (onTc (τ := τ) (main (F := Ideal))) ⟨m, fun _ => 0, ρ⟩ (fun r => ∀ c : Dev nD,
      r.2.mem ((c.tc : Thread nD τ).loc main_v0_0) = (fun _ => clsMean (fun b a => clsLoss (ancK m c a) (boxK m c b) (clsK m c b a)) (fun b a => posOne (ancK m c a) (boxK m c b)) : S1.Idx → EReal)
      ∧ r.2.mem ((c.tc : Thread nD τ).loc main_v0_1) = (fun _ => regMean (fun b a => regLoss (ancK m c a) (boxK m c b) (regK m c b a)) (fun b a => posOne (ancK m c a) (boxK m c b)) : S1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).2 main_v0_0 (Pipeline.mem_restRefs_of main_v0_0 (by decide) (by decide))).trans (tail_cls m c (hlab c)),
    ((h.2 c).2 main_v0_1 (Pipeline.mem_restRefs_of main_v0_1 (by decide) (by decide))).trans (tail_reg m c (hw c)), h.1.1 c⟩)
    (θ_run_and (frame m ρ) (run_main m ρ))

end Cert.KernelIdeal.Run
-- ==== Proof.Val.RefLane.lean ====
/- The reference's arrays, read at one element (hand-written). -/
module

public import proofs.«01_k».proof.Proof.Run.ReferenceRun
public import proofs.«01_k».proof.Proof.Val.Spec
public import Idealize.ShloMosaic.Lib.Pointwise

@[expose] public section

set_option maxRecDepth 16384

noncomputable section

namespace Cert.ReferenceIdeal.Run

open Cert.ReferenceIdeal Cert.ReferenceIdeal.Gen Cert.Focal
open Idealize.ShloMosaic Idealize.ShloMosaic.TcCoe Idealize.ShloMosaic.Tactic

variable (b : Fin 4) (a : Fin 20000) (k : Fin 32) (c : Fin 80) (j : Fin 4)

/-- The anchors as a matrix. -/
theorem v0_at (x : Vec Ideal S1x20000x4 .f32) : f_v0 (F := Ideal) x (ix2 a j) = x (ix3 (0 : Fin 1) a j) := by
  pointwise [f_v0]
/-- The anchors' widths, -/
theorem v5_at (x : Vec Ideal S20000x4 .f32) : f_v5 (F := Ideal) x (ix1 a) = (x (ix2 a (2 : Fin 4)) - x (ix2 a (0 : Fin 4)) : EReal) := by
  pointwise [f_v5]
/-- heights, -/
theorem v10_at (x : Vec Ideal S20000x4 .f32) : f_v10 (F := Ideal) x (ix1 a) = (x (ix2 a (3 : Fin 4)) - x (ix2 a (1 : Fin 4)) : EReal) := by
  pointwise [f_v10]
/-- and centres. -/
theorem v15_at (x : Vec Ideal S20000x4 .f32) (w : Vec Ideal S20000 .f32) : f_v15 (F := Ideal) x w (ix1 a) = (x (ix2 a (0 : Fin 4)) + cst 0x3F000000#32 * w (ix1 a) : EReal) := by
  pointwise [f_v15]
theorem v20_at (x : Vec Ideal S20000x4 .f32) (w : Vec Ideal S20000 .f32) : f_v20 (F := Ideal) x w (ix1 a) = (x (ix2 a (1 : Fin 4)) + cst 0x3F000000#32 * w (ix1 a) : EReal) := by
  pointwise [f_v20]
/-- The probabilities, clipped. -/
theorem v21_at (x : Vec Ideal S4x20000x80 .f32) : f_v21 (F := Ideal) x (ix3 b a c) = clip (x (ix3 b a c)) := by
  pointwise [f_v21]
  rfl
/-- The boxes without their labels. -/
theorem v22_at (x : Vec Ideal S4x32x5 .f32) : f_v22 (F := Ideal) x (ix3 b k j) = x (ix3 b k (Fin.castSucc j)) := by
  pointwise [f_v22]
  rfl
/-- The anchors' areas, -/
theorem v34_at (x : Vec Ideal S20000x4 .f32) : f_v34 (F := Ideal) x (ix2 a (0 : Fin 1))
    = ((x (ix2 a (2 : Fin 4)) - x (ix2 a (0 : Fin 4))) * (x (ix2 a (3 : Fin 4)) - x (ix2 a (1 : Fin 4))) : EReal) := by
  pointwise [f_v34]
/-- the boxes' areas. -/
theorem v45_at (x : Vec Ideal S4x32x4 .f32) : f_v45 (F := Ideal) x (ix2 b k)
    = ((x (ix3 b k (2 : Fin 4)) - x (ix3 b k (0 : Fin 4))) * (x (ix3 b k (3 : Fin 4)) - x (ix3 b k (1 : Fin 4))) : EReal) := by
  pointwise [f_v45]
/-- The smaller right edges, -/
theorem v53_at (x : Vec Ideal S20000x4 .f32) (y : Vec Ideal S4x32x4 .f32) : f_v53 (F := Ideal) x y (ix3 b a k)
    = (min (x (ix2 a (2 : Fin 4)) : EReal) (y (ix3 b k (2 : Fin 4)))) := by
  pointwise [f_v53]
/-- the left edges, -/
theorem v54_at (x : Vec Ideal S20000x4 .f32) : f_v54 (F := Ideal) x (ix2 a (0 : Fin 1)) = x (ix2 a (0 : Fin 4)) := by
  pointwise [f_v54]
/-- the overlapping areas, -/
theorem v84_at (m : Vec Ideal S4x20000x32 .f32) (e : Vec Ideal S20000x1 .f32) (y : Vec Ideal S4x32x4 .f32) (x : Vec Ideal S20000x4 .f32) : f_v84 (F := Ideal) m e y x (ix3 b a k)
    = (max (m (ix3 b a k) - max (e (ix2 a (0 : Fin 1)) : EReal) (y (ix3 b k (0 : Fin 4)))) 0
      * max (min (x (ix2 a (3 : Fin 4)) : EReal) (y (ix3 b k (3 : Fin 4))) - max (x (ix2 a (1 : Fin 4)) : EReal) (y (ix3 b k (1 : Fin 4)))) 0 : EReal) := by
  pointwise [f_v84]
/-- the overlaps, -/
theorem v93_at (m : Vec Ideal S4x20000x32 .f32) (e : Vec Ideal S20000x1 .f32) (y : Vec Ideal S4x32 .f32) : f_v93 (F := Ideal) m e y (ix3 b a k)
    = Ideal.div (m (ix3 b a k)) (max (e (ix2 a (0 : Fin 1)) + y (ix2 b k) - m (ix3 b a k) : EReal) (cst 0x322BCC77#32)) := by
  pointwise [f_v93]
/-- the largest. -/
theorem v94_at (m : Vec Ideal S4x20000x32 .f32) : f_v94 (F := Ideal) m (ix2 b a)
    = Finset.fold max (cst 0xFF800000#32) (fun x => (m (ix3 b a x) : EReal)) Finset.univ := by
  pointwise [f_v94]
/-- The tests of the largest overlap. -/
theorem v97_at (m : Vec Ideal S4x20000 .f32) : f_v97 (F := Ideal) m (ix2 b a) = BitVec.ofBool (decide (cst 0x3F000000#32 ≤ (m (ix2 b a) : EReal))) := by
  pointwise [f_v97]
theorem v99_at (m : Vec Ideal S4x20000 .f32) : f_v99 (F := Ideal) m (ix2 b a) = BitVec.ofBool (decide ((m (ix2 b a) : EReal) < cst 0x3ECCCCCD#32)) := by
  pointwise [f_v99]

end Cert.ReferenceIdeal.Run
-- ==== Proof.Val.RefArg.lean ====
/- The reference's arg-max and gather, read at one element (hand-written). -/
module

public import proofs.«01_k».proof.Proof.Val.RefLane
public import Idealize.ShloMosaic.PureOps.Ideal.Laws

@[expose] public section

set_option maxRecDepth 16384

noncomputable section

namespace Cert.ReferenceIdeal.Run

open Cert.ReferenceIdeal Cert.ReferenceIdeal.Gen Cert.Focal
open Idealize.ShloMosaic Idealize.ShloMosaic.TcCoe Idealize.ShloMosaic.Tactic

/-! ## The arg-max -/

/-- A pair is below another: a smaller value, or the same value and no smaller index. -/
def Below (p r : EReal × BitVec 32) : Prop := p.1 < r.1 ∨ (p.1 = r.1 ∧ r.2.toInt ≤ p.2.toInt)

/-- It is reflexive, -/
theorem Below.rfl' (p : EReal × BitVec 32) : Below p p := Or.inr ⟨rfl, le_refl _⟩
/-- and transitive. -/
theorem Below.trans {p q r : EReal × BitVec 32} (h : Below p q) (h' : Below q r) : Below p r := by
  rcases h with h | ⟨h, h2⟩ <;> rcases h' with h' | ⟨h', h2'⟩
  · exact Or.inl (h.trans h')
  · exact Or.inl (h' ▸ h)
  · exact Or.inl (h ▸ h')
  · exact Or.inr ⟨h.trans h', h2'.trans h2⟩

/-- The reducer keeps one of its two pairs, above both. -/
theorem reducer_spec (p q : EReal × BitVec 32) :
    (reducer_argmax_f32_i32 (F := Ideal) p q = p ∨ reducer_argmax_f32_i32 (F := Ideal) p q = q)
      ∧ Below p (reducer_argmax_f32_i32 (F := Ideal) p q) ∧ Below q (reducer_argmax_f32_i32 (F := Ideal) p q) := by
  obtain ⟨v, i⟩ := p
  obtain ⟨w, j⟩ := q
  have e : reducer_argmax_f32_i32 (F := Ideal) (v, i) (w, j)
      = (Scalar.select (IntOp.ori (BitVec.ofBool (decide (w < v))) (BitVec.ofBool (decide (v ≠ v)))) v w,
        Scalar.select (IntOp.ori (IntOp.ori (BitVec.ofBool (decide (w < v))) (BitVec.ofBool (decide (v ≠ v))))
          (IntOp.andi (BitVec.ofBool (decide (v = w))) (BitVec.ofBool (i.slt j)))) i j) := rfl
  rw [e]
  have s1 : ∀ x y : EReal, Scalar.select 1#1 x y = x := fun _ _ => rfl
  have s0 : ∀ x y : EReal, Scalar.select 0#1 x y = y := fun _ _ => rfl
  have t1 : ∀ x y : BitVec 32, Scalar.select 1#1 x y = x := fun _ _ => rfl
  have t0 : ∀ x y : BitVec 32, Scalar.select 0#1 x y = y := fun _ _ => rfl
  have o1 : ∀ x : BitVec 1, IntOp.ori 1#1 x = 1#1 := by decide
  have o0 : ∀ x : BitVec 1, IntOp.ori 0#1 x = x := by decide
  have a1 : ∀ x : BitVec 1, IntOp.andi 1#1 x = x := by decide
  have a0 : ∀ x : BitVec 1, IntOp.andi 0#1 x = 0#1 := by decide
  have n0 : BitVec.ofBool (decide (v ≠ v)) = 0#1 := by simp
  have b1 : BitVec.ofBool true = 1#1 := rfl
  have b0 : BitVec.ofBool false = 0#1 := rfl
  rw [n0, BitVec.slt_eq_decide]
  rcases lt_trichotomy v w with h | h | h
  · simp only [not_lt.2 h.le, h.ne, decide_false, b0, o0, a0, s0, t0]
    exact ⟨Or.inr trivial, Or.inl h, Below.rfl' _⟩
  · subst h
    by_cases hij : i.toInt < j.toInt
    · simp only [lt_irrefl, decide_false, decide_true, hij, b0, b1, o0, a1, s0, t1]
      exact ⟨Or.inl trivial, Below.rfl' _, Or.inr ⟨rfl, hij.le⟩⟩
    · simp only [lt_irrefl, decide_false, decide_true, hij, b0, b1, o0, a1, s0, t0]
      exact ⟨Or.inr trivial, Or.inr ⟨rfl, not_lt.1 hij⟩, Below.rfl' _⟩
  · simp only [h, decide_true, b1, o1, s1, t1]
    exact ⟨Or.inl trivial, Below.rfl' _, Or.inl h⟩

/-- A fold of it keeps one of the pairs, above all of them. -/
theorem foldl_spec (L : List (EReal × BitVec 32)) : ∀ p : EReal × BitVec 32,
    (L.foldl (reducer_argmax_f32_i32 (F := Ideal)) p = p ∨ L.foldl (reducer_argmax_f32_i32 (F := Ideal)) p ∈ L)
      ∧ Below p (L.foldl (reducer_argmax_f32_i32 (F := Ideal)) p)
      ∧ ∀ q ∈ L, Below q (L.foldl (reducer_argmax_f32_i32 (F := Ideal)) p) := by
  induction L with
  | nil => exact fun p => ⟨Or.inl rfl, Below.rfl' _, fun q h => absurd h List.not_mem_nil⟩
  | cons x L ih =>
    intro p
    obtain ⟨h1, h2, h3⟩ := ih (reducer_argmax_f32_i32 (F := Ideal) p x)
    obtain ⟨g1, g2, g3⟩ := reducer_spec p x
    rw [List.foldl_cons]
    refine ⟨?_, g2.trans h2, fun q hq => ?_⟩
    · rcases h1 with h1 | h1
      · rcases g1 with g | g
        · exact Or.inl (h1.trans g)
        · exact Or.inr (by rw [h1, g]; exact List.mem_cons_self)
      · exact Or.inr (List.mem_cons_of_mem _ h1)
    · rcases List.mem_cons.1 hq with rfl | hq
      · exact g3.trans h2
      · exact h3 q hq

/-- The index the reduction drops to. -/
theorem drop_at (b : Fin 4) (a : Fin 20000) (k : Fin 32) : reducesTo_S4x20000x32_S4x20000_d2.drop (ix3 b a k) = ix2 b a := by
  funext x
  fin_cases x <;> rfl

/-- The arg-max reduction as a fold over the pairs that reach a result. -/
theorem argReduce_fold {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t) (hu : 0 < u.numel) (j : t.Idx) :
    Host.argReduce f x y ix iy h hu j = (Host.argReduceFiber x y h j).foldl f (ix (Shape.Idx.first hu), iy (Shape.Idx.first hu)) := by
  rw [Ideal.argReduce_eq_reduce2, Host.reduce2_eq_foldl_fiber]

/-- The pairs that fold into a result are those at the indices that drop to it. -/
theorem mem_fiber {s t : Shape} {axes : List (Fin s.rank)} {α β : Type} (x : s.Idx → α) (y : s.Idx → β) (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, ?_⟩, ?_⟩
    · rw [Equiv.symm_apply_apply]; exact decide_eq_true hi
    · rw [Equiv.symm_apply_apply]

/-- An array of arg-max indices, read at one element as a fold. -/
theorem arg_read {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t) (hu : 0 < u.numel)
    (A : t.Idx → BitVec 32) (hA : A = fun j => (Host.argReduce f x y ix iy h hu j).2) (j : t.Idx) :
    A j = ((Host.argReduceFiber x y h j).foldl f (ix (Shape.Idx.first hu), iy (Shape.Idx.first hu))).2 := by
  rw [hA]
  exact congrArg Prod.snd (argReduce_fold f x y ix iy h hu j)

/-- The arg-max array, unfolded. -/
theorem v95_def (m : Vec Ideal S4x20000x32 .f32) : f_v95 (F := Ideal) m
    = fun j => (Host.argReduce (reducer_argmax_f32_i32 (F := Ideal)) (m : FVec Ideal S4x20000x32 .f32) (iotaInDim S4x20000x32 32 2) (constant S_ .f32 0xFF800000#32) (constantI S_ 32 0#32) reducesTo_S4x20000x32_S4x20000_d2 h_S_ j).2 := rfl

/-- The fold over a row ends at the first row of the largest overlap. -/
theorem fold_at (m : Vec Ideal S4x20000x32 .f32) (b : Fin 4) (a : Fin 20000) (A : Fin 4 → EReal) (B : Fin 32 → Fin 5 → EReal)
    (hm : ∀ k, (m (ix3 b a k) : EReal) = iou A (B k)) :
    ((Host.argReduceFiber m (iotaInDim S4x20000x32 32 2) reducesTo_S4x20000x32_S4x20000_d2 (ix2 b a)).foldl (reducer_argmax_f32_i32 (F := Ideal)) ((constant S_ .f32 0xFF800000#32 : FVec Ideal S_ .f32) (Shape.Idx.first h_S_), (constantI S_ 32 0#32) (Shape.Idx.first h_S_))).2 = BitVec.ofNat 32 (best A B).val := by
  have hmem : ∀ p : EReal × BitVec 32, p ∈ Host.argReduceFiber m (iotaInDim S4x20000x32 32 2) reducesTo_S4x20000x32_S4x20000_d2 (ix2 b a)
      ↔ ∃ k : Fin 32, p = (iou A (B k), BitVec.ofNat 32 k.val) := by
    intro p
    rw [mem_fiber]
    constructor
    · rintro ⟨i, hd, rfl⟩
      idx_vars i
      rw [drop_at] at hd
      have e0 : i0 = b := congrFun hd (0 : Fin 2)
      have e1 : i1 = a := congrFun hd (1 : Fin 2)
      subst e0 e1
      exact ⟨i2, Prod.ext (hm i2) rfl⟩
    · rintro ⟨k, rfl⟩
      exact ⟨ix3 b a k, drop_at b a k, Prod.ext (hm k).symm rfl⟩
  generalize Host.argReduceFiber m (iotaInDim S4x20000x32 32 2) reducesTo_S4x20000x32_S4x20000_d2 (ix2 b a) = L at hmem ⊢
  have e : ((constant S_ .f32 0xFF800000#32 : FVec Ideal S_ .f32) (Shape.Idx.first h_S_), (constantI S_ 32 0#32) (Shape.Idx.first h_S_)) = ((⊥ : EReal), 0#32) := by
    rw [← cst_bot]; rfl
  rw [e]
  obtain ⟨h1, h2, h3⟩ := foldl_spec L ((⊥ : EReal), 0#32)
  generalize L.foldl (reducer_argmax_f32_i32 (F := Ideal)) ((⊥ : EReal), 0#32) = r at h1 h2 h3
  have val : ∀ x : Fin 32, (BitVec.ofNat 32 x.val).toInt = x.val := by decide
  have hle : ∀ k, Below (iou A (B k), BitVec.ofNat 32 k.val) r := fun k => h3 _ ((hmem _).2 ⟨k, rfl⟩)
  obtain ⟨q, hq⟩ := exists_top A B
  have hr : ∃ k : Fin 32, r = (iou A (B k), BitVec.ofNat 32 k.val) := by
    rcases h1 with h1 | h1
    · refine ⟨0, ?_⟩
      have h0 := hle 0
      rw [h1] at h0 ⊢
      rcases h0 with h0 | ⟨h0, -⟩
      · exact absurd h0 not_lt_bot
      · exact Prod.ext h0.symm rfl
    · exact (hmem r).1 h1
  obtain ⟨k, rfl⟩ := hr
  have hk : iou A (B k) = top A B := by
    apply le_antisymm (le_top A B k)
    rw [← hq]
    rcases hle q with h | ⟨h, -⟩
    · exact h.le
    · exact h.le
  have hb : IsBest A B k := by
    refine ⟨hk, fun j hj ej => ?_⟩
    rcases hle j with h | ⟨-, h⟩
    · rw [hk] at h; exact absurd ej h.ne
    · simp only [val] at h
      exact absurd (show j.val < k.val from hj) (by omega)
  rw [hb.eq_best]

/-- The arg-max of a row is the first row of the largest overlap. -/
theorem v95_at (m : Vec Ideal S4x20000x32 .f32) (b : Fin 4) (a : Fin 20000) (A : Fin 4 → EReal) (B : Fin 32 → Fin 5 → EReal)
    (hm : ∀ k, (m (ix3 b a k) : EReal) = iou A (B k)) :
    f_v95 (F := Ideal) m (ix2 b a) = BitVec.ofNat 32 (best A B).val :=
  (arg_read _ _ _ _ _ _ _ _ (v95_def m) (ix2 b a)).trans (fold_at m b a A B hm)

/-! ## The gather -/

/-- The gather's dimension numbers. -/
abbrev gat := gather_S4x32x5_S4x20000x1_S4x20000x5_2_1_0_0_1_2_115

/-- The start index, with the wrap of negative indices. -/
theorem start_at (v : Vec Ideal S4x20000 .i32) (b : Fin 4) (a : Fin 20000) (k : Fin 32) (hv : v (ix2 b a) = BitVec.ofNat 32 k.val) :
    (broadcastInDim S4x20000x1 ![0, 1] bcast_S4x20000_S4x20000x1_0_1 (select (cmpi .slt v (broadcastInDim S4x20000 ![] bcast_S_S4x20000 (constantI S_ 32 0#32))) (addi v (broadcastInDim S4x20000 ![] bcast_S_S4x20000 (constantI S_ 32 32#32))) v)) (ix3 b a (0 : Fin 1))
      = BitVec.ofNat 32 k.val := by
  pointwise
  rw [hv]
  clear hv
  revert k
  decide

/-- The gathered rows are the matched boxes. -/
theorem v106_at (x : Vec Ideal S4x32x5 .f32) (v : Vec Ideal S4x20000 .i32) (b : Fin 4) (a : Fin 20000) (k : Fin 32)
    (hv : v (ix2 b a) = BitVec.ofNat 32 k.val) (j : Fin 5) :
    f_v106 (F := Ideal) x v (ix3 b a j) = x (ix3 b k j) := by
  unfold f_v106 Host.gather
  have hs := start_at v b a k hv
  clear hv
  generalize (broadcastInDim S4x20000x1 ![0, 1] bcast_S4x20000_S4x20000x1_0_1 (select (cmpi .slt v (broadcastInDim S4x20000 ![] bcast_S_S4x20000 (constantI S_ 32 0#32))) (addi v (broadcastInDim S4x20000 ![] bcast_S_S4x20000 (constantI S_ 32 32#32))) v)) = s at hs ⊢
  refine congrArg x ?_
  funext y
  apply Fin.ext
  have hy : y = (0 : Fin 3) ∨ y = (1 : Fin 3) ∨ y = (2 : Fin 3) := by revert y; decide
  rcases hy with rfl | rfl | rfl
  · show gat.start (ix3 b a j) s (0 : Fin 3) + gat.batchCoord (ix3 b a j) (0 : Fin 3) + gat.offCoord (ix3 b a j) (0 : Fin 3) = b.val
    have e1 : gat.start (ix3 b a j) s (0 : Fin 3) = 0 := dif_neg (by decide)
    have e2 : gat.offCoord (ix3 b a j) (0 : Fin 3) = 0 := gat.offCoord_eq_zero _ _ (by rw [GatherDims.mem_sKept]; decide)
    have e3 : gat.batchCoord (ix3 b a j) (0 : Fin 3) = b.val := by
      unfold GatherDims.batchCoord
      rw [dif_pos (by decide)]
      rfl
    rw [e1, e2, e3]; omega
  · show gat.start (ix3 b a j) s (1 : Fin 3) + gat.batchCoord (ix3 b a j) (1 : Fin 3) + gat.offCoord (ix3 b a j) (1 : Fin 3) = k.val
    have e : gat.start (ix3 b a j) s (1 : Fin 3) = min (s (ix3 b a (0 : Fin 1))).toInt.toNat 31 := by
      unfold GatherDims.start
      rw [dif_pos (by decide)]
      refine congrArg (fun z => min (s z).toInt.toNat 31) ?_
      funext z
      have hz : z = (0 : Fin 3) ∨ z = (1 : Fin 3) ∨ z = (2 : Fin 3) := by revert z; decide
      rcases hz with rfl | rfl | rfl <;> rfl
    have e2 : gat.offCoord (ix3 b a j) (1 : Fin 3) = 0 := gat.offCoord_eq_zero _ _ (by rw [GatherDims.mem_sKept]; decide)
    have e3 : gat.batchCoord (ix3 b a j) (1 : Fin 3) = 0 := gat.batchCoord_eq_zero _ _ (by decide)
    rw [e, e2, e3, hs]
    clear hs
    revert k
    decide
  · show gat.start (ix3 b a j) s (2 : Fin 3) + gat.batchCoord (ix3 b a j) (2 : Fin 3) + gat.offCoord (ix3 b a j) (2 : Fin 3) = j.val
    have e1 : gat.start (ix3 b a j) s (2 : Fin 3) = 0 := dif_neg (by decide)
    have e3 : gat.batchCoord (ix3 b a j) (2 : Fin 3) = 0 := gat.batchCoord_eq_zero _ _ (by decide)
    have e2 : gat.offCoord (ix3 b a j) (2 : Fin 3) = j.val := by
      unfold GatherDims.offCoord
      rw [dif_pos (by rw [GatherDims.mem_sKept]; decide)]
      rfl
    rw [e1, e2, e3]; omega

end Cert.ReferenceIdeal.Run
-- ==== Proof.Val.RefLoss.lean ====
/- The reference's results as the batch means of the anchors' losses (hand-written). -/
module

public import proofs.«01_k».proof.Proof.Val.RefArg
public import proofs.«01_k».proof.Proof.Val.Num
public import Idealize.ShloMosaic.Lib.StableHlo.Predicate

@[expose] public section

set_option maxRecDepth 16384

noncomputable section

namespace Cert.Focal

open Idealize.ShloMosaic

/-- A truth value is one exactly when what it decides holds. -/
theorem ofBool_one (p : Prop) [Decidable p] : BitVec.ofBool (decide p) = 1#1 ↔ p := by
  by_cases h : p <;> simp [h]

/-- A bit other than one is zero. -/
theorem bit_zero (x : BitVec 1) (h : x ≠ 1#1) : x = 0#1 := by revert x; decide

/-- An equality test converted to a number. -/
theorem eq_number (x y : BitVec 32) [Decidable (x = y)] : (FloatOps.uitofp (F := Ideal) FTy.f32 (IntOp.cmpi .eq x y) : EReal) = if x = y then 1 else 0 := by
  by_cases h : x = y
  · rw [if_pos h, show IntOp.cmpi .eq x y = 1#1 by simp [IntOp.cmpi, h]]
    show (((1#1 : BitVec 1).toNat : ℝ) : EReal) = 1
    simp
  · rw [if_neg h, show IntOp.cmpi .eq x y = 0#1 by simp [IntOp.cmpi, beq_eq_false_iff_ne.2 h]]
    show (((0#1 : BitVec 1).toNat : ℝ) : EReal) = 0
    simp

/-- A bit converted to a number. -/
theorem bit_number (x : BitVec 1) : (FloatOps.uitofp (F := Ideal) FTy.f32 x : EReal) = if x = 1#1 then 1 else 0 := by
  by_cases h : x = 1#1
  · subst h
    show (((1#1 : BitVec 1).toNat : ℝ) : EReal) = _
    simp
  · rw [bit_zero x h]
    show (((0#1 : BitVec 1).toNat : ℝ) : EReal) = _
    simp

/-- A sum of naturals as extended reals. -/
theorem coe_nat_sum {ι : Type} (s : Finset ι) (f : ι → ℕ) : (((∑ i ∈ s, f i : ℕ) : ℝ) : EReal) = ∑ i ∈ s, (((f i : ℕ) : ℝ) : EReal) := by
  classical
  induction s using Finset.induction_on with
  | empty => simp
  | insert i s hi ih => rw [Finset.sum_insert hi, Finset.sum_insert hi, ← ih]; push_cast; rfl

/-- Counting bits as integers and converting the count is summing ones. -/
theorem count_number {n : ℕ} (hn : n < 2 ^ 31) (f : Fin n → BitVec 1) :
    (FloatOps.sitofp (F := Ideal) FTy.f32 (Finset.fold IntOp.addi 0#32 (fun x => BitVec.setWidth 32 (f x)) Finset.univ) : EReal)
      = ∑ x : Fin n, if f x = 1#1 then 1 else 0 := by
  have hb : ∀ x : BitVec 1, (BitVec.setWidth 32 x).toNat = if x = 1#1 then 1 else 0 := by decide
  have hle : ∑ x : Fin n, (BitVec.setWidth 32 (f x)).toNat ≤ n := by
    calc _ ≤ ∑ x : Fin n, 1 := Finset.sum_le_sum fun x _ => by rw [hb]; split <;> omega
      _ = n := by simp
  have ht := StableHlo.Predicate.toNat_fold_addi Finset.univ (fun x => BitVec.setWidth 32 (f x)) (by omega)
  have hi : (Finset.fold IntOp.addi 0#32 (fun x => BitVec.setWidth 32 (f x)) Finset.univ).toInt
      = ((∑ x : Fin n, (BitVec.setWidth 32 (f x)).toNat : ℕ) : ℤ) := by
    rw [BitVec.toInt_eq_toNat_cond, ht, if_pos (by omega)]
  show (((Finset.fold IntOp.addi 0#32 (fun x => BitVec.setWidth 32 (f x)) Finset.univ).toInt : ℝ) : EReal) = _
  rw [hi, Int.cast_natCast, coe_nat_sum]
  refine Finset.sum_congr rfl fun x _ => ?_
  rw [hb]
  split <;> simp

end Cert.Focal

namespace Cert.ReferenceIdeal.Run

open Cert.ReferenceIdeal Cert.ReferenceIdeal.Gen Cert.Focal
open Idealize.ShloMosaic Idealize.ShloMosaic.TcCoe Idealize.ShloMosaic.Tactic Idealize.ShloMosaic.StableHlo

variable (b : Fin 4) (a : Fin 20000) (k : Fin 32) (c : Fin 80) (j : Fin 4)

/-! ## The overlaps -/

/-- The overlap of an anchor and a box. -/
theorem iou_read (A : Fin 4 → EReal) (B : Fin 5 → EReal) (x : Vec Ideal S20000x4 .f32) (y : Vec Ideal S4x32x4 .f32)
    (hx : ∀ j, (x (ix2 a j) : EReal) = A j) (hy : ∀ j, (y (ix3 b k j) : EReal) = B (Fin.castSucc j)) :
    f_v93 (F := Ideal) (f_v84 (f_v53 x y) (f_v54 x) y x) (f_v34 x) (f_v45 y) (ix3 b a k) = iou A B := by
  rw [v93_at, v84_at, v53_at, v54_at, v34_at, v45_at]
  simp only [hx, hy]
  rfl

/-! ## The classification loss -/

/-- The one-hot labels. -/
theorem v110_at (w : Vec Ideal S4x20000x5 .f32) : f_v110 (F := Ideal) w (ix3 b a c)
    = (if (Ideal.fptosi 32 (w (ix3 b a (4 : Fin 5))) : BitVec 32) = BitVec.ofNat 32 c.val then (1 : EReal) else 0) := by
  pointwise [f_v110]
  exact eq_number _ _
/-- The targets. -/
theorem v114_at (p q : Vec Ideal S4x20000 .i1) (w : Vec Ideal S4x20000x80 .f32) : f_v114 (F := Ideal) p w q (ix3 b a c)
    = Scalar.select (p (ix2 b a)) (w (ix3 b a c) : EReal) (Scalar.select (q (ix2 b a)) (0 : EReal) (cst 0xBF800000#32)) := by
  pointwise [f_v114, id]
/-- The number of matched anchors. -/
theorem v117_at (p : Vec Ideal S4x20000 .i1) : f_v117 (F := Ideal) p (ix1 b) = ∑ x : Fin 20000, if p (ix2 b x) = 1#1 then (1 : EReal) else 0 := by
  have h := count_number (by norm_num) (fun x : Fin 20000 => p (ix2 b x))
  pointwise [f_v117]
  exact h

/-- One and minus one are different, -/
theorem one_ne : (1 : EReal) ≠ cst 0xBF800000#32 := by
  rw [cst_neg_one, show (1 : EReal) = ((1 : ℝ) : EReal) from rfl]
  intro h
  have := EReal.coe_injective h
  norm_num at this
/-- so are zero and minus one. -/
theorem zero_ne : (0 : EReal) ≠ cst 0xBF800000#32 := by
  rw [cst_neg_one, show (0 : EReal) = ((0 : ℝ) : EReal) from rfl]
  intro h
  have := EReal.coe_injective h
  norm_num at this

/-- The loss of a class with target one, -/
theorem v143_one (x y : Vec Ideal S4x20000x80 .f32) (z : EReal) (hx : (x (ix3 b a c) : EReal) = clip z) (hy : (y (ix3 b a c) : EReal) = 1) :
    f_v143 (F := Ideal) y x (ix3 b a c) = posT (clip z) := by
  pointwise [f_v143, id]
  rw [hx, hy, if_pos one_ne, if_pos rfl, if_pos rfl]
  exact entropy_one z
/-- zero, -/
theorem v143_zero (x y : Vec Ideal S4x20000x80 .f32) (z : EReal) (hx : (x (ix3 b a c) : EReal) = clip z) (hy : (y (ix3 b a c) : EReal) = 0) :
    f_v143 (F := Ideal) y x (ix3 b a c) = negT (clip z) := by
  pointwise [f_v143, id]
  rw [hx, hy, if_pos zero_ne, if_neg zero_ne_one, if_neg zero_ne_one]
  exact entropy_zero z
/-- and minus one. -/
theorem v143_neg (x y : Vec Ideal S4x20000x80 .f32) (hy : (y (ix3 b a c) : EReal) = cst 0xBF800000#32) :
    f_v143 (F := Ideal) y x (ix3 b a c) = (0 : EReal) := by
  pointwise [f_v143, id]
  rw [hy]
  exact if_neg (fun h => h rfl)

/-- The classification loss of one anchor. -/
theorem cls_read (A : Fin 4 → EReal) (B : Fin 32 → Fin 5 → EReal) (X : Fin 80 → EReal) (p q : Vec Ideal S4x20000 .i1)
    (w : Vec Ideal S4x20000x5 .f32) (x : Vec Ideal S4x20000x80 .f32)
    (hp : p (ix2 b a) = 1#1 ↔ IsPos A B) (hq : q (ix2 b a) = 1#1 ↔ IsNeg A B)
    (hw : (w (ix3 b a (4 : Fin 5)) : EReal) = box A B 4) (hx : ∀ c, (x (ix3 b a c) : EReal) = clip (X c)) :
    ∑ c : Fin 80, (f_v143 (F := Ideal) (f_v114 p (f_v110 w) q) x (ix3 b a c) : EReal) = clsLoss A B X := by
  classical
  unfold clsLoss
  by_cases P : IsPos A B
  · rw [if_pos P]
    refine Finset.sum_congr rfl fun c _ => ?_
    have h114 : (f_v114 (F := Ideal) p (f_v110 w) q (ix3 b a c) : EReal) = if lab A B = BitVec.ofNat 32 c.val then (1 : EReal) else 0 := by
      rw [v114_at, hp.2 P, v110_at, hw]
      rfl
    by_cases L : lab A B = BitVec.ofNat 32 c.val
    · rw [if_pos L] at h114 ⊢
      exact v143_one b a c x _ (X c) (hx c) h114
    · rw [if_neg L] at h114 ⊢
      exact v143_zero b a c x _ (X c) (hx c) h114
  · have p0 : p (ix2 b a) = 0#1 := bit_zero _ fun h => P (hp.1 h)
    rw [if_neg P]
    by_cases N : IsNeg A B
    · rw [if_pos N]
      refine Finset.sum_congr rfl fun c _ => v143_zero b a c x _ (X c) (hx c) ?_
      rw [v114_at, p0, hq.2 N]
      rfl
    · have q0 : q (ix2 b a) = 0#1 := bit_zero _ fun h => N (hq.1 h)
      rw [if_neg N]
      refine Finset.sum_eq_zero fun c _ => v143_neg b a c x _ ?_
      rw [v114_at, p0, q0]
      rfl

/-! ## The regression loss -/

/-- The matched boxes' widths -/
theorem v148_at (w : Vec Ideal S4x20000x5 .f32) : f_v148 (F := Ideal) w (ix2 b a) = (w (ix3 b a (2 : Fin 5)) - w (ix3 b a (0 : Fin 5)) : EReal) := by
  pointwise [f_v148]
/-- and heights. -/
theorem v153_at (w : Vec Ideal S4x20000x5 .f32) : f_v153 (F := Ideal) w (ix2 b a) = (w (ix3 b a (3 : Fin 5)) - w (ix3 b a (1 : Fin 5)) : EReal) := by
  pointwise [f_v153]

section Targets

variable (w : Vec Ideal S4x20000x5 .f32) (gw gh : Vec Ideal S4x20000 .f32) (cx aw cy ah : Vec Ideal S20000 .f32)

/-- The four targets before scaling. -/
theorem v192_0 : f_v192 (F := Ideal) w gw cx aw gh cy ah (ix3 b a (0 : Fin 4))
    = Ideal.div ((w (ix3 b a (0 : Fin 5)) : EReal) + cst 0x3F000000#32 * gw (ix2 b a) - cx (ix1 a)) (aw (ix1 a)) := by
  pointwise [f_v192, fn_concat]
theorem v192_1 : f_v192 (F := Ideal) w gw cx aw gh cy ah (ix3 b a (1 : Fin 4))
    = Ideal.div ((w (ix3 b a (1 : Fin 5)) : EReal) + cst 0x3F000000#32 * gh (ix2 b a) - cy (ix1 a)) (ah (ix1 a)) := by
  pointwise [f_v192, fn_concat]
theorem v192_2 : f_v192 (F := Ideal) w gw cx aw gh cy ah (ix3 b a (2 : Fin 4)) = Ideal.log (Ideal.div (max (gw (ix2 b a) : EReal) 1) (aw (ix1 a))) := by
  pointwise [f_v192, fn_concat]
theorem v192_3 : f_v192 (F := Ideal) w gw cx aw gh cy ah (ix3 b a (3 : Fin 4)) = Ideal.log (Ideal.div (max (gh (ix2 b a) : EReal) 1) (ah (ix1 a))) := by
  pointwise [f_v192, fn_concat]

end Targets

/-- The smooth difference of a scaled target. -/
theorem v205_at (x y : Vec Ideal S4x20000x4 .f32) : f_v205 (F := Ideal) y x (ix3 b a j)
    = smooth (Ideal.div (y (ix3 b a j)) (cst (lit0 (S1x4.rowMajor (ix2 (0 : Fin 1) j))))) (x (ix3 b a j)) := by
  pointwise [f_v205]
  rfl
/-- The mask of the matched. -/
theorem v206_at (x : Vec Ideal S4x20000 .i1) : f_v206 (F := Ideal) x (ix3 b a (0 : Fin 1)) = x (ix2 b a) := by
  pointwise [f_v206]

/-- The four targets of an anchor. -/
theorem target_read (A : Fin 4 → EReal) (g : Fin 5 → EReal) (w : Vec Ideal S4x20000x5 .f32) (x : Vec Ideal S20000x4 .f32)
    (hw : ∀ i, (w (ix3 b a i) : EReal) = g i) (hx : ∀ i, (x (ix2 a i) : EReal) = A i) :
    Ideal.div (f_v192 (F := Ideal) w (f_v148 w) (f_v15 x (f_v5 x)) (f_v5 x) (f_v153 w) (f_v20 x (f_v10 x)) (f_v10 x) (ix3 b a j))
      (cst (lit0 (S1x4.rowMajor (ix2 (0 : Fin 1) j)))) = target A g j := by
  have hj : j = 0 ∨ j = 1 ∨ j = 2 ∨ j = 3 := by revert j; decide
  rcases hj with rfl | rfl | rfl | rfl
  · rw [v192_0, v148_at, v15_at, v5_at]
    simp only [hw, hx]
    rfl
  · rw [v192_1, v153_at, v20_at, v10_at]
    simp only [hw, hx]
    rfl
  · rw [v192_2, v148_at, v5_at]
    simp only [hw, hx]
    rfl
  · rw [v192_3, v153_at, v10_at]
    simp only [hw, hx]
    rfl

/-- The regression loss of one anchor. -/
theorem reg_read (A : Fin 4 → EReal) (B : Fin 32 → Fin 5 → EReal) (R : Fin 4 → EReal) (p : Vec Ideal S4x20000 .i1)
    (w : Vec Ideal S4x20000x5 .f32) (x : Vec Ideal S20000x4 .f32) (r : Vec Ideal S4x20000x4 .f32)
    (hp : p (ix2 b a) = 1#1 ↔ IsPos A B) (hw : ∀ i, (w (ix3 b a i) : EReal) = box A B i) (hx : ∀ i, (x (ix2 a i) : EReal) = A i)
    (hr : ∀ j, (r (ix3 b a j) : EReal) = R j) :
    ∑ j : Fin 4, ((f_v205 (F := Ideal) (f_v192 w (f_v148 w) (f_v15 x (f_v5 x)) (f_v5 x) (f_v153 w) (f_v20 x (f_v10 x)) (f_v10 x)) r (ix3 b a j) : EReal)
        * FloatOps.uitofp (F := Ideal) FTy.f32 (f_v206 (F := Ideal) p (ix3 b a (0 : Fin 1)))) = regLoss A B R := by
  classical
  unfold regLoss
  rw [v206_at, bit_number]
  by_cases P : IsPos A B
  · rw [if_pos P, if_pos (hp.2 P)]
    refine Finset.sum_congr rfl fun j _ => ?_
    rw [mul_one, v205_at, target_read b a j A (box A B) w x hw hx, hr]
  · rw [if_neg P, if_neg (fun h => P (hp.1 h))]
    exact Finset.sum_eq_zero fun j _ => mul_zero _

/-! ## The results -/

/-- The classification result, -/
theorem v223_at (x : Vec Ideal S4x20000x80 .f32) (n : Vec Ideal S4 .f32) : f_v223 (F := Ideal) x n (ix1 (0 : Fin 1))
    = Ideal.div (∑ b : Fin 4, Ideal.div (∑ a : Fin 20000, ∑ c : Fin 80, (x (ix3 b a c) : EReal)) (max (n (ix1 b) : EReal) 1)) (cst 0x40800000#32) := by
  pointwise [f_v223]
/-- and the regression result. -/
theorem v227_at (x : Vec Ideal S4x20000x4 .f32) (p : Vec Ideal S4x20000x1 .i1) (n : Vec Ideal S4 .f32) : f_v227 (F := Ideal) x p n (ix1 (0 : Fin 1))
    = Ideal.div (∑ b : Fin 4, Ideal.div (∑ a : Fin 20000, ∑ j : Fin 4, ((x (ix3 b a j) : EReal) * FloatOps.uitofp (F := Ideal) FTy.f32 (p (ix3 b a (0 : Fin 1)))))
        (max ((n (ix1 b) : EReal) * cst 0x40800000#32) 1)) (cst 0x40800000#32) := by
  pointwise [f_v227]

end Cert.ReferenceIdeal.Run
-- ==== Proof.Val.RefValue.lean ====
/- The reference's two results, from its arguments (hand-written). -/
module

public import proofs.«01_k».proof.Proof.Val.RefLoss

@[expose] public section

set_option maxRecDepth 16384

noncomputable section

namespace Cert.ReferenceIdeal.Run

open Cert.ReferenceIdeal Cert.ReferenceIdeal.Gen Cert.Focal
open Idealize.ShloMosaic Idealize.ShloMosaic.TcCoe Idealize.ShloMosaic.Tactic Idealize.ShloMosaic.StableHlo

variable (V : Valuation τ sig (Elt Ideal)) (b : Fin 4) (a : Fin 20000)

/-- The corners of an anchor. -/
def ancR (j : Fin 4) : EReal := (V (Proc.devRef .tc main_arg2) : Vec Ideal S1x20000x4 .f32) (ix3 (0 : Fin 1) a j)
/-- The boxes of a batch. -/
def boxR (k : Fin 32) (j : Fin 5) : EReal := (V (Proc.devRef .tc main_arg3) : Vec Ideal S4x32x5 .f32) (ix3 b k j)
/-- The probabilities of an anchor. -/
def clsR (c : Fin 80) : EReal := (V (Proc.devRef .tc main_arg0) : Vec Ideal S4x20000x80 .f32) (ix3 b a c)
/-- The offsets of an anchor. -/
def regR (j : Fin 4) : EReal := (V (Proc.devRef .tc main_arg1) : Vec Ideal S4x20000x4 .f32) (ix3 b a j)

/-- The anchors. -/
theorem R_v0_at (j : Fin 4) : (R_v0 V (ix2 a j) : EReal) = ancR V a j := v0_at a j _
/-- The boxes' corners. -/
theorem R_v22_at (k : Fin 32) (j : Fin 4) : (R_v22 V (ix3 b k j) : EReal) = boxR V b k (Fin.castSucc j) := v22_at b k j _
/-- The probabilities. -/
theorem R_v21_at (c : Fin 80) : (R_v21 V (ix3 b a c) : EReal) = clip (clsR V b a c) := v21_at b a c _
/-- The overlaps. -/
theorem R_v93_at (k : Fin 32) : (R_v93 V (ix3 b a k) : EReal) = iou (ancR V a) (boxR V b k) :=
  iou_read b a k (ancR V a) (boxR V b k) (R_v0 V) (R_v22 V) (R_v0_at V a) (R_v22_at V b k)
/-- The largest overlap. -/
theorem R_v94_at : (R_v94 V (ix2 b a) : EReal) = top (ancR V a) (boxR V b) := by
  refine (v94_at b a (R_v93 V)).trans ?_
  simp only [R_v93_at]
  rfl
/-- The matched, -/
theorem R_v97_at : R_v97 V (ix2 b a) = 1#1 ↔ IsPos (ancR V a) (boxR V b) := by
  rw [show R_v97 V (ix2 b a) = _ from v97_at b a (R_v94 V), R_v94_at]
  exact ofBool_one _
/-- the background, -/
theorem R_v99_at : R_v99 V (ix2 b a) = 1#1 ↔ IsNeg (ancR V a) (boxR V b) := by
  rw [show R_v99 V (ix2 b a) = _ from v99_at b a (R_v94 V), R_v94_at]
  exact ofBool_one _
/-- and the matched boxes. -/
theorem R_v106_at (j : Fin 5) : (R_v106 V (ix3 b a j) : EReal) = box (ancR V a) (boxR V b) j :=
  v106_at (V (Proc.devRef .tc main_arg3)) (R_v95 V) b a (best (ancR V a) (boxR V b))
    (v95_at (R_v93 V) b a (ancR V a) (boxR V b) (R_v93_at V b a)) j

/-- The classification loss of an anchor, -/
theorem R_v143_sum : ∑ c : Fin 80, (R_v143 V (ix3 b a c) : EReal) = clsLoss (ancR V a) (boxR V b) (clsR V b a) :=
  cls_read b a (ancR V a) (boxR V b) (clsR V b a) (R_v97 V) (R_v99 V) (R_v106 V) (R_v21 V) (R_v97_at V b a) (R_v99_at V b a)
    (R_v106_at V b a 4) (R_v21_at V b a)
/-- the regression loss, -/
theorem R_v205_sum : ∑ j : Fin 4, ((R_v205 V (ix3 b a j) : EReal) * FloatOps.uitofp (F := Ideal) FTy.f32 (R_v206 V (ix3 b a (0 : Fin 1))))
    = regLoss (ancR V a) (boxR V b) (regR V b a) :=
  reg_read b a (ancR V a) (boxR V b) (regR V b a) (R_v97 V) (R_v106 V) (R_v0 V) (V (Proc.devRef .tc main_arg1)) (R_v97_at V b a)
    (R_v106_at V b a) (R_v0_at V a) (fun _ => rfl)
/-- and the number of matched anchors. -/
theorem R_v117_at : (R_v117 V (ix1 b) : EReal) = ∑ a : Fin 20000, posOne (ancR V a) (boxR V b) := by
  classical
  refine (v117_at b (R_v97 V)).trans (Finset.sum_congr rfl fun a _ => ?_)
  unfold posOne
  by_cases P : IsPos (ancR V a) (boxR V b)
  · rw [if_pos P, if_pos ((R_v97_at V b a).2 P)]
  · rw [if_neg P, if_neg fun h => P ((R_v97_at V b a).1 h)]

/-- The classification result. -/
theorem R_v223_eq : (R_v223 V : S1.Idx → EReal) = fun _ => clsMean (fun b a => clsLoss (ancR V a) (boxR V b) (clsR V b a)) (fun b a => posOne (ancR V a) (boxR V b)) := by
  funext i
  idx_vars i
  obtain rfl : i0 = (0 : Fin 1) := Subsingleton.elim _ _
  exact (v223_at (R_v143 V) (R_v117 V)).trans (clsMean_of _ _ _ _ (fun b a => R_v143_sum V b a) (fun b => R_v117_at V b))
/-- The regression result. -/
theorem R_v227_eq : (R_v227 V : S1.Idx → EReal) = fun _ => regMean (fun b a => regLoss (ancR V a) (boxR V b) (regR V b a)) (fun b a => posOne (ancR V a) (boxR V b)) := by
  funext i
  idx_vars i
  obtain rfl : i0 = (0 : Fin 1) := Subsingleton.elim _ _
  exact (v227_at (R_v205 V) (R_v206 V) (R_v117 V)).trans (regMean_of _ _ _ _ (fun b a => R_v205_sum V b a) (fun b => R_v117_at V b))

end Cert.ReferenceIdeal.Run
-- ==== Proof.Val.Pre.lean ====
/- The precondition's side conditions, and what it says of the arguments (hand-written). -/
module

public import proofs.«01_k».proof.Pre_anchors_wide_labels_known
public import proofs.«01_k».proof.Proof.Val.Num
public import Idealize.ShloMosaic.Lib.Pointwise

@[expose] public section

set_option maxRecDepth 16384

noncomputable section

namespace Cert.Pre_anchors_wide_labels_known.Read

open Cert.Pre_anchors_wide_labels_known Cert.Focal
open Idealize.ShloMosaic Idealize.ShloMosaic.TcCoe Idealize.ShloMosaic.Tactic

/-- The side conditions hold. -/
theorem facts : Cert.Pre_anchors_wide_labels_known.Facts where
  slices_S1x20000x4_S1x20000x1_0_0_2 := by decide
  shapeCasts_S1x20000x1_S20000 := by decide
  slices_S1x20000x4_S1x20000x1_0_0_0 := by decide
  slices_S1x20000x4_S1x20000x1_0_0_3 := by decide
  slices_S1x20000x4_S1x20000x1_0_0_1 := by decide
  bcast_S_S20000 := by decide
  slices_S4x32x5_S4x32x1_0_0_4 := by decide
  shapeCasts_S4x32x1_S4x32 := by decide
  bcast_S_S4x32 := by decide
  bcast_S4x32_S4x32x1_0_1 := by decide
  bcast_S20000_S1x1x20000_2 := by decide
  bcast_S4x32x1_S4x32x20000_0_1_2 := by decide
  bcast_S1x1x20000_S4x32x20000_0_1_2 := by decide

attribute [local instance] facts

/-- The precondition at an image, a box and an anchor. -/
theorem fn_at (a0 : FVec Ideal S4x20000x80 .f32) (a1 : FVec Ideal S4x20000x4 .f32) (a2 : FVec Ideal S1x20000x4 .f32) (a3 : FVec Ideal S4x32x5 .f32)
    (b : Fin 4) (k : Fin 32) (a : Fin 20000) :
    fn (F := Ideal) a0 a1 a2 a3 (ix3 b k a)
      = IntOp.andi (IntOp.andi (IntOp.cmpi CmpIPredicate.sge (Ideal.fptosi 32 (a3 (ix3 b k (4 : Fin 5)))) 0#32) (IntOp.cmpi CmpIPredicate.slt (Ideal.fptosi 32 (a3 (ix3 b k (4 : Fin 5)))) 80#32))
        (IntOp.andi (BitVec.ofBool (decide (cst 0x3A83126F#32 ≤ (a2 (ix3 (0 : Fin 1) a (2 : Fin 4)) : EReal) - a2 (ix3 (0 : Fin 1) a (0 : Fin 4)))))
          (BitVec.ofBool (decide (cst 0x3A83126F#32 ≤ (a2 (ix3 (0 : Fin 1) a (3 : Fin 4)) : EReal) - a2 (ix3 (0 : Fin 1) a (1 : Fin 4)))))) := by
  pointwise [fn, fn_part1]
  rfl

/-- A conjunction of bits. -/
theorem and_one (x y : BitVec 1) : IntOp.andi x y = 1#1 → x = 1#1 ∧ y = 1#1 := by
  revert x y; decide

/-- A decided bit. -/
theorem of_bit (p : Prop) [Decidable p] (h : BitVec.ofBool (decide p) = 1#1) : p := by
  by_contra c
  simp [c] at h

/-- A word from zero to below eighty is a class's. -/
theorem label_known (w : BitVec 32) (h0 : IntOp.cmpi CmpIPredicate.sge w 0#32 = 1#1) (h1 : IntOp.cmpi CmpIPredicate.slt w 80#32 = 1#1) :
    ∃ c : Fin 80, w = BitVec.ofNat 32 c.val := by
  have e0 : (0#32 : BitVec 32).sle w = true := by
    have h : BitVec.ofBool ((0#32 : BitVec 32).sle w) = 1#1 := h0
    cases hb : (0#32 : BitVec 32).sle w
    · rw [hb] at h; exact absurd h (by decide)
    · rfl
  have e1 : w.slt 80#32 = true := by
    have h : BitVec.ofBool (w.slt 80#32) = 1#1 := h1
    cases hb : w.slt 80#32
    · rw [hb] at h; exact absurd h (by decide)
    · rfl
  rw [BitVec.sle_eq_decide, decide_eq_true_eq] at e0
  rw [BitVec.slt_eq_decide, decide_eq_true_eq] at e1
  have z0 : (0#32 : BitVec 32).toInt = 0 := by decide
  have z1 : (80#32 : BitVec 32).toInt = 80 := by decide
  rw [z0] at e0
  rw [z1] at e1
  rw [BitVec.toInt_eq_toNat_cond] at e0 e1
  have hw := w.isLt
  have hlt : w.toNat < 80 := by
    split at e0 <;> omega
  exact ⟨⟨w.toNat, hlt⟩, by simp⟩

variable (a0 : FVec Ideal S4x20000x80 .f32) (a1 : FVec Ideal S4x20000x4 .f32) (a2 : FVec Ideal S1x20000x4 .f32) (a3 : FVec Ideal S4x32x5 .f32)

/-- Under the precondition every label is a class's, -/
theorem labels (h : fn (F := Ideal) a0 a1 a2 a3 = fun _ => 1#1) (b : Fin 4) (k : Fin 32) :
    ∃ c : Fin 80, (Ideal.fptosi 32 (a3 (ix3 b k (4 : Fin 5))) : BitVec 32) = BitVec.ofNat 32 c.val := by
  have e := congrFun h (ix3 b k (0 : Fin 20000))
  rw [fn_at] at e
  obtain ⟨x, y⟩ := and_one _ _ (and_one _ _ e).1
  exact label_known _ x y

/-- and every anchor's sides are at least the least length. -/
theorem widths (h : fn (F := Ideal) a0 a1 a2 a3 = fun _ => 1#1) (a : Fin 20000) :
    cst 0x3A83126F#32 ≤ (a2 (ix3 (0 : Fin 1) a (2 : Fin 4)) : EReal) - a2 (ix3 (0 : Fin 1) a (0 : Fin 4))
      ∧ cst 0x3A83126F#32 ≤ (a2 (ix3 (0 : Fin 1) a (3 : Fin 4)) : EReal) - a2 (ix3 (0 : Fin 1) a (1 : Fin 4)) := by
  have e := congrFun h (ix3 (0 : Fin 4) (0 : Fin 32) a)
  rw [fn_at] at e
  obtain ⟨x, y⟩ := and_one _ _ (and_one _ _ e).2
  exact ⟨of_bit _ x, of_bit _ y⟩

end Cert.Pre_anchors_wide_labels_known.Read
-- ==== Proof.Val.Equation.lean ====
/- The value equation: under the precondition both programs leave the losses of the batch (hand-written). -/
module

public import proofs.«01_k».proof.Defs
public import proofs.«01_k».proof.Proof.Val.KernelValue
public import proofs.«01_k».proof.Proof.Val.RefValue
public import proofs.«01_k».proof.Proof.Val.Pre

@[expose] public section

noncomputable section

namespace Cert.Focal

open Idealize.ShloMosaic Idealize.ShloMosaic.TcCoe Idealize.SL.Sem Idealize.ShloMosaic.StableHlo

/-- The kernel's two results equal the reference's, on the same arguments. -/
theorem equation : @Cert.algebraic_KernelIdeal_ReferenceIdeal_pre_anchors_wide_labels_known Cert.KernelIdeal.Gen.facts Cert.ReferenceIdeal.Gen.facts
    Cert.Pre_anchors_wide_labels_known.Read.facts := by
  intro m g m' g' hpre hargs
  have hlab : ∀ c b k, ∃ l : Fin 80, (Ideal.fptosi 32 (Cert.KernelIdeal.Run.boxK m c b k 4) : BitVec 32) = BitVec.ofNat 32 l.val :=
    fun c b k => Cert.Pre_anchors_wide_labels_known.Read.labels _ _ _ _ (hpre c) b k
  have hw := fun c a => Cert.Pre_anchors_wide_labels_known.Read.widths _ _ _ _ (hpre c) a
  have eA : ∀ (c : Dev Cert.KernelIdeal.nD) a, Cert.ReferenceIdeal.Run.ancR (launchContents m' c) a = Cert.KernelIdeal.Run.ancK m c a :=
    fun c a => funext fun j => congrFun (hargs c).2.2.1 (ix3 (0 : Fin 1) a j)
  have eB : ∀ (c : Dev Cert.KernelIdeal.nD) b, Cert.ReferenceIdeal.Run.boxR (launchContents m' c) b = Cert.KernelIdeal.Run.boxK m c b :=
    fun c b => funext fun k => funext fun j => congrFun (hargs c).2.2.2 (ix3 b k j)
  have eX : ∀ (c : Dev Cert.KernelIdeal.nD) b a, Cert.ReferenceIdeal.Run.clsR (launchContents m' c) b a = Cert.KernelIdeal.Run.clsK m c b a :=
    fun c b a => funext fun k => congrFun (hargs c).1 (ix3 b a k)
  have eR : ∀ (c : Dev Cert.KernelIdeal.nD) b a, Cert.ReferenceIdeal.Run.regR (launchContents m' c) b a = Cert.KernelIdeal.Run.regK m c b a :=
    fun c b a => funext fun j => congrFun (hargs c).2.1 (ix3 b a j)
  refine ⟨_, _, Cert.KernelIdeal.Run.run_value m g hlab hw, (θ_run _ _ _).mono (fun r h c => ?_) (Cert.ReferenceIdeal.Run.run m' g')⟩
  obtain ⟨h0, h1, hrest⟩ := h.1 c
  refine ⟨h0.trans ((Cert.ReferenceIdeal.Run.R_v223_eq (launchContents m' c)).trans ?_), h1.trans ((Cert.ReferenceIdeal.Run.R_v227_eq (launchContents m' c)).trans ?_), hrest⟩
  · simp only [eA, eB, eX]
  · simp only [eA, eB, eR]

end Cert.Focal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run.KernelFrame
public import proofs.«01_k».proof.Proof.Run.KernelIdealFrame
public import proofs.«01_k».proof.Proof.Run.ReferenceRun
public import proofs.«01_k».proof.Proof.Val.Equation
public import Idealize.ShloMosaic.Adequacy
public import Idealize.ShloMosaic.Init

@[expose] public section

noncomputable section

namespace Cert.Proof

open Idealize.ShloMosaic Idealize.SL.Sem Cert.Kernel

/-- The frames and the idealization, each from its program's run, and the value equation. -/
theorem claim : Cert.Claim := ⟨Cert.Kernel.Gen.facts, Cert.KernelIdeal.Gen.facts, Cert.ReferenceIdeal.Gen.facts,
  Cert.Pre_anchors_wide_labels_known.Read.facts,
  fun m g _ => Cert.Kernel.Run.frame m g, fun m g _ => Cert.KernelIdeal.Run.frame m g, fun m g _ => Cert.KernelIdeal.Run.frame m g,
  fun m g _ => (θ_run _ _ _).mono (fun _ h => ⟨fun c => (h.1 c).2.2, h.2⟩) (Cert.ReferenceIdeal.Run.run m g),
  fun m g _ => (θ_run _ _ _).mono (fun _ h => ⟨fun c => (h.1 c).2.2, h.2⟩) (Cert.ReferenceIdeal.Run.run m g), trivial, Cert.Focal.equation⟩

end Cert.Proof

end
